-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gelu [hPre_finite_gelu : Cert.Pre_finite_gelu.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gelu.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gelu [hPre_finite_gelu : Cert.Pre_finite_gelu.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gelu.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_norm [hPre_finite_norm : Cert.Pre_finite_norm.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_norm [hPre_finite_norm : Cert.Pre_finite_norm.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_gated [hPre_finite_gated : Cert.Pre_finite_gated.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_gated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_gated [hPre_finite_gated : Cert.Pre_finite_gated.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_gated.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_loss [hPre_finite_loss : Cert.Pre_finite_loss.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_loss [hPre_finite_loss : Cert.Pre_finite_loss.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_sg [hPre_finite_sg : Cert.Pre_finite_sg.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_sg.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_sg [hPre_finite_sg : Cert.Pre_finite_sg.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_sg.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_gated_chunks [hPre_finite_gated_chunks : Cert.Pre_finite_gated_chunks.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_gated_chunks.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_gated_chunks [hPre_finite_gated_chunks : Cert.Pre_finite_gated_chunks.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_gated_chunks.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_gelu [hKernel3Ideal : Cert.Kernel3Ideal.Facts] [hPre_finite_gelu : Cert.Pre_finite_gelu.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gelu m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_gelu [hReference3Ideal : Cert.Reference3Ideal.Facts] [hPre_finite_gelu : Cert.Pre_finite_gelu.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gelu m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_norm [hKernel5Ideal : Cert.Kernel5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_norm m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_norm [hReference5Ideal : Cert.Reference5Ideal.Facts] [hPre_finite_norm : Cert.Pre_finite_norm.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_norm m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_gated [hKernel6Ideal : Cert.Kernel6Ideal.Facts] [hPre_finite_gated : Cert.Pre_finite_gated.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_gated m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_gated [hReference6Ideal : Cert.Reference6Ideal.Facts] [hPre_finite_gated : Cert.Pre_finite_gated.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_gated m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite_loss [hKernel7Ideal : Cert.Kernel7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_loss m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite_loss [hReference7Ideal : Cert.Reference7Ideal.Facts] [hPre_finite_loss : Cert.Pre_finite_loss.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_loss m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_sg [hKernel8Ideal : Cert.Kernel8Ideal.Facts] [hPre_finite_sg : Cert.Pre_finite_sg.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_sg m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_sg [hReference8Ideal : Cert.Reference8Ideal.Facts] [hPre_finite_sg : Cert.Pre_finite_sg.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_sg m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Kernel18Ideal_pre_finite_gated_chunks [hKernel18Ideal : Cert.Kernel18Ideal.Facts] [hPre_finite_gated_chunks : Cert.Pre_finite_gated_chunks.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_gated_chunks m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Reference18Ideal_pre_finite_gated_chunks [hReference18Ideal : Cert.Reference18Ideal.Facts] [hPre_finite_gated_chunks : Cert.Pre_finite_gated_chunks.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_gated_chunks m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "cubic" .f32 0x3D372713#32 ((8943 / 200000 : ℝ) : EReal)
  ∧ IdealRules.named_const.Statement Cert.Kernel3Ideal.κ "cubic_3" .f32 0x3E095D4F#32 ((26829 / 200000 : ℝ) : EReal)

def algebraic_Kernel3Ideal_Reference3Ideal_pre_finite_gelu [hKernel3Ideal : Cert.Kernel3Ideal.Facts] [hReference3Ideal : Cert.Reference3Ideal.Facts] [hPre_finite_gelu : Cert.Pre_finite_gelu.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gelu m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_norm [hKernel5Ideal : Cert.Kernel5Ideal.Facts] [hReference5Ideal : Cert.Reference5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_norm m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_gated [hKernel6Ideal : Cert.Kernel6Ideal.Facts] [hReference6Ideal : Cert.Reference6Ideal.Facts] [hPre_finite_gated : Cert.Pre_finite_gated.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_gated m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_v55) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite_loss [hKernel7Ideal : Cert.Kernel7Ideal.Facts] [hReference7Ideal : Cert.Reference7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_loss m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v56) = v0 c
          ∧ r.2.mem ((c.tc : Thread Cert.Reference7Ideal.nD Cert.Reference7Ideal.τ).loc Cert.Reference7Ideal.main_v62) = v1 c
          ∧ r.2.mem ((c.tc : Thread Cert.Reference7Ideal.nD Cert.Reference7Ideal.τ).loc Cert.Reference7Ideal.main_v65) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite_sg [hKernel8Ideal : Cert.Kernel8Ideal.Facts] [hReference8Ideal : Cert.Reference8Ideal.Facts] [hPre_finite_sg : Cert.Pre_finite_sg.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_sg m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v65) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_v39) = v2 c
          ∧ r.2.mem ((c.tc : Thread Cert.Reference8Ideal.nD Cert.Reference8Ideal.τ).loc Cert.Reference8Ideal.main_v67) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_v25) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v3) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def preserves_Kernel18_Kernel18Ideal : Prop :=
  True

def algebraic_Kernel18Ideal_Reference18Ideal_pre_finite_gated_chunks [hKernel18Ideal : Cert.Kernel18Ideal.Facts] [hReference18Ideal : Cert.Reference18Ideal.Facts] [hPre_finite_gated_chunks : Cert.Pre_finite_gated_chunks.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_gated_chunks m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v53) = v0 c
          ∧ r.2.mem ((c.tc : Thread Cert.Reference18Ideal.nD Cert.Reference18Ideal.τ).loc Cert.Reference18Ideal.main_v60) = v1 c
          ∧ r.2.mem ((c.tc : Thread Cert.Reference18Ideal.nD Cert.Reference18Ideal.τ).loc Cert.Reference18Ideal.main_v62) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v10) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  IdealRules.named_const.Statement Cert.Kernel22Ideal.κ "scale1" .f32 0x3FC48605#32 ((10000000000 / 6513215599 : ℝ) : EReal)
  ∧ IdealRules.named_const.Statement Cert.Kernel22Ideal.κ "scale2" .f32 0x42C8E6D3#32 ((1000000000000000000000000000000 / 9955119790251790119955009999 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13_0) = v0 c
          ∧ r.2.mem ((c.tc : Thread Cert.Reference22Ideal.nD Cert.Reference22Ideal.τ).loc Cert.Reference22Ideal.main_v13_1) = v1 c
          ∧ r.2.mem ((c.tc : Thread Cert.Reference22Ideal.nD Cert.Reference22Ideal.τ).loc Cert.Reference22Ideal.main_v13_2) = v2 c
          ∧ r.2.mem ((c.tc : Thread Cert.Reference22Ideal.nD Cert.Reference22Ideal.τ).loc Cert.Reference22Ideal.main_v13_3) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite_gelu : Cert.Pre_finite_gelu.Facts) (hPre_finite_norm : Cert.Pre_finite_norm.Facts) (hPre_finite_gated : Cert.Pre_finite_gated.Facts) (hPre_finite_loss : Cert.Pre_finite_loss.Facts) (hPre_finite_sg : Cert.Pre_finite_sg.Facts) (hPre_finite_gated_chunks : Cert.Pre_finite_gated_chunks.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gelu (hKernel3Ideal := hKernel3Ideal) (hPre_finite_gelu := hPre_finite_gelu)
    ∧ quiescent_Reference3Ideal (hReference3Ideal := hReference3Ideal)
    ∧ quiescent_Reference3Ideal_pre_finite_gelu (hReference3Ideal := hReference3Ideal) (hPre_finite_gelu := hPre_finite_gelu)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_norm (hKernel5Ideal := hKernel5Ideal) (hPre_finite_norm := hPre_finite_norm)
    ∧ quiescent_Reference5Ideal (hReference5Ideal := hReference5Ideal)
    ∧ quiescent_Reference5Ideal_pre_finite_norm (hReference5Ideal := hReference5Ideal) (hPre_finite_norm := hPre_finite_norm)
    ∧ quiescent_Kernel6 (hKernel6 := hKernel6)
    ∧ quiescent_Kernel6Ideal (hKernel6Ideal := hKernel6Ideal)
    ∧ quiescent_Kernel6Ideal_pre_finite_gated (hKernel6Ideal := hKernel6Ideal) (hPre_finite_gated := hPre_finite_gated)
    ∧ quiescent_Reference6Ideal (hReference6Ideal := hReference6Ideal)
    ∧ quiescent_Reference6Ideal_pre_finite_gated (hReference6Ideal := hReference6Ideal) (hPre_finite_gated := hPre_finite_gated)
    ∧ quiescent_Kernel7 (hKernel7 := hKernel7)
    ∧ quiescent_Kernel7Ideal (hKernel7Ideal := hKernel7Ideal)
    ∧ quiescent_Kernel7Ideal_pre_finite_loss (hKernel7Ideal := hKernel7Ideal) (hPre_finite_loss := hPre_finite_loss)
    ∧ quiescent_Reference7Ideal (hReference7Ideal := hReference7Ideal)
    ∧ quiescent_Reference7Ideal_pre_finite_loss (hReference7Ideal := hReference7Ideal) (hPre_finite_loss := hPre_finite_loss)
    ∧ quiescent_Kernel8 (hKernel8 := hKernel8)
    ∧ quiescent_Kernel8Ideal (hKernel8Ideal := hKernel8Ideal)
    ∧ quiescent_Kernel8Ideal_pre_finite_sg (hKernel8Ideal := hKernel8Ideal) (hPre_finite_sg := hPre_finite_sg)
    ∧ quiescent_Reference8Ideal (hReference8Ideal := hReference8Ideal)
    ∧ quiescent_Reference8Ideal_pre_finite_sg (hReference8Ideal := hReference8Ideal) (hPre_finite_sg := hPre_finite_sg)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel18 (hKernel18 := hKernel18)
    ∧ quiescent_Kernel18Ideal (hKernel18Ideal := hKernel18Ideal)
    ∧ quiescent_Kernel18Ideal_pre_finite_gated_chunks (hKernel18Ideal := hKernel18Ideal) (hPre_finite_gated_chunks := hPre_finite_gated_chunks)
    ∧ quiescent_Reference18Ideal (hReference18Ideal := hReference18Ideal)
    ∧ quiescent_Reference18Ideal_pre_finite_gated_chunks (hReference18Ideal := hReference18Ideal) (hPre_finite_gated_chunks := hPre_finite_gated_chunks)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gelu (hKernel3Ideal := hKernel3Ideal) (hReference3Ideal := hReference3Ideal) (hPre_finite_gelu := hPre_finite_gelu)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_norm (hKernel5Ideal := hKernel5Ideal) (hReference5Ideal := hReference5Ideal) (hPre_finite_norm := hPre_finite_norm)
    ∧ preserves_Kernel6_Kernel6Ideal
    ∧ algebraic_Kernel6Ideal_Reference6Ideal_pre_finite_gated (hKernel6Ideal := hKernel6Ideal) (hReference6Ideal := hReference6Ideal) (hPre_finite_gated := hPre_finite_gated)
    ∧ preserves_Kernel7_Kernel7Ideal
    ∧ algebraic_Kernel7Ideal_Reference7Ideal_pre_finite_loss (hKernel7Ideal := hKernel7Ideal) (hReference7Ideal := hReference7Ideal) (hPre_finite_loss := hPre_finite_loss)
    ∧ preserves_Kernel8_Kernel8Ideal
    ∧ algebraic_Kernel8Ideal_Reference8Ideal_pre_finite_sg (hKernel8Ideal := hKernel8Ideal) (hReference8Ideal := hReference8Ideal) (hPre_finite_sg := hPre_finite_sg)
    ∧ preserves_Kernel9_Kernel9Ideal
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ preserves_Kernel18_Kernel18Ideal
    ∧ algebraic_Kernel18Ideal_Reference18Ideal_pre_finite_gated_chunks (hKernel18Ideal := hKernel18Ideal) (hReference18Ideal := hReference18Ideal) (hPre_finite_gated_chunks := hPre_finite_gated_chunks)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite_gated.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg5 : FVec F S1x1024 .f32) (main_arg7 : FVec F S1024x4096 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x4096 .bf16 := Host.absf main_arg7
  let main_cst_8 : FVec F S_ .bf16 := constant S_ .bf16 0x7F80#16
  let main_v25 : FVec F S1024x4096 .bf16 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S4096x4096 .bf16) (main_arg1 : FVec F S4096x1024 .f32) (main_arg2 : FVec F S4096x1024 .f32) (main_arg3 : FVec F S4096x1024 .bf16) (main_arg4 : FVec F S1x1024 .f32) (main_arg5 : FVec F S1x1024 .f32) (main_arg6 : FVec F S1x1024 .f32) (main_arg7 : FVec F S1024x4096 .bf16) : IVec S_ 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg7 main_v13 main_v16
-- ==== Pre_finite_gated_chunks.lean ====
abbrev S3x4096x1024 : Shape := ⟨3, ![3, 4096, 1024]⟩
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩

class Facts : Prop where
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_arg5 : FVec F S1x1024 .f32) (main_arg7 : FVec F S1024x3072 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x3072 .bf16 := Host.absf main_arg7
  let main_cst_8 : FVec F S_ .bf16 := constant S_ .bf16 0x7F80#16
  let main_v25 : FVec F S1024x3072 .bf16 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  main_v28

def fn {F : FTy → Type} [FloatOps F] (main_arg0 : FVec F S3x4096x1024 .bf16) (main_arg1 : FVec F S4096x1024 .f32) (main_arg2 : FVec F S4096x1024 .f32) (main_arg3 : FVec F S4096x1024 .bf16) (main_arg4 : FVec F S1x1024 .f32) (main_arg5 : FVec F S1x1024 .f32) (main_arg6 : FVec F S1x1024 .f32) (main_arg7 : FVec F S1024x3072 .bf16) : IVec S_ 1 :=
  let main_v0 : FVec F S3x4096x1024 .bf16 := Host.absf main_arg0
  let main_cst : FVec F S_ .bf16 := constant S_ .bf16 0x7F80#16
  let main_v1 : FVec F S3x4096x1024 .bf16 := broadcastInDim S3x4096x1024 ![] bcast_S_S3x4096x1024 main_cst
  let main_v2 : IVec S3x4096x1024 1 := cmpf .olt main_v0 main_v1
  let main_c : IVec S_ 1 := constantI S_ 1 1#1
  let main_v3 : IVec S_ 1 := (fun x v => Host.reduce IntOp.andi x v reducesTo_S3x4096x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg7 main_v13 main_v16
-- ==== Pre_finite_gelu.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .bf16) (main_arg1 : FVec F S4096x1024 .f32) (main_arg2 : FVec F S4096x1024 .f32) (main_arg3 : FVec F S1024x1024 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .bf16 := Host.absf main_arg3
  let main_cst_4 : FVec F S_ .bf16 := constant S_ .bf16 0x7F80#16
  let main_v15 : FVec F S1024x1024 .bf16 := broadcastInDim S1024x1024 ![] bcast_S_S1024x1024 main_cst_4
  let main_v16 : IVec S1024x1024 1 := cmpf .olt main_v14 main_v15
  fn_part1 (F := F) main_v13 main_v16
-- ==== Pre_finite_loss.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_arg5 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S4096x4096 .bf16) (main_arg1 : FVec F S4096x1024 .bf16) (main_arg2 : FVec F S4096x1024 .f32) (main_arg3 : FVec F S1x1024 .f32) (main_arg4 : FVec F S4096x1024 .f32) (main_arg5 : FVec F S1x1024 .f32) : IVec S_ 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite_norm.lean ====
abbrev S3x4096x1024 : Shape := ⟨3, ![3, 4096, 1024]⟩
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩

class Facts : Prop where
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  main_v18

def fn {F : FTy → Type} [FloatOps F] (main_arg0 : FVec F S3x4096x1024 .bf16) (main_arg1 : FVec F S4096x1024 .f32) (main_arg2 : FVec F S4096x1024 .f32) (main_arg3 : FVec F S1x1024 .f32) (main_arg4 : FVec F S1x1024 .f32) (main_arg5 : FVec F S1024x3072 .bf16) : IVec S_ 1 :=
  let main_v0 : FVec F S3x4096x1024 .bf16 := Host.absf main_arg0
  let main_cst : FVec F S_ .bf16 := constant S_ .bf16 0x7F80#16
  let main_v1 : FVec F S3x4096x1024 .bf16 := broadcastInDim S3x4096x1024 ![] bcast_S_S3x4096x1024 main_cst
  let main_v2 : IVec S3x4096x1024 1 := cmpf .olt main_v0 main_v1
  let main_c : IVec S_ 1 := constantI S_ 1 1#1
  let main_v3 : IVec S_ 1 := (fun x v => Host.reduce IntOp.andi x v reducesTo_S3x4096x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x3072 .bf16 := Host.absf main_arg5
  let main_cst_4 : FVec F S_ .bf16 := constant S_ .bf16 0x7F80#16
  let main_v15 : FVec F S1024x3072 .bf16 := broadcastInDim S1024x3072 ![] bcast_S_S1024x3072 main_cst_4
  let main_v16 : IVec S1024x3072 1 := cmpf .olt main_v14 main_v15
  fn_part1 (F := F) main_v13 main_v16
-- ==== Pre_finite_sg.lean ====
abbrev S4096x1024 : Shape := ⟨2, ![4096, 1024]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part1 {F : FTy → Type} [FloatOps F] (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  main_v18

def fn {F : FTy → Type} [FloatOps F] (main_arg0 : FVec F S4096x1024 .f32) (main_arg1 : FVec F S4096x2048 .f32) (main_arg2 : FVec F S1x1024 .f32) (main_arg3 : FVec F S8x128x128 .f32) (main_arg4 : FVec F S8x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_v13 main_v16
-- ==== Kernel.lean ====
abbrev S4096x1024 : Shape := ⟨2, ![4096, 1024]⟩
abbrev S4096x3072 : Shape := ⟨2, ![4096, 3072]⟩
abbrev S3x1024 : Shape := ⟨2, ![3, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S3x4096x1024 : Shape := ⟨3, ![3, 4096, 1024]⟩
abbrev S4096x128 : Shape := ⟨2, ![4096, 128]⟩
abbrev S8x128 : Shape := ⟨2, ![8, 128]⟩
abbrev S3x4096x128 : Shape := ⟨3, ![3, 4096, 128]⟩
abbrev S1x128 : Shape := ⟨2, ![1, 128]⟩
abbrev S1x4096x128 : Shape := ⟨3, ![1, 4096, 128]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S1x1024, .f32⟩
  | .hbm, ⟨4, _⟩ => ⟨S4x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S3x4096x1024, .bf16⟩
  | .hbm, ⟨9, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | .local _ .vmem, ⟨10, _⟩ => ⟨S3x4096x128, .bf16⟩
  | .local _ .vmem, ⟨11, _⟩ => ⟨S3x4096x128, .bf16⟩
  | .local _ .vmem, ⟨12, _⟩ => ⟨S8x128, .f32⟩
  | .local _ .vmem, ⟨13, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S1x1024 : Shape := ⟨2, ![1, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S1x4096x1024 : Shape := ⟨3, ![1, 4096, 1024]⟩
abbrev S3x4096x1024 : Shape := ⟨3, ![3, 4096, 1024]⟩
abbrev S4x1024 : Shape := ⟨2, ![4, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S1x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S4098x1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S4098x1024, .f32⟩
  | .hbm, ⟨66, _⟩ => ⟨S4098x1024, .f32⟩
  | .hbm, ⟨67, _⟩ => ⟨S1x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S4098x1024, .f32⟩
  | .hbm, ⟨81, _⟩ => ⟨S4098x1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S2x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x3072, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S1x4096x1024, .f32⟩
  | .hbm, ⟨95, _⟩ => ⟨S1x4096x1024, .f32⟩
  | .hbm, ⟨96, _⟩ => ⟨S1x4096x1024, .f32⟩
  | .hbm, ⟨97, _⟩ => ⟨S3x4096x1024, .f32⟩
  | .hbm, ⟨98, _⟩ => ⟨S3x4096x1024, .bf16⟩
  | .hbm, ⟨99, _⟩ => ⟨S_, .f32⟩
  | .hbm, ⟨100, _⟩ => ⟨S4x1024, .f32⟩
  | .hbm, ⟨101, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference2Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S7x1024, .f32⟩
  | .hbm, ⟨34, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel3Ideal.lean ====
variable {F : FTy → Type} [FloatOps F] [Named F]
def κ : String → Option EReal := fun
  | "cubic" => some ((8943 / 200000 : ℝ) : EReal)
  | "cubic_3" => some ((26829 / 200000 : ℝ) : EReal)
  | _ => none
-- ==== Reference3Ideal.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S4096x1024, .bf16⟩
  | .local _ .vmem, ⟨1, _⟩ => ⟨S4096x1024, .f32⟩
  | .local _ .vmem, ⟨2, _⟩ => ⟨S4096x1024, .f32⟩
  | .local _ .vmem, ⟨3, _⟩ => ⟨S1024x1024, .bf16⟩
  | .local _ .vmem, ⟨4, _⟩ => ⟨S4096x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "cubic" => some ((8943 / 200000 : ℝ) : EReal)
  | _ => none

abbrev grid0 : Pipeline.Grid := .none

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel4.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel5.lean ====
abbrev S3x4096x1024 : Shape := ⟨3, ![3, 4096, 1024]⟩
abbrev S4096x1024 : Shape := ⟨2, ![4096, 1024]⟩
abbrev S1x1024 : Shape := ⟨2, ![1, 1024]⟩
abbrev S1024x3072 : Shape := ⟨2, ![1024, 3072]⟩
abbrev S8x1024 : Shape := ⟨2, ![8, 1024]⟩
abbrev S3x512x1024 : Shape := ⟨3, ![3, 512, 1024]⟩
abbrev S512x1024 : Shape := ⟨2, ![512, 1024]⟩
abbrev S1x512x1024 : Shape := ⟨3, ![1, 512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x3072, .bf16⟩
  | .hbm, ⟨6, _⟩ => ⟨S4096x1024, .f32⟩
  | .hbm, ⟨7, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference5Ideal.lean ====
abbrev S3x4096x1024 : Shape := ⟨3, ![3, 4096, 1024]⟩
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x4096x1024 : Shape := ⟨3, ![1, 4096, 1024]⟩
abbrev S1024 : Shape := ⟨1, ![1024]⟩
abbrev S6x1024 : Shape := ⟨2, ![6, 1024]⟩
abbrev S8x1024 : Shape := ⟨2, ![8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x3072, .bf16⟩
  | .hbm, ⟨6, _⟩ => ⟨S1024x3072, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x3072, .f32⟩
  | .hbm, ⟨29, _⟩ => ⟨S1x4096x1024, .bf16⟩
  | .hbm, ⟨30, _⟩ => ⟨S4096x1024, .bf16⟩
  | .hbm, ⟨31, _⟩ => ⟨S1x4096x1024, .bf16⟩
  | .hbm, ⟨32, _⟩ => ⟨S4096x1024, .bf16⟩
  | .hbm, ⟨33, _⟩ => ⟨S1x4096x1024, .bf16⟩
  | .hbm, ⟨34, _⟩ => ⟨S4096x1024, .bf16⟩
  | .hbm, ⟨35, _⟩ => ⟨S4096x3072, .bf16⟩
  | .hbm, ⟨36, _⟩ => ⟨S4096x3072, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S6x1024, .f32⟩
  | .hbm, ⟨67, _⟩ => ⟨S8x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference6Ideal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .bf16⟩
  | .hbm, ⟨72, _⟩ => ⟨S_, .f32⟩
  | .hbm, ⟨73, _⟩ => ⟨S5x1024, .f32⟩
  | .hbm, ⟨74, _⟩ => ⟨S8x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S_, .bf16⟩
  | .hbm, ⟨7, _⟩ => ⟨S4096x4096, .bf16⟩
  | .hbm, ⟨8, _⟩ => ⟨S4096x4096, .bf16⟩
  | .hbm, ⟨9, _⟩ => ⟨S4096x1024, .f32⟩
  | .hbm, ⟨10, _⟩ => ⟨S4096x1024, .bf16⟩
  | .hbm, ⟨11, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference7Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4096x1024, .bf16⟩
  | .hbm, ⟨88, _⟩ => ⟨S1x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S8x1024 : Shape := ⟨2, ![8, 1024]⟩
abbrev S512x1024 : Shape := ⟨2, ![512, 1024]⟩
abbrev S512x2048 : Shape := ⟨2, ![512, 2048]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 31
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128x128, .f32⟩
  | .hbm, ⟨24, _⟩ => ⟨S8x128x128, .bf16⟩
  | .hbm, ⟨25, _⟩ => ⟨S8x128x1, .f32⟩
  | .hbm, ⟨26, _⟩ => ⟨S8x128x128, .f32⟩
  | .hbm, ⟨27, _⟩ => ⟨S4096x2048, .bf16⟩
  | .hbm, ⟨28, _⟩ => ⟨S8x128x128, .f32⟩
  | .hbm, ⟨29, _⟩ => ⟨S8x128x128, .f32⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S8x128x128, .bf16⟩
  | .local _ .vmem, ⟨6, _⟩ => ⟨S8x128x128, .bf16⟩
  | .local _ .vmem, ⟨7, _⟩ => ⟨S8x128x128, .f32⟩
  | .local _ .vmem, ⟨8, _⟩ => ⟨S512x2048, .bf16⟩
  | .local _ .vmem, ⟨9, _⟩ => ⟨S512x2048, .bf16⟩
  | .local _ .vmem, ⟨10, _⟩ => ⟨S8x128x128, .f32⟩
  | .local _ .vmem, ⟨11, _⟩ => ⟨S8x128x128, .f32⟩
  | .local _ .vmem, ⟨12, _⟩ => ⟨S8x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4096x1024 : Shape := ⟨2, ![4096, 1024]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S4096 : Shape := ⟨1, ![4096]⟩
abbrev S4096x1 : Shape := ⟨2, ![4096, 1]⟩
abbrev S32x128x8x128 : Shape := ⟨4, ![32, 128, 8, 128]⟩
abbrev S8x32x128x128 : Shape := ⟨4, ![8, 32, 128, 128]⟩
abbrev S128x8x128 : Shape := ⟨3, ![128, 8, 128]⟩
abbrev S1x128x8x128 : Shape := ⟨4, ![1, 128, 8, 128]⟩
abbrev S1024 : Shape := ⟨1, ![1024]⟩
abbrev S7x1024 : Shape := ⟨2, ![7, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S8x128x128, .f32⟩
  | .hbm, ⟨19, _⟩ => ⟨S8x128x128, .i1⟩
  | .hbm, ⟨20, _⟩ => ⟨S8x128x128, .f32⟩
  | .hbm, ⟨21, _⟩ => ⟨S8x128x1, .f32⟩
  | .hbm, ⟨22, _⟩ => ⟨S8x128x128, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S32x128x8x128, .f32⟩
  | .hbm, ⟨45, _⟩ => ⟨S8x32x128x128, .f32⟩
  | .hbm, ⟨46, _⟩ => ⟨S32x128x8x128, .f32⟩
  | .hbm, ⟨47, _⟩ => ⟨S128x8x128, .f32⟩
  | .hbm, ⟨48, _⟩ => ⟨S1x128x8x128, .f32⟩
  | .hbm, ⟨49, _⟩ => ⟨S32x128x8x128, .f32⟩
  | .hbm, ⟨50, _⟩ => ⟨S32x128x8x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S32x128x8x128, .f32⟩
  | .hbm, ⟨56, _⟩ => ⟨S_, .f32⟩
  | .hbm, ⟨57, _⟩ => ⟨S128x8x128, .f32⟩
  | .hbm, ⟨58, _⟩ => ⟨S1x128x8x128, .f32⟩
  | .hbm, ⟨59, _⟩ => ⟨S_, .f32⟩
  | .hbm, ⟨60, _⟩ => ⟨S128x8x128, .f32⟩
  | .hbm, ⟨61, _⟩ => ⟨S8x128x128, .f32⟩
  | .hbm, ⟨62, _⟩ => ⟨S8x32x128x128, .f32⟩
  | .hbm, ⟨63, _⟩ => ⟨S8x128x128, .f32⟩
  | .hbm, ⟨64, _⟩ => ⟨S8x32x128x128, .f32⟩
  | .hbm, ⟨65, _⟩ => ⟨S32x128x8x128, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x2048, .f32⟩
  | .hbm, ⟨91, _⟩ => ⟨S4096x2048, .bf16⟩
  | .hbm, ⟨92, _⟩ => ⟨S_, .f32⟩
  | .hbm, ⟨93, _⟩ => ⟨S7x1024, .f32⟩
  | .hbm, ⟨94, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel9.lean ====
abbrev S4096x1024 : Shape := ⟨2, ![4096, 1024]⟩
abbrev S4096x4096 : Shape := ⟨2, ![4096, 4096]⟩
abbrev S8x128x512 : Shape := ⟨3, ![8, 128, 512]⟩
abbrev S8x512x128 : Shape := ⟨3, ![8, 512, 128]⟩
abbrev S10x8x4096 : Shape := ⟨3, ![10, 8, 4096]⟩
abbrev S2x64x4096 : Shape := ⟨3, ![2, 64, 4096]⟩
abbrev S1x1024 : Shape := ⟨2, ![1, 1024]⟩
abbrev S8x4096 : Shape := ⟨2, ![8, 4096]⟩
abbrev S8x1024 : Shape := ⟨2, ![8, 1024]⟩
abbrev S512x128 : Shape := ⟨2, ![512, 128]⟩
abbrev S512x512 : Shape := ⟨2, ![512, 512]⟩
abbrev S1x128x512 : Shape := ⟨3, ![1, 128, 512]⟩
abbrev S1x512x128 : Shape := ⟨3, ![1, 512, 128]⟩
abbrev S10x8x512 : Shape := ⟨3, ![10, 8, 512]⟩
abbrev S2x64x512 : Shape := ⟨3, ![2, 64, 512]⟩
abbrev S1x128 : Shape := ⟨2, ![1, 128]⟩
abbrev S8x512 : Shape := ⟨2, ![8, 512]⟩
abbrev S8x128 : Shape := ⟨2, ![8, 128]⟩
abbrev S2x8x512 : Shape := ⟨3, ![2, 8, 512]⟩
abbrev S128x512 : Shape := ⟨2, ![128, 512]⟩
abbrev S1x8x512 : Shape := ⟨3, ![1, 8, 512]⟩
abbrev S1x512 : Shape := ⟨2, ![1, 512]⟩
abbrev S1x1x512 : Shape := ⟨3, ![1, 1, 512]⟩
abbrev S128 : Shape := ⟨1, ![128]⟩
abbrev S512 : Shape := ⟨1, ![512]⟩

abbrev nBuf : Space → Nat
  | .hbm => 18
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S8x128x512, .bf16⟩
  | .hbm, ⟨5, _⟩ => ⟨S8x128x512, .bf16⟩
  | .hbm, ⟨6, _⟩ => ⟨S8x512x128, .bf16⟩
  | .hbm, ⟨7, _⟩ => ⟨S8x512x128, .bf16⟩
  | .hbm, ⟨8, _⟩ => ⟨S10x8x4096, .f32⟩
  | .hbm, ⟨9, _⟩ => ⟨S2x64x4096, .f32⟩
  | .hbm, ⟨10, _⟩ => ⟨S1x1024, .f32⟩
  | .hbm, ⟨11, _⟩ => ⟨S4096x1024, .bf16⟩
  | .hbm, ⟨12, _⟩ => ⟨S8x128x512, .f32⟩
  | .hbm, ⟨13, _⟩ => ⟨S8x128x512, .f32⟩
  | .hbm, ⟨14, _⟩ => ⟨S8x512x128, .f32⟩
  | .hbm, ⟨15, _⟩ => ⟨S8x512x128, .f32⟩
  | .hbm, ⟨16, _⟩ => ⟨S8x4096, .f32⟩
  | .hbm, ⟨17, _⟩ => ⟨S8x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S10x8x512, .f32⟩
  | .local _ .vmem, ⟨17, _⟩ => ⟨S10x8x512, .f32⟩
  | .local _ .vmem, ⟨18, _⟩ => ⟨S2x64x512, .f32⟩
  | .local _ .vmem, ⟨19, _⟩ => ⟨S2x64x512, .f32⟩
  | .local _ .vmem, ⟨20, _⟩ => ⟨S1x128, .f32⟩
  | .local _ .vmem, ⟨21, _⟩ => ⟨S1x128, .f32⟩
  | .local _ .vmem, ⟨22, _⟩ => ⟨S512x128, .bf16⟩
  | .local _ .vmem, ⟨23, _⟩ => ⟨S512x128, .bf16⟩
  | .local _ .vmem, ⟨24, _⟩ => ⟨S1x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x512x128, .f32⟩
  | .local _ .vmem, ⟨29, _⟩ => ⟨S1x512x128, .f32⟩
  | .local _ .vmem, ⟨30, _⟩ => ⟨S1x512x128, .f32⟩
  | .local _ .vmem, ⟨31, _⟩ => ⟨S1x512x128, .f32⟩
  | .local _ .vmem, ⟨32, _⟩ => ⟨S8x512, .f32⟩
  | .local _ .vmem, ⟨33, _⟩ => ⟨S8x512, .f32⟩
  | .local _ .vmem, ⟨34, _⟩ => ⟨S8x128, .f32⟩
  | .local _ .vmem, ⟨35, _⟩ => ⟨S8x128, .f32⟩
  | .local _ .vmem, ⟨36, _⟩ => ⟨S512x512, .f32⟩
  | .local _ .vmem, ⟨37, _⟩ => ⟨S512x512, .f32⟩
  | .local _ .vmem, ⟨38, _⟩ => ⟨S2x8x512, .f32⟩
  | .local _ .vmem, ⟨39, _⟩ => ⟨S2x8x512, .f32⟩
  | .local _ .vmem, ⟨40, _⟩ => ⟨S512x128, .f32⟩
  | .local _ .vmem, ⟨41, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32_2401 : BitVec 32 := 7#32
  let v4146 : BitVec 1 := Scalar.cmpi .eq arg1 c7_i32_2401
  let v4147 : BitVec 32 := Scalar.extui v4146
  let c0_i32_2402 : BitVec 32 := 0#32
  let v4148 : BitVec 1 := Scalar.cmpi .ne v4147 c0_i32_2402
  v4148

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S10x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Kernel10.lean ====
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S4096x1024 : Shape := ⟨2, ![4096, 1024]⟩
abbrev S512x2048 : Shape := ⟨2, ![512, 2048]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 25
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S_, .f32⟩
  | .hbm, ⟨18, _⟩ => ⟨S8x128x128, .i1⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S8x128x1, .f32⟩
  | .hbm, ⟨23, _⟩ => ⟨S8x128x128, .f32⟩
  | .hbm, ⟨24, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S8x128x128, .bf16⟩
  | .local _ .vmem, ⟨4, _⟩ => ⟨S8x128x128, .f32⟩
  | .local _ .vmem, ⟨5, _⟩ => ⟨S512x1024, .bf16⟩
  | .local _ .vmem, ⟨6, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S32x128x8x128, .f32⟩
  | .hbm, ⟨22, _⟩ => ⟨S_, .i1⟩
  | .hbm, ⟨23, _⟩ => ⟨S128x128, .i1⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S_, .i1⟩
  | .hbm, ⟨31, _⟩ => ⟨S128x128, .i1⟩
  | .hbm, ⟨32, _⟩ => ⟨S128x128, .i1⟩
  | .hbm, ⟨33, _⟩ => ⟨S1x128x128, .i1⟩
  | .hbm, ⟨34, _⟩ => ⟨S_, .f32⟩
  | .hbm, ⟨35, _⟩ => ⟨S8x128x128, .f32⟩
  | .hbm, ⟨36, _⟩ => ⟨S8x128x128, .i1⟩
  | .hbm, ⟨37, _⟩ => ⟨S8x128x128, .f32⟩
  | .hbm, ⟨38, _⟩ => ⟨S8x32x128x128, .f32⟩
  | .hbm, ⟨39, _⟩ => ⟨S32x128x8x128, .f32⟩
  | .hbm, ⟨40, _⟩ => ⟨S128x8, .f32⟩
  | .hbm, ⟨41, _⟩ => ⟨S128x8x1, .f32⟩
  | .hbm, ⟨42, _⟩ => ⟨S1x128x8x1, .f32⟩
  | .hbm, ⟨43, _⟩ => ⟨S32x128x8x128, .f32⟩
  | .hbm, ⟨44, _⟩ => ⟨S32x128x8x128, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel11.lean ====
abbrev S4096x3072 : Shape := ⟨2, ![4096, 3072]⟩
abbrev S3x1024 : Shape := ⟨2, ![3, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S4096x1024 : Shape := ⟨2, ![4096, 1024]⟩
abbrev S4096x128 : Shape := ⟨2, ![4096, 128]⟩
abbrev S8x128 : Shape := ⟨2, ![8, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1x1024, .f32⟩
  | .hbm, ⟨3, _⟩ => ⟨S4x1024, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S8x128, .f32⟩
  | .local _ .vmem, ⟨7, _⟩ => ⟨S8x128, .f32⟩
  | .local _ .vmem, ⟨8, _⟩ => ⟨S4096x128, .bf16⟩
  | .local _ .vmem, ⟨9, _⟩ => ⟨S4096x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4096x3072 : Shape := ⟨2, ![4096, 3072]⟩
abbrev S3x1024 : Shape := ⟨2, ![3, 1024]⟩
abbrev S1x1024 : Shape := ⟨2, ![1, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4096x1024, .f32⟩
  | .hbm, ⟨10, _⟩ => ⟨S4098x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel14.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference14Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel16.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel17.lean ====
abbrev S4096x1024 : Shape := ⟨2, ![4096, 1024]⟩
abbrev S8x128x512 : Shape := ⟨3, ![8, 128, 512]⟩
abbrev S8x512x128 : Shape := ⟨3, ![8, 512, 128]⟩
abbrev S10x8x4096 : Shape := ⟨3, ![10, 8, 4096]⟩
abbrev S2x64x4096 : Shape := ⟨3, ![2, 64, 4096]⟩
abbrev S1x1024 : Shape := ⟨2, ![1, 1024]⟩
abbrev S4096x4096 : Shape := ⟨2, ![4096, 4096]⟩
abbrev S512x128 : Shape := ⟨2, ![512, 128]⟩
abbrev S1x128x512 : Shape := ⟨3, ![1, 128, 512]⟩
abbrev S1x512x128 : Shape := ⟨3, ![1, 512, 128]⟩
abbrev S10x8x512 : Shape := ⟨3, ![10, 8, 512]⟩
abbrev S2x64x512 : Shape := ⟨3, ![2, 64, 512]⟩
abbrev S1x128 : Shape := ⟨2, ![1, 128]⟩
abbrev S512x512 : Shape := ⟨2, ![512, 512]⟩
abbrev S2x8x512 : Shape := ⟨3, ![2, 8, 512]⟩
abbrev S8x128 : Shape := ⟨2, ![8, 128]⟩
abbrev S128x512 : Shape := ⟨2, ![128, 512]⟩
abbrev S1x8x512 : Shape := ⟨3, ![1, 8, 512]⟩
abbrev S8x512 : Shape := ⟨2, ![8, 512]⟩
abbrev S1x512 : Shape := ⟨2, ![1, 512]⟩
abbrev S1x1x512 : Shape := ⟨3, ![1, 1, 512]⟩

abbrev nBuf : Space → Nat
  | .hbm => 12
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S8x128x512, .bf16⟩
  | .hbm, ⟨2, _⟩ => ⟨S8x128x512, .bf16⟩
  | .hbm, ⟨3, _⟩ => ⟨S8x512x128, .bf16⟩
  | .hbm, ⟨4, _⟩ => ⟨S8x512x128, .bf16⟩
  | .hbm, ⟨5, _⟩ => ⟨S10x8x4096, .f32⟩
  | .hbm, ⟨6, _⟩ => ⟨S2x64x4096, .f32⟩
  | .hbm, ⟨7, _⟩ => ⟨S1x1024, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S10x8x512, .f32⟩
  | .local _ .vmem, ⟨11, _⟩ => ⟨S10x8x512, .f32⟩
  | .local _ .vmem, ⟨12, _⟩ => ⟨S2x64x512, .f32⟩
  | .local _ .vmem, ⟨13, _⟩ => ⟨S2x64x512, .f32⟩
  | .local _ .vmem, ⟨14, _⟩ => ⟨S1x128, .f32⟩
  | .local _ .vmem, ⟨15, _⟩ => ⟨S1x128, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S2x8x512, .f32⟩
  | .local _ .vmem, ⟨25, _⟩ => ⟨S512x128, .f32⟩
  | .local _ .vmem, ⟨26, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S10x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel18.lean ====
abbrev S3x4096x1024 : Shape := ⟨3, ![3, 4096, 1024]⟩
abbrev S4096x1024 : Shape := ⟨2, ![4096, 1024]⟩
abbrev S1x1024 : Shape := ⟨2, ![1, 1024]⟩
abbrev S1024x3072 : Shape := ⟨2, ![1024, 3072]⟩
abbrev S8x1024 : Shape := ⟨2, ![8, 1024]⟩
abbrev S3x512x1024 : Shape := ⟨3, ![3, 512, 1024]⟩
abbrev S512x1024 : Shape := ⟨2, ![512, 1024]⟩
abbrev S1x512x1024 : Shape := ⟨3, ![1, 512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3072, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference18Ideal.lean ====
abbrev S3x4096x1024 : Shape := ⟨3, ![3, 4096, 1024]⟩
abbrev S4096x1024 : Shape := ⟨2, ![4096, 1024]⟩
abbrev S1x1024 : Shape := ⟨2, ![1, 1024]⟩
abbrev S1024x3072 : Shape := ⟨2, ![1024, 3072]⟩
abbrev S1x4096x1024 : Shape := ⟨3, ![1, 4096, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3072, .bf16⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S4096x3072, .bf16⟩
  | .hbm, ⟨15, _⟩ => ⟨S4096x1024, .f32⟩
  | .hbm, ⟨16, _⟩ => ⟨S1024x3072, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x3072, .f32⟩
  | .hbm, ⟨42, _⟩ => ⟨S4096x3072, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | .hbm, ⟨79, _⟩ => ⟨S_, .f32⟩
  | .hbm, ⟨80, _⟩ => ⟨S5x1024, .f32⟩
  | .hbm, ⟨81, _⟩ => ⟨S8x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel19.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096x256 : Shape := ⟨2, ![4096, 256]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x1024, .f32⟩
  | .hbm, ⟨14, _⟩ => ⟨S1024x4096, .f32⟩
  | .hbm, ⟨15, _⟩ => ⟨S4096x1024, .f32⟩
  | .hbm, ⟨16, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel22.lean ====
abbrev S4x1024x512 : Shape := ⟨3, ![4, 1024, 512]⟩
abbrev S8x1024x512 : Shape := ⟨3, ![8, 1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S8x1024x512, .bf16⟩
  | .hbm, ⟨4, _⟩ => ⟨S8x1024x512, .bf16⟩
  | .hbm, ⟨5, _⟩ => ⟨S8x1024x512, .bf16⟩
  | .hbm, ⟨6, _⟩ => ⟨S8x1024x512, .bf16⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S8x256x512, .bf16⟩
  | .local _ .vmem, ⟨11, _⟩ => ⟨S8x256x512, .bf16⟩
  | .local _ .vmem, ⟨12, _⟩ => ⟨S8x256x512, .bf16⟩
  | .local _ .vmem, ⟨13, _⟩ => ⟨S8x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel22Ideal.lean ====
variable {F : FTy → Type} [FloatOps F] [Named F]
def κ : String → Option EReal := fun
  | "scale1" => some ((10000000000 / 6513215599 : ℝ) : EReal)
  | "scale2" => some ((1000000000000000000000000000000 / 9955119790251790119955009999 : ℝ) : EReal)
  | _ => none
-- ==== Reference22Ideal.lean ====
abbrev S4x1024x512 : Shape := ⟨3, ![4, 1024, 512]⟩
abbrev S8x1024x512 : Shape := ⟨3, ![8, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 28
  | .vmem => 8
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S8x1024x512, .bf16⟩
  | .hbm, ⟨4, _⟩ => ⟨S8x1024x512, .bf16⟩
  | .hbm, ⟨5, _⟩ => ⟨S8x1024x512, .bf16⟩
  | .hbm, ⟨6, _⟩ => ⟨S8x1024x512, .bf16⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S4x1024x512, .f32⟩
  | .hbm, ⟨27, _⟩ => ⟨S4x1024x512, .f32⟩
  | .local _ .vmem, ⟨0, _⟩ => ⟨S4x1024x512, .f32⟩
  | .local _ .vmem, ⟨1, _⟩ => ⟨S4x1024x512, .f32⟩
  | .local _ .vmem, ⟨2, _⟩ => ⟨S4x1024x512, .f32⟩
  | .local _ .vmem, ⟨3, _⟩ => ⟨S4x1024x512, .f32⟩
  | .local _ .vmem, ⟨4, _⟩ => ⟨S4x1024x512, .f32⟩
  | .local _ .vmem, ⟨5, _⟩ => ⟨S4x1024x512, .f32⟩
  | .local _ .vmem, ⟨6, _⟩ => ⟨S4x1024x512, .f32⟩
  | .local _ .vmem, ⟨7, _⟩ => ⟨S4x1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "left1" => some ((6513215599 / 10000000000 : ℝ) : EReal)
  | "left2" => some ((9955119790251790119955009999 / 1000000000000000000000000000000 : ℝ) : EReal)
  | _ => none

abbrev grid0 : Pipeline.Grid := .none

abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Common.lean ====
/- Facts that the value proofs share: reading a list of stored rows or slabs at an index, and the comparisons of a row
   number with a constant. -/
module

public import Idealize.ShloMosaic.Lib.Pipeline.ValueKit
public import Idealize.ShloMosaic.Lib.Pointwise
public import Idealize.ShloMosaic.Lib.WordCmp
public import Idealize.ShloMosaic.Lib.WritesUnit
public import Idealize.ShloMosaic.Lib.VecWindow

@[expose] public section

noncomputable section

namespace Cert.Common

open Idealize Idealize.ShloMosaic

variable {Val : EltTy → Type} {e : EltTy} [∀ e, Nonempty (Val e)]

/-- A stored row, read back: the row itself where it is the row asked for, what was stored before otherwise. -/
theorem canon_row {K n : ℕ} (a : ℕ)
    (inb : ∀ x, (![a, 0] : Fin 2 → ℕ) x + (⟨2, ![1, n]⟩ : Shape).size x ≤ (⟨2, ![K, n]⟩ : Shape).size x)
    (w : (⟨2, ![1, n]⟩ : Shape).Idx → Val e) (L : List (View.Piece Val (⟨2, ![K, n]⟩ : Shape) e)) (r : Fin K) (l : Fin n) :
    View.canon (⟨Rect.unit (s := (⟨2, ![K, n]⟩ : Shape)) ![a, 0] (⟨2, ![1, n]⟩ : Shape).size inb, w⟩ :: L) (ix2 r l) =
      if r.val = a then w (ix2 0 l) else View.canon L (ix2 r l) := by
  split_ifs with h
  · have hr : (ix2 r l : (⟨2, ![K, n]⟩ : Shape).Idx) =
        (Rect.unit (s := (⟨2, ![K, n]⟩ : Shape)) ![a, 0] (⟨2, ![1, n]⟩ : Shape).size inb).emb (ix2 (0 : Fin 1) l) := by
      funext x
      apply Fin.ext
      fin_cases x
      · simp [Rect.unit, Rect.emb, h]
      · simp [Rect.unit, Rect.emb]
    rw [hr, View.canon_cons_emb]
  · refine View.canon_cons_of_not_mem _ L fun hm => h ?_
    have := (Rect.mem_set_unit (inb := inb).mp hm) 0
    simp at this
    omega

/-- A stored slab, read back. -/
theorem canon_slab {K M n : ℕ} (a : ℕ)
    (inb : ∀ x, (![a, 0, 0] : Fin 3 → ℕ) x + (⟨3, ![1, M, n]⟩ : Shape).size x ≤ (⟨3, ![K, M, n]⟩ : Shape).size x)
    (w : (⟨3, ![1, M, n]⟩ : Shape).Idx → Val e) (L : List (View.Piece Val (⟨3, ![K, M, n]⟩ : Shape) e))
    (k : Fin K) (r : Fin M) (l : Fin n) :
    View.canon (⟨Rect.unit (s := (⟨3, ![K, M, n]⟩ : Shape)) ![a, 0, 0] (⟨3, ![1, M, n]⟩ : Shape).size inb, w⟩ :: L) (ix3 k r l) =
      if k.val = a then w (ix3 0 r l) else View.canon L (ix3 k r l) := by
  split_ifs with h
  · have hr : (ix3 k r l : (⟨3, ![K, M, n]⟩ : Shape).Idx) =
        (Rect.unit (s := (⟨3, ![K, M, n]⟩ : Shape)) ![a, 0, 0] (⟨3, ![1, M, n]⟩ : Shape).size inb).emb (ix3 (0 : Fin 1) r l) := by
      funext x
      apply Fin.ext
      fin_cases x
      · simp [Rect.unit, Rect.emb, h]
      · simp [Rect.unit, Rect.emb]
      · simp [Rect.unit, Rect.emb]
    rw [hr, View.canon_cons_emb]
  · refine View.canon_cons_of_not_mem _ L fun hm => h ?_
    have := (Rect.mem_set_unit (inb := inb).mp hm) 0
    simp at this
    omega

/-- A row of a block, loaded. -/
theorem ld_row {K n : ℕ} (a : ℕ) (ha : a < K)
    (inb : ∀ x, (![a, 0] : Fin 2 → ℕ) x + (⟨2, ![1, n]⟩ : Shape).size x ≤ (⟨2, ![K, n]⟩ : Shape).size x)
    (X : (⟨2, ![K, n]⟩ : Shape).Idx → Val e) (l : Fin n) :
    View.ld X (Rect.unit (s := (⟨2, ![K, n]⟩ : Shape)) ![a, 0] (⟨2, ![1, n]⟩ : Shape).size inb) (ix2 0 l) = X (ix2 ⟨a, ha⟩ l) := by
  have hr : (ix2 ⟨a, ha⟩ l : (⟨2, ![K, n]⟩ : Shape).Idx) =
      (Rect.unit (s := (⟨2, ![K, n]⟩ : Shape)) ![a, 0] (⟨2, ![1, n]⟩ : Shape).size inb).emb (ix2 (0 : Fin 1) l) := by
    funext x
    apply Fin.ext
    fin_cases x
    · simp [Rect.unit, Rect.emb]
    · simp [Rect.unit, Rect.emb]
  rw [hr]
  rfl

/-- A whole buffer stored, read back. -/
theorem canon_whole {S : Shape} {off : Fin S.rank → ℕ} (h : off = fun _ => 0) (inb : ∀ x, off x + S.size x ≤ S.size x)
    (w : S.Idx → Val e) (L : List (View.Piece Val S e)) :
    View.canon (⟨Rect.unit (s := S) off S.size inb, w⟩ :: L) = w := by
  subst h
  exact View.canon_cons_unit_lit inb w L fun _ => rfl

section
variable {sig : RefSig} {κ : Kind} {sp : Space}

/-- A buffer's contents after a row was stored: the row itself where it is the row asked for, what was there before
    otherwise. -/
theorem read_row {K n : ℕ} (v : View sig κ sp (⟨2, ![K, n]⟩ : Shape) e) (f : v.ty.Contents Val) (a : ℕ)
    (inb : ∀ x, (![a, 0] : Fin 2 → ℕ) x + (⟨2, ![1, n]⟩ : Shape).size x ≤ (⟨2, ![K, n]⟩ : Shape).size x)
    (w : (⟨2, ![1, n]⟩ : Shape).Idx → Val e) (L : List (View.Piece Val (⟨2, ![K, n]⟩ : Shape) e)) (r : Fin K) (l : Fin n) :
    v.read Val (v.writes Val f (⟨Rect.unit (s := (⟨2, ![K, n]⟩ : Shape)) ![a, 0] (⟨2, ![1, n]⟩ : Shape).size inb, w⟩ :: L)) (ix2 r l) =
      if r.val = a then w (ix2 0 l) else v.read Val (v.writes Val f L) (ix2 r l) := by
  split_ifs with h
  · exact View.read_writes_cons_rows_of_mem v f inb w L (ix2 r l) (ix2 (0 : Fin 1) l) rfl (by simp [h]) rfl
  · exact View.read_writes_cons_rows_of_not_mem v f (W := 1) inb w L (ix2 r l) rfl rfl (by show r.val < a ∨ a + 1 ≤ r.val; omega)

/-- A row of a buffer, loaded after some stores. -/
theorem readCov_row {K n : ℕ} (v : View sig κ sp (⟨2, ![K, n]⟩ : Shape) e) (L : List (View.Piece Val (⟨2, ![K, n]⟩ : Shape) e))
    (a : ℕ) (ha : a < K)
    (inb : ∀ x, (![a, 0] : Fin 2 → ℕ) x + (⟨2, ![1, n]⟩ : Shape).size x ≤ (⟨2, ![K, n]⟩ : Shape).size x) (l : Fin n) :
    v.readCov L (Rect.unit (s := (⟨2, ![K, n]⟩ : Shape)) ![a, 0] (⟨2, ![1, n]⟩ : Shape).size inb).toLoadRect (ix2 0 l) =
      v.read Val (v.writes Val v.junk L) (ix2 ⟨a, ha⟩ l) := by
  unfold View.readCov
  rw [View.readAt_eq_ld, ld_row a ha]

end

/-- A sum over `n = a + b` rows: the first `a`, then the other `b`. -/
theorem sum_split {n : ℕ} (a b : ℕ) (h : n = a + b) (f : Fin n → EReal) :
    ∑ x, f x = (∑ x : Fin a, f ⟨x.val, by omega⟩) + ∑ x : Fin b, f ⟨a + x.val, by omega⟩ := by
  subst h
  exact Fin.sum_univ_add f

/-- A selection by "the row number is at least `k`". -/
theorem select_sge {α : Type} (r k : ℕ) (hr : r < 65536) (hk : k < 65536) (a b : α) :
    Scalar.select (IntOp.cmpi .sge (BitVec.ofNat 32 r) (BitVec.ofNat 32 k)) a b = if k ≤ r then a else b := by
  rw [WordCmp.cmpi_sge_ofNat (by omega) (by omega)]
  by_cases h : k ≤ r <;> simp [Scalar.select, h]

/-- A selection by "the row number is below `k`". -/
theorem select_slt {α : Type} (r k : ℕ) (hr : r < 65536) (hk : k < 65536) (a b : α) :
    Scalar.select (IntOp.cmpi .slt (BitVec.ofNat 32 r) (BitVec.ofNat 32 k)) a b = if r < k then a else b := by
  rw [WordCmp.cmpi_slt_ofNat (by omega) (by omega)]
  by_cases h : r < k <;> simp [Scalar.select, h]

/-- A choice between three values whose first two conditions fail is the third value. -/
theorem dite_third {α : Type} {p q : Prop} {_ : Decidable p} {_ : Decidable q} (hp : ¬ p) (hq : ¬ q) (a : p → α) (b : ¬ p → q → α)
    (c : ¬ p → ¬ q → α) (v : α) (hv : ∀ h h', c h h' = v) :
    (if h : p then a h else if h' : q then b h h' else c h h') = v := by
  rw [dif_neg hp, dif_neg hq]; exact hv hp hq

end Cert.Common
-- ==== Proof.Conv.lean ====
/- The gradient of the gated short convolution: what the kernel's two arrays hold, what the reference computes, and
   that they are equal. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.Common
public import Idealize.ShloMosaic.Lib.StableHlo.ReadAt

@[expose] public section

noncomputable section

namespace Cert.Conv

open Cert.Common Idealize Idealize.ShloMosaic Idealize.SL.Sem Idealize.ShloMosaic.TcCoe
open Cert.KernelIdeal Cert.KernelIdeal.Gen Cert.KernelIdeal.Value

variable (m : (ℓ : Loc nD τ sig) → Buf (Elt Ideal) ℓ)

/-! ## The convolution's gradient along one column -/

/-- A column moved down by `k` rows, zeros entering at the top. -/
def down (k : ℕ) (f : Fin 4096 → EReal) (r : Fin 4096) : EReal := if k ≤ r.val then f ⟨r.val - k, by omega⟩ else 0

/-- A column moved up by `k` rows, zeros entering at the bottom. -/
def up (k : ℕ) (f : Fin 4096 → EReal) (r : Fin 4096) : EReal := if h : r.val + k < 4096 then f ⟨r.val + k, h⟩ else 0

theorem down_pos {k : ℕ} (f : Fin 4096 → EReal) (r s : Fin 4096) (h : s.val + k = r.val) : down k f r = f s := by
  unfold down
  rw [if_pos (by omega)]
  exact congrArg f (Fin.ext (by show r.val - k = s.val; omega))

theorem down_neg {k : ℕ} (f : Fin 4096 → EReal) (r : Fin 4096) (h : r.val < k) : down k f r = 0 := by
  unfold down
  rw [if_neg (by omega)]

theorem up_pos {k : ℕ} (f : Fin 4096 → EReal) (r s : Fin 4096) (h : s.val = r.val + k) : up k f r = f s := by
  unfold up
  rw [dif_pos (by omega)]
  exact congrArg f (Fin.ext h.symm)

theorem up_neg {k : ℕ} (f : Fin 4096 → EReal) (r : Fin 4096) (h : 4096 ≤ r.val + k) : up k f r = 0 := by
  unfold up
  rw [dif_neg (by omega)]

/-- The convolution of a column with three taps and a bias. -/
def conv (w0 w1 w2 b : EReal) (z : Fin 4096 → EReal) (r : Fin 4096) : EReal :=
  w0 * down 2 z r + w1 * down 1 z r + w2 * z r + b

/-- The gradient at the convolved column. -/
def dz (w0 w1 w2 : EReal) (dc : Fin 4096 → EReal) (r : Fin 4096) : EReal :=
  w2 * dc r + w1 * up 1 dc r + w0 * up 2 dc r

/-- The three slabs of the gradient along one column: gate, first factor, second factor. -/
def slab (ct bv cv xv : Fin 4096 → EReal) (w0 w1 w2 b : EReal) (k : Fin 3) (r : Fin 4096) : EReal :=
  if k.val = 2 then dz w0 w1 w2 (fun r => ct r * bv r) r * cv r
  else if k.val = 1 then dz w0 w1 w2 (fun r => ct r * bv r) r * xv r
  else ct r * conv w0 w1 w2 b (fun r => cv r * xv r) r

theorem slab0 (ct bv cv xv : Fin 4096 → EReal) (w0 w1 w2 b : EReal) (r : Fin 4096) :
    slab ct bv cv xv w0 w1 w2 b 0 r = ct r * conv w0 w1 w2 b (fun r => cv r * xv r) r := rfl

theorem slab1 (ct bv cv xv : Fin 4096 → EReal) (w0 w1 w2 b : EReal) (r : Fin 4096) :
    slab ct bv cv xv w0 w1 w2 b 1 r = dz w0 w1 w2 (fun r => ct r * bv r) r * xv r := rfl

theorem slab2 (ct bv cv xv : Fin 4096 → EReal) (w0 w1 w2 b : EReal) (r : Fin 4096) :
    slab ct bv cv xv w0 w1 w2 b 2 r = dz w0 w1 w2 (fun r => ct r * bv r) r * cv r := rfl

/-- The sums over the rows: the three taps' gradients and the bias's. -/
def stat (ct bv cv xv : Fin 4096 → EReal) (r : Fin 8) : EReal :=
  if r.val = 3 then ∑ x, ct x * bv x
  else if r.val = 2 then ∑ x, ct x * bv x * (cv x * xv x)
  else if r.val = 1 then ∑ x, ct x * bv x * down 1 (fun x => cv x * xv x) x
  else if r.val = 0 then ∑ x, ct x * bv x * down 2 (fun x => cv x * xv x) x
  else 0

/-! ## What one block computes -/

/-- A column of a block. -/
abbrev col (x : Vec Ideal S4096x128 .bf16) (l : Fin 128) (r : Fin 4096) : EReal := x (ix2 r l)

theorem down1 (v0 v2 : Vec Ideal S4096x128 .bf16) (r : Fin 4096) (l : Fin 128) :
    k0_pay8 v0 v2 (ix2 r l) = down 1 (fun r => col v0 l r * col v2 l r) r := by
  pointwise [k0_pay8, k0_pay7, k0_pay6, k0_pay5]
  rw [select_sge _ 1 (by omega) (by omega)]
  unfold down
  split_ifs with h
  · have e : (⟨(r.val + 4096 - 1) % 4096, Nat.mod_lt _ (by omega)⟩ : Fin 4096) = ⟨r.val - 1, by omega⟩ := Fin.ext (by show _ % _ = _ - _; omega)
    rw [e]
  · rfl

theorem down2 (v0 v2 : Vec Ideal S4096x128 .bf16) (r : Fin 4096) (l : Fin 128) :
    k0_pay9 v0 v2 (ix2 r l) = down 2 (fun r => col v0 l r * col v2 l r) r := by
  pointwise [k0_pay9, k0_pay7, k0_pay6, k0_pay5]
  rw [select_sge _ 2 (by omega) (by omega)]
  unfold down
  split_ifs with h
  · have e : (⟨(r.val + 4096 - 2) % 4096, Nat.mod_lt _ (by omega)⟩ : Fin 4096) = ⟨r.val - 2, by omega⟩ := Fin.ext (by show _ % _ = _ - _; omega)
    rw [e]
  · rfl

set_option maxRecDepth 100000 in
theorem dz_apply (v18 v20 v22 : FVec Ideal S1x128 .f32) (v36 : FVec Ideal S4096x128 .f32) (v42 : Vec Ideal S4096x128 .bf16)
    (r : Fin 4096) (l : Fin 128) : k0_pay17 v18 v20 v22 v36 v42 (ix2 r l) =
      dz (v18 (ix2 0 l)) (v20 (ix2 0 l)) (v22 (ix2 0 l)) (fun r => col v36 l r * col v42 l r) r := by
  pointwise [k0_pay17, k0_pay16]
  rw [select_slt _ 4095 (by omega) (by omega), select_slt _ 4094 (by omega) (by omega)]
  unfold dz up
  have e1 (h : r.val + 1 < 4096) : (⟨(r.val + 4096 - 4095) % 4096, Nat.mod_lt _ (by omega)⟩ : Fin 4096) = ⟨r.val + 1, h⟩ :=
    Fin.ext (by show _ % _ = _ + _; omega)
  have e2 (h : r.val + 2 < 4096) : (⟨(r.val + 4096 - 4094) % 4096, Nat.mod_lt _ (by omega)⟩ : Fin 4096) = ⟨r.val + 2, h⟩ :=
    Fin.ext (by show _ % _ = _ + _; omega)
  by_cases h1 : r.val + 1 < 4096 <;> by_cases h2 : r.val + 2 < 4096
  · rw [if_pos (by omega), if_pos (by omega), dif_pos h1, dif_pos h2, e1 h1, e2 h2]
  · rw [if_pos (by omega), if_neg (by omega), dif_pos h1, dif_neg h2, e1 h1, mul_zero]
  · omega
  · rw [if_neg (by omega), if_neg (by omega), dif_neg h1, dif_neg h2, mul_zero, mul_zero]

/-- The first output's block at a point. -/
theorem block5 (c : Dev nD) (t : Fin cfg0.N) (k : Fin 3) (r : Fin 4096) (l : Fin 128) :
    (outsAt0 m c t).1 (ix3 k r l) =
      slab (col (iblk m c 0 t) l) (col (iblk m c 1 t) l) (col (iblk m c 2 t) l) (col (iblk m c 3 t) l)
        (iblk m c 4 t (ix2 0 l)) (iblk m c 4 t (ix2 1 l)) (iblk m c 4 t (ix2 2 l)) (iblk m c 4 t (ix2 3 l)) k r := by
  unfold outsAt0
  frame_out
  erw [canon_slab, canon_slab, canon_slab]
  unfold slab
  split_ifs with h2 h1 h0
  · pointwise [k0_pay19, k0_pay5, k0_pay10, k0_pay11, k0_pay12]
    rw [dz_apply]
    pointwise []
    rfl
  · pointwise [k0_pay18, k0_pay6, k0_pay10, k0_pay11, k0_pay12]
    rw [dz_apply]
    pointwise []
    rfl
  · pointwise [k0_pay15, k0_pay14, k0_pay13, k0_pay10, k0_pay11, k0_pay12]
    rw [down1, down2]
    pointwise [k0_pay7, k0_pay6, k0_pay5]
    rfl
  · omega

theorem block6 (c : Dev nD) (t : Fin cfg0.N) (r : Fin 8) (l : Fin 128) :
    (outsAt0 m c t).2 (ix2 r l) =
      stat (col (iblk m c 0 t) l) (col (iblk m c 1 t) l) (col (iblk m c 2 t) l) (col (iblk m c 3 t) l) r := by
  unfold outsAt0
  frame_out
  erw [canon_row, canon_row, canon_row, canon_row]
  unfold stat
  split_ifs with h3 h2 h1 h0
  · pointwise [k0_pay4, k0_pay16, k0_pay13]
  · pointwise [k0_pay3, k0_pay16, k0_pay13, k0_pay7, k0_pay6, k0_pay5]
  · pointwise [k0_pay2, k0_pay16, k0_pay13, down1]
  · pointwise [k0_pay1, k0_pay16, k0_pay13, down2]
  · rw [canon_whole]
    · pointwise [k0_pay20]
    · decide

/-! ## What the two arrays hold -/

/-- The columns of the gate and of the two factors in the packed argument. -/
abbrev bcol (x : S4096x3072.Idx → EReal) (l : Fin 1024) (r : Fin 4096) : EReal := x (ix2 r ⟨l.val, by omega⟩)
abbrev ccol (x : S4096x3072.Idx → EReal) (l : Fin 1024) (r : Fin 4096) : EReal := x (ix2 r ⟨1024 + l.val, by omega⟩)
abbrev xcol (x : S4096x3072.Idx → EReal) (l : Fin 1024) (r : Fin 4096) : EReal := x (ix2 r ⟨2048 + l.val, by omega⟩)
abbrev tcol (x : S4096x1024.Idx → EReal) (l : Fin 1024) (r : Fin 4096) : EReal := x (ix2 r l)

/-- The gradient's slabs, as a function of the arguments. -/
def G5 (ct : S4096x1024.Idx → EReal) (x : S4096x3072.Idx → EReal) (w : S3x1024.Idx → EReal) (b : S1x1024.Idx → EReal)
    (i : S3x4096x1024.Idx) : EReal :=
  slab (tcol ct (i 2)) (bcol x (i 2)) (ccol x (i 2)) (xcol x (i 2)) (w (ix2 0 (i 2))) (w (ix2 1 (i 2))) (w (ix2 2 (i 2)))
    (b (ix2 0 (i 2))) (i 0) (i 1)

/-- The gradients of the taps and the bias, as a function of the arguments. -/
def G6 (ct : S4096x1024.Idx → EReal) (x : S4096x3072.Idx → EReal) (i : S8x1024.Idx) : EReal :=
  stat (tcol ct (i 1)) (bcol x (i 1)) (ccol x (i 1)) (xcol x (i 1)) (i 0)

theorem idx0 : ∀ t : Fin cfg0.N, win0_0.index t = ![0, t.val] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 8 + t.val] := (by decide +kernel : ∀ t : Fin grid0.N, _)
theorem idx3 : ∀ t : Fin cfg0.N, win0_3.index t = ![0, 16 + t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, 0, t.val] := (by decide +kernel : ∀ t : Fin grid0.N, _)
theorem idx6 : ∀ t : Fin cfg0.N, win0_6.index t = ![0, t.val] := (by decide +kernel : ∀ t : Fin grid0.N, _)

/-- The packed taps that the kernel reads, -/
theorem tap_row (c : Dev nD) (r : Fin 3) (l : Fin 1024) : (V m c main_v1 : S8x1024.Idx → EReal) (ix2 ⟨r.val, by omega⟩ l) =
    (m ((c : Thread nD τ).loc main_arg2) : S3x1024.Idx → EReal) (ix2 r l) := by
  after_reads_at
  rw [dif_pos (by omega)]
  rfl

/-- and the bias under them. -/
theorem bias_row (c : Dev nD) (l : Fin 1024) : (V m c main_v1 : S8x1024.Idx → EReal) (ix2 3 l) =
    (m ((c : Thread nD τ).loc main_arg3) : S1x1024.Idx → EReal) (ix2 0 l) := by
  after_reads_at
  rfl

/-- The column of the arrays that a column of a block is. -/
abbrev lane (t : Fin cfg0.N) (l : Fin 128) : Fin 1024 := ⟨t.val * 128 + l.val, by have : t.val < 8 := t.isLt; omega⟩

theorem col0 (c : Dev nD) (t : Fin cfg0.N) (l : Fin 128) :
    col (iblk m c 0 t) l = tcol (m ((c : Thread nD τ).loc main_arg0)) (lane t l) := by
  funext r
  change iblk m c 0 t (ix2 r l) = (m ((c : Thread nD τ).loc main_arg0) : S4096x1024.Idx → EReal) (ix2 r (lane t l))
  blk_simp [iblk]
  rw [V_main_arg0]
  blk_ext [idx0]

theorem col1 (c : Dev nD) (t : Fin cfg0.N) (l : Fin 128) :
    col (iblk m c 1 t) l = bcol (m ((c : Thread nD τ).loc main_arg1)) (lane t l) := by
  funext r
  change iblk m c 1 t (ix2 r l) = (m ((c : Thread nD τ).loc main_arg1) : S4096x3072.Idx → EReal) (ix2 r ⟨(lane t l).val, by have := (lane t l).isLt; omega⟩)
  blk_simp [iblk]
  rw [V_main_arg1]
  blk_ext [idx1]

theorem col2 (c : Dev nD) (t : Fin cfg0.N) (l : Fin 128) :
    col (iblk m c 2 t) l = ccol (m ((c : Thread nD τ).loc main_arg1)) (lane t l) := by
  funext r
  change iblk m c 2 t (ix2 r l) = (m ((c : Thread nD τ).loc main_arg1) : S4096x3072.Idx → EReal) (ix2 r ⟨1024 + (lane t l).val, by have := (lane t l).isLt; omega⟩)
  blk_simp [iblk]
  rw [V_main_arg1]
  blk_ext [idx2]

theorem col3 (c : Dev nD) (t : Fin cfg0.N) (l : Fin 128) :
    col (iblk m c 3 t) l = xcol (m ((c : Thread nD τ).loc main_arg1)) (lane t l) := by
  funext r
  change iblk m c 3 t (ix2 r l) = (m ((c : Thread nD τ).loc main_arg1) : S4096x3072.Idx → EReal) (ix2 r ⟨2048 + (lane t l).val, by have := (lane t l).isLt; omega⟩)
  blk_simp [iblk]
  rw [V_main_arg1]
  blk_ext [idx3]

theorem tap (c : Dev nD) (t : Fin cfg0.N) (r : Fin 8) (l : Fin 128) :
    iblk m c 4 t (ix2 r l) = (V m c main_v1 : S8x1024.Idx → EReal) (ix2 r (lane t l)) := by
  blk_simp [iblk]
  blk_ext [idx4]

theorem final5 (c : Dev nD) : (dats m 0 c).arrAt 5 cfg0.N =
    G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨k, r, l, rfl⟩ : ∃ (k : Fin 3) (r : Fin 4096) (l : Fin 128), y = ix3 k r l := ⟨y 0, y 1, y 2, (ix3_eta y).symm⟩
  refine (block5 m c t k r l).trans ?_
  have e : (win0_5.blk t).view.emb (ix3 k r l) = ix3 k r (lane t l) := by blk_ext [idx5]
  rw [col0, col1, col2, col3, tap, tap, tap, tap, bias_row]
  erw [tap_row m c 0, tap_row m c 1, tap_row m c 2]
  erw [e]
  rfl

theorem final6 (c : Dev nD) : (dats m 0 c).arrAt 6 cfg0.N =
    G6 (m ((c : Thread nD τ).loc main_arg0)) (m ((c : Thread nD τ).loc main_arg1)) := by
  refine (dats m 0 c).arrAt_eq_of_covers 6 _ (by decide +kernel) fun t hf y => ?_
  blk_simp
  rw [after0_6]
  obtain ⟨r, l, rfl⟩ : ∃ (r : Fin 8) (l : Fin 128), y = ix2 r l := ⟨y 0, y 1, (ix2_eta y).symm⟩
  refine (block6 m c t r l).trans ?_
  have e : (win0_6.blk t).view.emb (ix2 r l) = ix2 r (lane t l) := by blk_ext [idx6]
  rw [col0, col1, col2, col3]
  erw [e]
  rfl

end Cert.Conv
-- ==== Proof.ConvRef.lean ====
/- The gradient of the gated short convolution: what the kernel's two arrays hold, what the reference computes, and
   that they are equal. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.Conv
public import Idealize.ShloMosaic.Lib.StableHlo.ReadAt

@[expose] public section

noncomputable section

namespace Cert.Conv

open Cert.Common Idealize Idealize.ShloMosaic Idealize.SL.Sem Idealize.ShloMosaic.TcCoe
open Cert.KernelIdeal Cert.KernelIdeal.Gen Cert.KernelIdeal.Value

/-! ## What the reference computes -/

open Cert.ReferenceIdeal.Read in
set_option maxHeartbeats 2000000 in
/-- The third slab of the reference's result, past the two slabs before it. -/
theorem ref_two (x0 : S4096x1024.Idx → EReal) (x1 : S4096x3072.Idx → EReal) (x2 : S3x1024.Idx → EReal) (x3 : S1x1024.Idx → EReal)
    (r : Fin 4096) (l : Fin 1024) : val_main_v79 (F := Ideal) x0 x1 x2 x3 (ix3 2 r l) = val_main_v69 (F := Ideal) x0 x1 x2 (ix2 r l) := by
  pointwise [val_main_v71, val_main_v72, val_main_v73, val_main_v74, val_main_v75, val_main_v76, val_main_v77, val_main_v78, val_main_v79]
  generalize val_main_v33 (F := Ideal) x0 x1 x2 x3 = A
  generalize val_main_v70 (F := Ideal) x0 x1 x2 = B
  generalize val_main_v69 (F := Ideal) x0 x1 x2 = C
  refine dite_third (by omega) (by omega) _ _ _ _ fun _ _ => ?_
  have e : (⟨2048 + l.val - 1024 - 1024, by omega⟩ : Fin 1024) = l := Fin.ext (by show 2048 + l.val - 1024 - 1024 = l.val; omega)
  exact congrArg (fun z => C (ix2 r z)) e

open Cert.ReferenceIdeal.Read in
set_option maxHeartbeats 2000000 in
theorem ref_slab (x0 : S4096x1024.Idx → EReal) (x1 : S4096x3072.Idx → EReal) (x2 : S3x1024.Idx → EReal) (x3 : S1x1024.Idx → EReal)
    (k : Fin 3) (r : Fin 4096) (l : Fin 1024) : val_main_v79 (F := Ideal) x0 x1 x2 x3 (ix3 k r l) = G5 x0 x1 x2 x3 (ix3 k r l) := by
  have hk : k = 0 ∨ k = 1 ∨ k = 2 := by omega
  change _ = slab (tcol x0 l) (bcol x1 l) (ccol x1 l) (xcol x1 l) (x2 (ix2 0 l)) (x2 (ix2 1 l)) (x2 (ix2 2 l)) (x3 (ix2 0 l)) k r
  rcases hk with rfl | rfl | rfl
  · pointwise [val_main_v0, val_main_v1, val_main_v2, val_main_v3, val_main_v4, val_main_cst, val_main_v5, val_main_v6, val_main_cst_0, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_v34, val_main_v35, val_main_v36, val_main_v37, val_main_v38, val_main_cst_2, val_main_v39, val_main_v40, val_main_cst_3, val_main_v41, val_main_cst_4, val_main_v42, val_main_v43, val_main_cst_5, val_main_v44, val_main_v45, val_main_v46, val_main_v47, val_main_cst_6, val_main_v48, val_main_v49, val_main_cst_7, val_main_v50, val_main_cst_8, val_main_v51, val_main_v52, val_main_v53, val_main_cst_9, val_main_v54, val_main_v55, val_main_v56, val_main_v57, val_main_v58, val_main_cst_10, val_main_v59, val_main_v60, val_main_cst_11, val_main_v61, val_main_cst_12, val_main_v62, val_main_v63, val_main_v64, val_main_cst_13, val_main_v65, val_main_v66, val_main_v67, val_main_v68, val_main_v69, val_main_v70, val_main_v71, val_main_v72, val_main_v73, val_main_v74, val_main_v75, val_main_v76, val_main_v77, val_main_v78, val_main_v79, val_main_cst_14, val_main_v80, val_main_v81]
    rw [slab0]
    unfold conv
    by_cases h2 : r.val < 2
    · rw [dif_pos h2, down_neg _ r h2]
      by_cases h1 : r.val < 1
      · rw [dif_pos (by omega), down_neg _ r h1]
      · rw [dif_neg (by omega), down_pos (k := 1) _ r ⟨1 + r.val - 2, by omega⟩ (by show 1 + r.val - 2 + 1 = _; omega)]
    · rw [dif_neg h2, down_pos (k := 2) _ r ⟨r.val - 2, by omega⟩ (by show r.val - 2 + 2 = _; omega),
        dif_neg (by omega), down_pos (k := 1) _ r ⟨1 + r.val - 2, by omega⟩ (by show 1 + r.val - 2 + 1 = _; omega)]
  · pointwise [val_main_v0, val_main_v1, val_main_v2, val_main_v3, val_main_v4, val_main_cst, val_main_v5, val_main_v6, val_main_cst_0, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_v34, val_main_v35, val_main_v36, val_main_v37, val_main_v38, val_main_cst_2, val_main_v39, val_main_v40, val_main_cst_3, val_main_v41, val_main_cst_4, val_main_v42, val_main_v43, val_main_cst_5, val_main_v44, val_main_v45, val_main_v46, val_main_v47, val_main_cst_6, val_main_v48, val_main_v49, val_main_cst_7, val_main_v50, val_main_cst_8, val_main_v51, val_main_v52, val_main_v53, val_main_cst_9, val_main_v54, val_main_v55, val_main_v56, val_main_v57, val_main_v58, val_main_cst_10, val_main_v59, val_main_v60, val_main_cst_11, val_main_v61, val_main_cst_12, val_main_v62, val_main_v63, val_main_v64, val_main_cst_13, val_main_v65, val_main_v66, val_main_v67, val_main_v68, val_main_v69, val_main_v70, val_main_v71, val_main_v72, val_main_v73, val_main_v74, val_main_v75, val_main_v76, val_main_v77, val_main_v78, val_main_v79, val_main_cst_14, val_main_v80, val_main_v81]
    rw [slab1]
    unfold dz
    by_cases h1 : r.val + 1 < 4096
    · rw [dif_pos ⟨by omega, by omega⟩, up_pos (k := 1) _ r ⟨2 + r.val - 1, by omega⟩ (by show 2 + r.val - 1 = _; omega)]
      by_cases h2 : r.val + 2 < 4096
      · rw [dif_pos (by omega), up_pos (k := 2) _ r ⟨2 + r.val, by omega⟩ (by show 2 + r.val = _; omega)]
        simp only [mul_comm (tcol _ _ _)]
      · rw [dif_neg (fun h => h2 (by omega)), up_neg (k := 2) _ r (by omega), mul_zero]
        simp only [mul_comm (tcol _ _ _)]
    · rw [dif_neg (fun h => h1 (by omega)), up_neg (k := 1) _ r (by omega), dif_neg (fun h => h1 (by omega)),
        up_neg (k := 2) _ r (by omega), mul_zero, mul_zero]
      simp only [mul_comm (tcol _ _ _)]
  · rw [ref_two]
    pointwise [val_main_v0, val_main_v1, val_main_v2, val_main_v3, val_main_v4, val_main_cst, val_main_v5, val_main_v6, val_main_cst_0, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_v34, val_main_v35, val_main_v36, val_main_v37, val_main_v38, val_main_cst_2, val_main_v39, val_main_v40, val_main_cst_3, val_main_v41, val_main_cst_4, val_main_v42, val_main_v43, val_main_cst_5, val_main_v44, val_main_v45, val_main_v46, val_main_v47, val_main_cst_6, val_main_v48, val_main_v49, val_main_cst_7, val_main_v50, val_main_cst_8, val_main_v51, val_main_v52, val_main_v53, val_main_cst_9, val_main_v54, val_main_v55, val_main_v56, val_main_v57, val_main_v58, val_main_cst_10, val_main_v59, val_main_v60, val_main_cst_11, val_main_v61, val_main_cst_12, val_main_v62, val_main_v63, val_main_v64, val_main_cst_13, val_main_v65, val_main_v66, val_main_v67, val_main_v68, val_main_v69, val_main_v70, val_main_v71, val_main_v72, val_main_v73, val_main_v74, val_main_v75, val_main_v76, val_main_v77, val_main_v78, val_main_v79, val_main_cst_14, val_main_v80, val_main_v81]
    rw [slab2]
    rw [mul_comm]
    unfold dz
    by_cases h1 : r.val + 1 < 4096
    · rw [dif_pos ⟨by omega, by omega⟩, up_pos (k := 1) _ r ⟨2 + r.val - 1, by omega⟩ (by show 2 + r.val - 1 = _; omega)]
      by_cases h2 : r.val + 2 < 4096
      · rw [dif_pos (by omega), up_pos (k := 2) _ r ⟨2 + r.val, by omega⟩ (by show 2 + r.val = _; omega)]
        simp only [mul_comm (tcol _ _ _)]
      · rw [dif_neg (fun h => h2 (by omega)), up_neg (k := 2) _ r (by omega), mul_zero]
        simp only [mul_comm (tcol _ _ _)]
    · rw [dif_neg (fun h => h1 (by omega)), up_neg (k := 1) _ r (by omega), dif_neg (fun h => h1 (by omega)),
        up_neg (k := 2) _ r (by omega), mul_zero, mul_zero]
      simp only [mul_comm (tcol _ _ _)]

open Cert.ReferenceIdeal.Read in
set_option maxHeartbeats 2000000 in
theorem ref_stat (x0 : S4096x1024.Idx → EReal) (x1 : S4096x3072.Idx → EReal)
    (r : Fin 8) (l : Fin 1024) : val_main_v81 (F := Ideal) x0 x1 (ix2 r l) = G6 x0 x1 (ix2 r l) := by
  change _ = stat (tcol x0 l) (bcol x1 l) (ccol x1 l) (xcol x1 l) r
  have hr : r = 0 ∨ r = 1 ∨ r = 2 ∨ r = 3 ∨ r = 4 ∨ r = 5 ∨ r = 6 ∨ r = 7 := by omega
  rcases hr with rfl | rfl | rfl | rfl | rfl | rfl | rfl | rfl <;> pointwise [val_main_v0, val_main_v1, val_main_v2, val_main_v3, val_main_v4, val_main_cst, val_main_v5, val_main_v6, val_main_cst_0, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_v34, val_main_v35, val_main_v36, val_main_v37, val_main_v38, val_main_cst_2, val_main_v39, val_main_v40, val_main_cst_3, val_main_v41, val_main_cst_4, val_main_v42, val_main_v43, val_main_cst_5, val_main_v44, val_main_v45, val_main_v46, val_main_v47, val_main_cst_6, val_main_v48, val_main_v49, val_main_cst_7, val_main_v50, val_main_cst_8, val_main_v51, val_main_v52, val_main_v53, val_main_cst_9, val_main_v54, val_main_v55, val_main_v56, val_main_v57, val_main_v58, val_main_cst_10, val_main_v59, val_main_v60, val_main_cst_11, val_main_v61, val_main_cst_12, val_main_v62, val_main_v63, val_main_v64, val_main_cst_13, val_main_v65, val_main_v66, val_main_v67, val_main_v68, val_main_v69, val_main_v70, val_main_v71, val_main_v72, val_main_v73, val_main_v74, val_main_v75, val_main_v76, val_main_v77, val_main_v78, val_main_v79, val_main_cst_14, val_main_v80, val_main_v81]
  · change _ = ∑ x, tcol x0 l x * bcol x1 l x * down 2 (fun x => ccol x1 l x * xcol x1 l x) x
    rw [Fin.sum_univ_one, sum_split (n := 4096) 2 4094 (by norm_num)]
    congr 1
    · refine Finset.sum_congr rfl fun x _ => ?_
      rw [down_neg _ _ (by show x.val < 2; omega), mul_zero, mul_zero]
    · refine Finset.sum_congr rfl fun x _ => ?_
      rw [down_pos (k := 2) _ _ ⟨x.val, by omega⟩ (by show x.val + 2 = 2 + x.val; omega)]
      simp only [mul_comm (tcol _ _ _)]
  · change _ = ∑ x, tcol x0 l x * bcol x1 l x * down 1 (fun x => ccol x1 l x * xcol x1 l x) x
    rw [Fin.sum_univ_one]
    refine Finset.sum_congr rfl fun x _ => ?_
    by_cases h1 : x.val < 1
    · rw [dif_pos (by omega), down_neg _ x h1, mul_zero, mul_zero]
    · rw [dif_neg (by omega), down_pos (k := 1) _ x ⟨1 + x.val - 2, by omega⟩ (by show 1 + x.val - 2 + 1 = _; omega)]
      simp only [mul_comm (tcol _ _ _)]
  · change _ = ∑ x, tcol x0 l x * bcol x1 l x * (ccol x1 l x * xcol x1 l x)
    rw [Fin.sum_univ_one]
    exact Finset.sum_congr rfl fun x _ => by rw [mul_comm (tcol _ _ _)]
  · change _ = ∑ x, tcol x0 l x * bcol x1 l x
    exact Finset.sum_congr rfl fun x _ => mul_comm _ _
  all_goals simp [stat]

theorem algebraic : Cert.algebraic_KernelIdeal_ReferenceIdeal := by
  pair_intro
  · run_from (run_blocks m g)
  · run_from Cert.ReferenceIdeal.Value.run m' g'
    · rw [final5]
      funext i
      obtain ⟨k, r, l, rfl⟩ : ∃ k r l, i = ix3 k r l := ⟨i 0, i 1, i 2, (ix3_eta i).symm⟩
      obtain ⟨h0, h1, h2, h3⟩ := hagree c
      rw [Cert.ReferenceIdeal.Read.val_main_v79_eq, h0, h1, h2, h3]
      exact ref_slab _ _ _ _ k r l
    · rw [final6]
      funext i
      obtain ⟨r, l, rfl⟩ : ∃ r l, i = ix2 r l := ⟨i 0, i 1, (ix2_eta i).symm⟩
      obtain ⟨h0, h1, h2, h3⟩ := hagree c
      rw [Cert.ReferenceIdeal.Read.val_main_v81_eq, h0, h1]
      exact ref_stat _ _ r l

end Cert.Conv
-- ==== Proof.Glu.lean ====
/- The gradient through the gated linear unit, fused with the product behind it and with a bias's sum. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.Glu

open Idealize Idealize.ShloMosaic Idealize.SL.Sem Idealize.ShloMosaic.TcCoe
open Cert.Kernel2Ideal Cert.Kernel2Ideal.Gen Cert.Kernel2Ideal.Value

variable (m : (ℓ : Loc nD τ sig) → Buf (Elt Ideal) ℓ)

open Cert.Common

/-- The logistic function. -/
def sg (t : EReal) : EReal := Ideal.div 1 (1 + Ideal.exp (-t))

/-- The gate's argument at an entry: the saved activation against the gate's weight, plus its bias. -/
def gate (y : S4096x1024.Idx → EReal) (w : S1024x1024.Idx → EReal) (b : S1x1024.Idx → EReal) (i : S4096x1024.Idx) : EReal :=
  (∑ k : Fin 1024, y (ix2 (i 0) k) * w (ix2 k (i 1))) + b (ix2 0 (i 1))

/-- The cotangent against the output weight. -/
def back (ct : S4096x1024.Idx → EReal) (w : S1024x1024.Idx → EReal) (i : S4096x1024.Idx) : EReal :=
  ∑ k : Fin 1024, ct (ix2 (i 0) k) * w (ix2 (i 1) k)

/-- The gradient at the gate's argument, at one entry. -/
def dgate (d y t : EReal) : EReal := d * y * sg t * (1 - sg t)

/-- The gradient at the gate's argument, as a function of the arguments, -/
def G4 (ct y : S4096x1024.Idx → EReal) (w : S1024x1024.Idx → EReal) (b : S1x1024.Idx → EReal) (wo : S1024x1024.Idx → EReal)
    (i : S4096x1024.Idx) : EReal := dgate (back ct wo i) (y i) (gate y w b i)

/-- the gradient at the activation, -/
def G5 (ct y : S4096x1024.Idx → EReal) (w : S1024x1024.Idx → EReal) (b : S1x1024.Idx → EReal) (wo : S1024x1024.Idx → EReal)
    (i : S4096x1024.Idx) : EReal := back ct wo i * sg (gate y w b i)

/-- and the bias's gradient above seven rows of zeros. -/
def G6 (ct y : S4096x1024.Idx → EReal) (w : S1024x1024.Idx → EReal) (b : S1x1024.Idx → EReal) (wo : S1024x1024.Idx → EReal)
    (i : S8x1024.Idx) : EReal := if (i 0).val = 0 then ∑ x : Fin 4096, G4 ct y w b wo (ix2 x (i 1)) else 0

/-! ## What one block computes -/

theorem pay3_apply (x0 : Vec Ideal S512x1024 .bf16) (x1 : Vec Ideal S1024x1024 .bf16) (x2 x3 : Vec Ideal S512x1024 .f32)
    (r : Fin 512) (l : Fin 1024) :
    k0_pay3 x0 x1 x2 x3 (ix2 r l) = dgate (∑ k : Fin 1024, x0 (ix2 r k) * x1 (ix2 l k)) (x2 (ix2 r l)) (x3 (ix2 r l)) := by
  pointwise [k0_pay3, k0_pay2, k0_pay1]
  rw [zero_sub]
  rfl

theorem pay4_apply (x0 : Vec Ideal S512x1024 .bf16) (x1 : Vec Ideal S1024x1024 .bf16) (x3 : Vec Ideal S512x1024 .f32)
    (r : Fin 512) (l : Fin 1024) :
    k0_pay4 x0 x1 x3 (ix2 r l) = (∑ k : Fin 1024, x0 (ix2 r k) * x1 (ix2 l k)) * sg (x3 (ix2 r l)) := by
  pointwise [k0_pay4, k0_pay2, k0_pay1]
  rw [zero_sub]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

/-- The gate's argument that the kernel reads. -/
theorem gate_apply (c : Dev nD) (r : Fin 4096) (l : Fin 1024) : (V m c main_v2 : S4096x1024.Idx → EReal) (ix2 r l) =
    gate (m ((c : Thread nD τ).loc main_arg1)) (m ((c : Thread nD τ).loc main_arg2)) (m ((c : Thread nD τ).loc main_arg3)) (ix2 r l) := by
  after_reads_at
  rfl

section
variable (c : Dev nD)

abbrev A4 := G4 (m ((c : Thread nD τ).loc main_arg0)) (m ((c : Thread nD τ).loc main_arg1)) (m ((c : Thread nD τ).loc main_arg2)) (m ((c : Thread nD τ).loc main_arg3)) (m ((c : Thread nD τ).loc main_arg4))
abbrev A5 := G5 (m ((c : Thread nD τ).loc main_arg0)) (m ((c : Thread nD τ).loc main_arg1)) (m ((c : Thread nD τ).loc main_arg2)) (m ((c : Thread nD τ).loc main_arg3)) (m ((c : Thread nD τ).loc main_arg4))
abbrev A6 := G6 (m ((c : Thread nD τ).loc main_arg0)) (m ((c : Thread nD τ).loc main_arg1)) (m ((c : Thread nD τ).loc main_arg2)) (m ((c : Thread nD τ).loc main_arg3)) (m ((c : Thread nD τ).loc main_arg4))

theorem blk3 (t : Fin cfg0.N) (r : Fin 512) (l : Fin 1024) :
    k0_pay3 (iblk m c 0 t) (iblk m c 1 t) (iblk m c 2 t) (iblk m c 3 t) (ix2 r l) = A4 m c (ix2 (row t r) l) := by
  have e0 (k : Fin 1024) : (win0_0.blk t).view.emb (ix2 r k) = ix2 (row t r) k := by blk_ext [idx0]
  have e1 (k : Fin 1024) : (win0_1.blk t).view.emb (ix2 l k) = ix2 l k := by blk_ext [idx1]
  have e2 : (win0_2.blk t).view.emb (ix2 r l) = ix2 (row t r) l := by blk_ext [idx2]
  have e3 : (win0_3.blk t).view.emb (ix2 r l) = ix2 (row t r) l := by blk_ext [idx3]
  rw [pay3_apply]
  blk_simp [iblk, e0, e1, e2, e3]
  rw [V_main_arg0, V_main_arg1, V_main_arg4, gate_apply]
  rfl

theorem blk4 (t : Fin cfg0.N) (r : Fin 512) (l : Fin 1024) :
    k0_pay4 (iblk m c 0 t) (iblk m c 1 t) (iblk m c 3 t) (ix2 r l) = A5 m c (ix2 (row t r) l) := by
  have e0 (k : Fin 1024) : (win0_0.blk t).view.emb (ix2 r k) = ix2 (row t r) k := by blk_ext [idx0]
  have e1 (k : Fin 1024) : (win0_1.blk t).view.emb (ix2 l k) = ix2 l k := by blk_ext [idx1]
  have e3 : (win0_3.blk t).view.emb (ix2 r l) = ix2 (row t r) l := by blk_ext [idx3]
  rw [pay4_apply]
  blk_simp [iblk, e0, e1, e3]
  rw [V_main_arg0, V_main_arg4, gate_apply]
  rfl

/-! ## What the points leave in the outputs' buffers -/

theorem out4 (t : Fin cfg0.N) :
    (outsAt0 m c t.val t.isLt).1 = k0_pay5 (iblk m c 0 t) (iblk m c 1 t) (iblk m c 2 t) (iblk m c 3 t) := by
  by_cases h : t.val % 8 = 0
  · rw [outsAt0_A m c t h]
    frame_out
  · rw [outsAt0_B m c t h]
    frame_out

theorem out5 (t : Fin cfg0.N) :
    (outsAt0 m c t.val t.isLt).2.1 = k0_pay4 (iblk m c 0 t) (iblk m c 1 t) (iblk m c 3 t) := by
  by_cases h : t.val % 8 = 0
  · rw [outsAt0_A m c t h]
    frame_out
  · rw [outsAt0_B m c t h]
    frame_out

/-- What one point adds to the sums. -/
def inc (t : Fin cfg0.N) (j : S8x1024.Idx) : EReal :=
  if (j 0).val = 0 then ∑ x : Fin 512, A4 m c (ix2 (row t x) (j 1)) else 0

theorem out6_A (t : Fin cfg0.N) (h : t.val % 8 = 0) (j : S8x1024.Idx) :
    (outsAt0 m c t.val t.isLt).2.2 j = 0 + inc m c t j := by
  obtain ⟨r, l, rfl⟩ : ∃ (r : Fin 8) (l : Fin 1024), j = ix2 r l := ⟨j 0, j 1, (ix2_eta j).symm⟩
  rw [outsAt0_A m c t h]
  frame_out
  erw [canon_row]
  change (if r.val = 0 then _ else _) = 0 + if r.val = 0 then _ else _
  split_ifs with h0
  · pointwise [k0_pay7, k0_pay6, blk3]
    erw [readCov_row _ _ 0 (by omega)]
    rw [View.read_writes_full]
    exact zero_add _
  · rw [canon_whole]
    · pointwise [k0_pay6]
    · decide

theorem out6_B (t : Fin cfg0.N) (h : ¬ t.val % 8 = 0) (j : S8x1024.Idx) :
    (outsAt0 m c t.val t.isLt).2.2 j =
      (outsAt0 m c (t.val - 1) (Nat.lt_of_le_of_lt (Nat.sub_le _ _) t.isLt)).2.2 j + inc m c t j := by
  obtain ⟨r, l, rfl⟩ : ∃ (r : Fin 8) (l : Fin 1024), j = ix2 r l := ⟨j 0, j 1, (ix2_eta j).symm⟩
  rw [outsAt0_B m c t h]
  generalize (outsAt0 m c (t.val - 1) (Nat.lt_of_le_of_lt (Nat.sub_le _ _) t.isLt)).2.2 = P
  frame_out
  erw [read_row]
  rw [View.writes_nil, Memref.IsWhole.read_unread]
  change (if r.val = 0 then _ else _) = _ + if r.val = 0 then _ else _
  split_ifs with h0
  · pointwise [k0_pay7, blk3]
    obtain rfl : r = 0 := Fin.ext h0
    rfl
  · rw [add_zero]

/-! ## What the arrays hold -/

theorem final4 : (dats m 0 c).arrAt 4 cfg0.N = A4 m c := by
  refine (dats m 0 c).arrAt_eq_of_covers 4 _ (by decide +kernel) fun t hf y => ?_
  blk_simp
  rw [after0_4, out4]
  obtain ⟨r, l, rfl⟩ : ∃ (r : Fin 512) (l : Fin 1024), y = ix2 r l := ⟨y 0, y 1, (ix2_eta y).symm⟩
  have e : (win0_4.blk t).view.emb (ix2 r l) = ix2 (row t r) l := by blk_ext [idx4]
  erw [e]
  exact (by pointwise [k0_pay5, blk3] : k0_pay5 (iblk m c 0 t) (iblk m c 1 t) (iblk m c 2 t) (iblk m c 3 t) (ix2 r l) = A4 m c (ix2 (row t r) l))

theorem final5 : (dats m 0 c).arrAt 5 cfg0.N = A5 m c := by
  refine (dats m 0 c).arrAt_eq_of_covers 5 _ (by decide +kernel) fun t hf y => ?_
  blk_simp
  rw [after0_5, out5]
  obtain ⟨r, l, rfl⟩ : ∃ (r : Fin 512) (l : Fin 1024), y = ix2 r l := ⟨y 0, y 1, (ix2_eta y).symm⟩
  have e : (win0_5.blk t).view.emb (ix2 r l) = ix2 (row t r) l := by blk_ext [idx5]
  erw [e]
  exact blk4 m c t r l

/-- After the last point the sums run over all rows. -/
theorem sums (j : S8x1024.Idx) : (outsAt0 m c t0_7.val t0_7.isLt).2.2 j = A6 m c j := by
  rw [Pipeline.eq_sum_fin_of_reset_step_apply_last (fun n h => (outsAt0 m c n h).2.2) 8 (fun _ => 0) (inc m c)
    (out6_A m c) (out6_B m c) (le_of_eq N_0) t0_7 rfl j, zero_add]
  change (∑ t, if (j 0).val = 0 then _ else _) = if (j 0).val = 0 then _ else _
  split_ifs with h
  · refine Eq.trans ?_ (Fin.sum_mul_add_fin (S := 8) (n := 512) fun x : Fin 4096 => A4 m c (ix2 x (j 1)))
    rfl
  · exact Finset.sum_const_zero

theorem final6 : (dats m 0 c).arrAt 6 cfg0.N = A6 m c := by
  refine (dats m 0 c).arrAt_eq_of_covers 6 _ (by decide +kernel) fun t hf y => ?_
  obtain rfl : t = t0_7 := Fin.ext (by have := (flush0_6 t).mp hf; have h8 : t.val < 8 := t.isLt; show t.val = 7; omega)
  blk_simp
  rw [after0_6]
  obtain ⟨r, l, rfl⟩ : ∃ (r : Fin 8) (l : Fin 1024), y = ix2 r l := ⟨y 0, y 1, (ix2_eta y).symm⟩
  have e : (win0_6.blk t0_7).view.emb (ix2 r l) = ix2 r l := by blk_ext [idx6]
  erw [e]
  exact sums m c (ix2 r l)

end

/-! ## The reference -/

open Cert.Reference2Ideal.Read in
theorem ref4 (x0 x1 : S4096x1024.Idx → EReal) (x2 : S1024x1024.Idx → EReal) (x3 : S1x1024.Idx → EReal) (x4 : S1024x1024.Idx → EReal)
    (r : Fin 4096) (l : Fin 1024) :
    val_main_v19 (F := Ideal) x0 x1 x2 x3 x4 (ix2 r l) = G4 x0 x1 x2 x3 x4 (ix2 r l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19]
  change (_ * back x0 x4 (ix2 r l)) * (sg (gate x1 x2 x3 (ix2 r l)) * (1 - sg (gate x1 x2 x3 (ix2 r l)))) =
    back x0 x4 (ix2 r l) * _ * sg (gate x1 x2 x3 (ix2 r l)) * (1 - sg (gate x1 x2 x3 (ix2 r l)))
  rw [mul_comm (x1 (ix2 r l)), mul_assoc (_ * _)]

open Cert.Reference2Ideal.Read in
theorem ref5 (x0 x1 : S4096x1024.Idx → EReal) (x2 : S1024x1024.Idx → EReal) (x3 : S1x1024.Idx → EReal) (x4 : S1024x1024.Idx → EReal)
    (r : Fin 4096) (l : Fin 1024) :
    val_main_v18 (F := Ideal) x0 x1 x2 x3 x4 (ix2 r l) = G5 x0 x1 x2 x3 x4 (ix2 r l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19]
  rfl

open Cert.Reference2Ideal.Read in
theorem ref6 (x0 x1 : S4096x1024.Idx → EReal) (x2 : S1024x1024.Idx → EReal) (x3 : S1x1024.Idx → EReal) (x4 : S1024x1024.Idx → EReal)
    (r : Fin 8) (l : Fin 1024) :
    val_main_v24 (F := Ideal) x0 x1 x2 x3 x4 (ix2 r l) = G6 x0 x1 x2 x3 x4 (ix2 r l) := by
  pointwise [val_main_v24, val_main_v23, val_main_v22, val_main_v21, val_main_cst_2, val_main_cst_3, ref4]
  change _ = if r.val = 0 then _ else _
  by_cases h : r.val = 0
  · rw [dif_pos (by omega), if_pos h]
    rfl
  · rw [dif_neg (by omega), if_neg h]

theorem algebraic : Cert.algebraic_Kernel2Ideal_Reference2Ideal := by
  pair_intro
  · run_from (run_blocks m g)
  · run_from Cert.Reference2Ideal.Value.run m' g'
    · rw [final4]
      funext i
      obtain ⟨r, l, rfl⟩ : ∃ r l, i = ix2 r l := ⟨i 0, i 1, (ix2_eta i).symm⟩
      obtain ⟨h0, h1, h2, h3, h4⟩ := hagree c
      rw [Cert.Reference2Ideal.Read.val_main_v20_eq]
      try simp only [h0, h1, h2, h3, h4]
      exact (by pointwise [Cert.Reference2Ideal.Read.val_main_v20] : Cert.Reference2Ideal.Read.val_main_v20 (F := Ideal) _ _ _ _ _ (ix2 r l) = _).trans (ref4 _ _ _ _ _ r l)
    · rw [final5]
      funext i
      obtain ⟨r, l, rfl⟩ : ∃ r l, i = ix2 r l := ⟨i 0, i 1, (ix2_eta i).symm⟩
      obtain ⟨h0, h1, h2, h3, h4⟩ := hagree c
      rw [Cert.Reference2Ideal.Read.val_main_v18_eq]
      try simp only [h0, h1, h2, h3, h4]
      exact ref5 _ _ _ _ _ r l
    · rw [final6]
      funext i
      obtain ⟨r, l, rfl⟩ : ∃ r l, i = ix2 r l := ⟨i 0, i 1, (ix2_eta i).symm⟩
      obtain ⟨h0, h1, h2, h3, h4⟩ := hagree c
      rw [Cert.Reference2Ideal.Read.val_main_v24_eq]
      try simp only [h0, h1, h2, h3, h4]
      exact ref6 _ _ _ _ _ r l

end Cert.Glu
-- ==== Proof.Finite.lean ====
/- Finite arrays: what a precondition that compares magnitudes with infinity says, and sums of finite numbers. -/
module

public import Idealize.ShloMosaic.Lib.StableHlo
public import Idealize.ShloMosaic.PureOps
public import Idealize.ShloMosaic.PureOps.Ideal
public import Idealize.ShloMosaic.Lib.Pointwise
public import Idealize.ShloMosaic.Lib.IdealHost

@[expose] public section

noncomputable section

namespace Cert.Finite

open Idealize.ShloMosaic

/-- The shape of a scalar. -/
abbrev Sc : Shape := ⟨0, ![]⟩

theorem andi_one {a b : BitVec 1} (h : IntOp.andi a b = 1#1) : a = 1#1 ∧ b = 1#1 := by
  revert a b; decide

theorem foldl_andi {α : Type} (f : α → BitVec 1) (l : List α) (b : BitVec 1)
    (h : l.foldl (fun r n => IntOp.andi r (f n)) b = 1#1) : b = 1#1 ∧ ∀ n ∈ l, f n = 1#1 := by
  induction l generalizing b with
  | nil => exact ⟨h, by simp⟩
  | cons a l ih =>
    obtain ⟨h1, h2⟩ := ih _ h
    obtain ⟨h3, h4⟩ := andi_one h1
    refine ⟨h3, fun n hn => ?_⟩
    rcases List.mem_cons.mp hn with rfl | hn
    · exact h4
    · exact h2 n hn

/-- A conjunction over a whole array that holds, holds at each entry. -/
theorem of_reduce {s : Shape} {axes : List (Fin s.rank)} (x : s.Idx → BitVec 1) (b : Sc.Idx → BitVec 1)
    (h : s.ReducesTo axes Sc) (hu : 0 < Sc.numel) (hall : Host.reduce IntOp.andi x b h hu = fun _ => 1#1) (i : s.Idx) :
    x i = 1#1 := by
  have e := congrFun hall (h.drop i)
  unfold Host.reduce at e
  have := (foldl_andi _ _ _ e).2 (s.rowMajor i) (by
    refine List.mem_filter.mpr ⟨List.mem_finRange _, ?_⟩
    simp)
  simpa using this

/-- An extended real of magnitude below infinity is a real. -/
theorem real_of_abs_lt {x : EReal} (h : max x (-x) < ⊤) : ∃ r : ℝ, x = (r : EReal) := by
  induction x with
  | bot => simp at h
  | top => simp at h
  | coe r => exact ⟨r, rfl⟩

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- An array whose magnitudes are all below infinity holds real numbers. -/
theorem real_of_all {s : Shape} {φ : FTy} {axes : List (Fin s.rank)} (w : BitVec φ.bits) (hw : Ideal.ofBits φ w = ⊤) (x : FVec Ideal s φ)
    (hb : Sc.BroadcastsInDim s (![] : Fin 0 → Fin s.rank)) (hr : s.ReducesTo axes Sc) (hu : 0 < Sc.numel)
    (h : Host.reduce IntOp.andi (cmpf .olt (Host.absf x) (broadcastInDim s ![] hb (constant (F := Ideal) Sc φ w))) (constantI Sc 1 1#1) hr hu
      = fun _ => 1#1) : ∃ X : s.Idx → ℝ, x = fun i => (X i : EReal) := by
  have key (i : s.Idx) : ∃ r : ℝ, x i = (r : EReal) := by
    have e := of_reduce _ _ hr hu h i
    refine real_of_abs_lt ?_
    rw [← hw]
    have e' : Ideal.cmp .olt (max (x i) (-(x i))) (Ideal.ofBits φ w) = 1#1 := e
    by_contra hn
    simp [Ideal.cmp, hn] at e'
  choose X hX using key
  exact ⟨X, funext hX⟩

/-- Two conjunctions that hold together hold each. -/
theorem andi_all {s : Shape} {a b : IVec s 1} (h : andi a b = fun _ => 1#1) : a = (fun _ => 1#1) ∧ b = fun _ => 1#1 :=
  ⟨funext fun i => (andi_one (congrFun h i)).1, funext fun i => (andi_one (congrFun h i)).2⟩

/-- A finite sum of reals is the real of the sum. -/
theorem sum_coe {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

/-! The reals that the programs' constants denote. -/

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-1 / 2 : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

theorem word_n1024 : Ideal.ofBits .f32 0x44800000#32 = ((1024 : ℝ) : EReal) := by
  simp [Ideal.ofBits, Ideal.ieee, -EReal.coe_mul]; norm_num

theorem word_inv1024 : Ideal.ofBits .f32 0x3A800000#32 = ((1 / 1024 : ℝ) : EReal) := by
  simp [Ideal.ofBits, Ideal.ieee, -EReal.coe_mul]; norm_num

theorem word_eps : Ideal.ofBits .f32 0x358637BD#32 = ((8796093 / 8796093022208 : ℝ) : EReal) := by
  simp [Ideal.ofBits, Ideal.ieee, -EReal.coe_mul]; norm_num

theorem word_gelu_scale : Ideal.ofBits .f32 0x3F4C422A#32 = ((6693141 / 8388608 : ℝ) : EReal) := by
  simp [Ideal.ofBits, Ideal.ieee, -EReal.coe_mul]; norm_num

end Cert.Finite
-- ==== Proof.Gelu.lean ====
/- The gradient through the gelu and the product behind it. -/
module

public import proofs.«01_k».proof.Defs
public import proofs.«01_k».proof.Proof.Gen.Kernel3Ideal.Value
public import proofs.«01_k».proof.Proof.Gen.Reference3Ideal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Finite
public import proofs.«01_k».proof.Proof.Gen.Pre_finite_gelu

@[expose] public section

noncomputable section

namespace Cert.Gelu

open Idealize Idealize.ShloMosaic Idealize.SL.Sem Idealize.ShloMosaic.TcCoe
open Cert.Kernel3Ideal Cert.Kernel3Ideal.Gen Cert.Kernel3Ideal.Value

variable (m : (ℓ : Loc nD τ sig) → Buf (Elt Ideal) ℓ)

/-- The constants of the tanh approximation and a half, as words denote them. -/
abbrev half : EReal := Ideal.ofBits FTy.f32 0x3F000000#32
abbrev scale : EReal := Ideal.ofBits FTy.f32 0x3F4C422A#32
abbrev cubic : EReal := ((8943 / 200000 : ℝ) : EReal)
abbrev cubic3 : EReal := ((26829 / 200000 : ℝ) : EReal)

/-- The tanh inside the gelu. -/
def th (y : EReal) : EReal := Ideal.tanh (scale * (y + cubic * y * y * y))

/-- The derivative of the gelu as the kernel writes it. -/
def slope (y : EReal) : EReal :=
  half * (1 + th y) + half * y * (1 - th y * th y) * scale * (1 + cubic3 * y * y)

/-- The gradient at one entry. -/
def G (dt : S4096x1024.Idx → EReal) (dy : S4096x1024.Idx → EReal) (y : S4096x1024.Idx → EReal)
    (w : S1024x1024.Idx → EReal) (i : S4096x1024.Idx) : EReal :=
  (dy i + ∑ k : Fin 1024, dt (ix2 (i 0) k) * w (ix2 (i 1) k)) * slope (y i)

/-- The block that a point stores, entry by entry. -/
theorem pay_apply (x0 : Vec Ideal S1024x1024 .bf16) (x1 : Vec Ideal S1024x1024 .bf16) (x2 x3 : Vec Ideal S1024x1024 .f32)
    (r l : Fin 1024) :
    k0_pay1 x0 x1 x2 x3 (ix2 r l) =
      (x2 (ix2 r l) + ∑ k : Fin 1024, x0 (ix2 r k) * x1 (ix2 l k)) * slope (x3 (ix2 r l)) := by
  have hc : (Named.named κ "cubic" 0x3D372713#32 : Ideal .f32) = cubic := IdealRules.named_const.ideal_named_scalar _ _ _ _ rfl
  have hd : (Named.named κ "cubic_3" 0x3E095D4F#32 : Ideal .f32) = cubic3 := IdealRules.named_const.ideal_named_scalar _ _ _ _ rfl
  pointwise [k0_pay1, hc, hd]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem blk (c : Dev nD) (t : Fin cfg0.N) (y : S1024x1024.Idx) :
    k0_pay1 (iblk m c 0 t) (iblk m c 1 t) (iblk m c 2 t) (iblk m c 3 t) y =
    G (m ((c : Thread nD τ).loc main_arg0)) (m ((c : Thread nD τ).loc main_arg1)) (m ((c : Thread nD τ).loc main_arg2)) (m ((c : Thread nD τ).loc main_arg3))
     ((win0_4.blk t).view.emb y) := by
  obtain ⟨r, l, rfl⟩ : ∃ r l, y = ix2 r l := ⟨y 0, y 1, (ix2_eta y).symm⟩
  have hr : t.val * 1024 + r.val < 4096 := by have : t.val < 4 := t.isLt; omega
  have e0 (k : Fin 1024) : (win0_0.blk t).view.emb (ix2 r k) = ix2 (⟨t.val * 1024 + r.val, hr⟩ : Fin 4096) k := by
    blk_ext [idx0]
  have e1 (k : Fin 1024) : (win0_1.blk t).view.emb (ix2 l k) = ix2 l k := by blk_ext [idx1]
  have e2 : (win0_2.blk t).view.emb (ix2 r l) = ix2 (⟨t.val * 1024 + r.val, hr⟩ : Fin 4096) l := by blk_ext [idx2]
  have e3 : (win0_3.blk t).view.emb (ix2 r l) = ix2 (⟨t.val * 1024 + r.val, hr⟩ : Fin 4096) l := by blk_ext [idx3]
  have e4 : (win0_4.blk t).view.emb (ix2 r l) = ix2 (⟨t.val * 1024 + r.val, hr⟩ : Fin 4096) l := by blk_ext [idx4]
  rw [pay_apply]
  blk_simp [iblk, e0, e1, e2, e3, e4]
  rw [V_main_arg0, V_main_arg1, V_main_arg2, V_main_arg3]
  rfl

theorem final_o (c : Dev nD) : (dats m 0 c).arrAt 4 cfg0.N =
    G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact blk m c t y

/-- At finite numbers the derivative that jax takes of the gelu, against the cotangent, is the kernel's product. -/
theorem cell (a y : ℝ) :
    (a : EReal) * (half * (1 + th y)) + scale * (half * ((y : EReal) * a) * ((1 + th y) * (1 - th y)))
      + cubic * (scale * (half * ((y : EReal) * a) * ((1 + th y) * (1 - th y)))) * (Ideal.ofBits FTy.f32 0x40400000#32 * ((y : EReal) * y))
      = (a : EReal) * slope y := by
  have ht : th y = ((Real.tanh (13386282 / 16777216 * (y + 8943 / 200000 * y * y * y)) : ℝ) : EReal) := by
    unfold th scale cubic
    rw [Cert.Finite.word_gelu_scale]
    simp only [← EReal.coe_mul, ← EReal.coe_add, Ideal.tanh_coe]
    congr 3
    norm_num
  unfold slope half scale cubic cubic3
  rw [ht, Cert.Finite.word_gelu_scale, Cert.Finite.word_half, Cert.Finite.word_three, ← EReal.coe_one]
  simp only [← EReal.coe_mul, ← EReal.coe_add, ← EReal.coe_sub]
  congr 1
  ring

/-- What the reference's body stores, entry by entry. -/
theorem ref_pay_apply (x0 : Vec Ideal S1024x1024 .bf16) (x1 : Vec Ideal S4096x1024 .f32) (x2 : Vec Ideal S4096x1024 .bf16)
    (x3 : Vec Ideal S4096x1024 .f32) (r : Fin 4096) (l : Fin 1024) (a y : ℝ)
    (ha : x3 (ix2 r l) + ∑ k : Fin 1024, x2 (ix2 r k) * x0 (ix2 l k) = (a : EReal)) (hy : x1 (ix2 r l) = (y : EReal)) :
    Cert.Reference3Ideal.Gen.k0_pay1 x0 x1 x2 x3 (ix2 r l) = (a : EReal) * slope y := by
  rw [← cell]
  have hc : (Named.named Cert.Reference3Ideal.κ "cubic" 0x3D372713#32 : Ideal .f32) = cubic := IdealRules.named_const.ideal_named_scalar _ _ _ _ rfl
  have ht : th y = Ideal.tanh (scale * (y + cubic * (y * (y * y)))) := by unfold th; simp only [mul_assoc]
  rw [ht]
  pointwise [Cert.Reference3Ideal.Gen.k0_pay1, hc, ha, hy]

/-- The precondition: all four arrays are real. -/
theorem reals (h : Cert.Pre_Kernel3Ideal_finite_gelu m) (c : Dev nD) :
    (∃ X : S4096x1024.Idx → ℝ, m ((c : Thread nD τ).loc main_arg0) = fun i => (X i : EReal))
    ∧ (∃ X : S4096x1024.Idx → ℝ, m ((c : Thread nD τ).loc main_arg1) = fun i => (X i : EReal))
    ∧ (∃ X : S4096x1024.Idx → ℝ, m ((c : Thread nD τ).loc main_arg2) = fun i => (X i : EReal))
    ∧ (∃ X : S1024x1024.Idx → ℝ, m ((c : Thread nD τ).loc main_arg3) = fun i => (X i : EReal)) := by
  obtain ⟨e, e3⟩ := Cert.Finite.andi_all (h c)
  obtain ⟨e, e2⟩ := Cert.Finite.andi_all e
  obtain ⟨e0, e1⟩ := Cert.Finite.andi_all e
  exact ⟨Cert.Finite.real_of_all _ Cert.Finite.inf_bf16 _ _ _ _ e0, Cert.Finite.real_of_all _ Cert.Finite.inf_f32 _ _ _ _ e1,
    Cert.Finite.real_of_all _ Cert.Finite.inf_f32 _ _ _ _ e2, Cert.Finite.real_of_all _ Cert.Finite.inf_bf16 _ _ _ _ e3⟩

/-- The constants' names, and the values that they stand for. -/
theorem preserves : Cert.preserves_Kernel3_Kernel3Ideal :=
  ⟨IdealRules.named_const.statement _ _ _ _ _ rfl, IdealRules.named_const.statement _ _ _ _ _ rfl⟩

/-- The kernel's array is the derivative of the gelu against the cotangents, wherever the arguments are finite. -/
theorem algebraic : Cert.algebraic_Kernel3Ideal_Reference3Ideal_pre_finite_gelu := by
  pair_intro
  · run_from (run_blocks m g)
  · run_from Cert.Reference3Ideal.Value.run m' g'
    rw [final_o]
    obtain ⟨⟨X0, e0⟩, ⟨X1, e1⟩, ⟨X2, e2⟩, ⟨X3, e3⟩⟩ := reals m hpre c
    rw [e0, e1, e2, e3]
    funext i
    obtain ⟨r, l, rfl⟩ : ∃ r l, i = ix2 r l := ⟨i 0, i 1, (ix2_eta i).symm⟩
    have ha : (X1 (ix2 r l) : EReal) + ∑ k : Fin 1024, (X0 (ix2 r k) : EReal) * (X3 (ix2 l k) : EReal)
        = ((X1 (ix2 r l) + ∑ k : Fin 1024, X0 (ix2 r k) * X3 (ix2 l k) : ℝ) : EReal) := by
      simp only [← EReal.coe_mul, Cert.Finite.sum_coe, ← EReal.coe_add]
    refine (ref_pay_apply (fun i => (X3 i : EReal)) (fun i => (X2 i : EReal)) (fun i => (X0 i : EReal)) (fun i => (X1 i : EReal)) r l
      _ (X2 (ix2 r l)) ha rfl).trans ?_
    rw [← ha]
    rfl

end Cert.Gelu
-- ==== Proof.Relu2.lean ====
/- The gradient through the second feed-forward product and its squared rectifier. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim
public import Idealize.ShloMosaic.Lib.StableHlo.ReadAt

@[expose] public section

noncomputable section

namespace Cert.Relu2

open Idealize Idealize.ShloMosaic Idealize.SL.Sem Idealize.ShloMosaic.TcCoe
open Cert.Kernel4Ideal Cert.Kernel4Ideal.Gen Cert.Kernel4Ideal.Value

variable (m : (ℓ : Loc nD τ sig) → Buf (Elt Ideal) ℓ)

/-- The first layer's product at an entry. -/
def pre (h : S4096x1024.Idx → EReal) (w1 : S1024x4096.Idx → EReal) (i : S4096x4096.Idx) : EReal :=
  ∑ k : Fin 1024, h (ix2 (i 0) k) * w1 (ix2 k (i 1))

/-- The cotangent against the second weight at an entry. -/
def back (ct : S4096x1024.Idx → EReal) (w2 : S4096x1024.Idx → EReal) (i : S4096x4096.Idx) : EReal :=
  ∑ k : Fin 1024, ct (ix2 (i 0) k) * w2 (ix2 (i 1) k)

/-- The gradient at one entry: the cotangent's row against the weight's row, times the derivative of the squared
    rectifier at the saved activation. -/
def G (ct : S4096x1024.Idx → EReal) (h : S4096x1024.Idx → EReal) (w1 : S1024x4096.Idx → EReal)
    (w2 : S4096x1024.Idx → EReal) (i : S4096x4096.Idx) : EReal :=
  back ct w2 i * (Ideal.ofBits FTy.f32 0x40000000#32 * max (pre h w1 i) 0)

/-- The block that a point stores, entry by entry. -/
theorem pay_apply (x0 : Vec Ideal S2048x1024 .bf16) (x1 : Vec Ideal S1024x1024 .bf16) (x2 : Vec Ideal S2048x1024 .bf16)
    (r : Fin 2048) (l : Fin 1024) :
    k0_pay1 x0 x1 x2 (ix2 r l) =
      (∑ k : Fin 1024, x0 (ix2 r k) * x1 (ix2 l k)) * (Ideal.ofBits FTy.f32 0x40000000#32 * x2 (ix2 r l)) := by
  pointwise [k0_pay1]

/-- The saved activation that the kernel reads: the rectified product of the first layer. -/
theorem act_apply (c : Dev nD) (r : Fin 4096) (l : Fin 4096) : (V m c main_v4 : S4096x4096.Idx → EReal) (ix2 r l) =
    max (pre (m ((c : Thread nD τ).loc main_arg1)) (m ((c : Thread nD τ).loc main_arg2)) (ix2 r l)) 0 := by
  after_reads_at
  rfl

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

theorem blk (c : Dev nD) (t : Fin cfg0.N) (y : S2048x1024.Idx) :
    k0_pay1 (iblk m c 0 t) (iblk m c 1 t) (iblk m c 2 t) y =
    G (m ((c : Thread nD τ).loc main_arg0)) (m ((c : Thread nD τ).loc main_arg1)) (m ((c : Thread nD τ).loc main_arg2)) (m ((c : Thread nD τ).loc main_arg3))
     ((win0_3.blk t).view.emb y) := by
  obtain ⟨r, l, rfl⟩ : ∃ r l, y = ix2 r l := ⟨y 0, y 1, (ix2_eta y).symm⟩
  have ht := t.isLt
  have hr : t.val / 4 * 2048 + r.val < 4096 := by have : t.val < 8 := ht; omega
  have hl : t.val % 4 * 1024 + l.val < 4096 := by omega
  have e0 (k : Fin 1024) : (win0_0.blk t).view.emb (ix2 r k) = ix2 (⟨t.val / 4 * 2048 + r.val, hr⟩ : Fin 4096) k := by
    blk_ext [idx0]
  have e1 (k : Fin 1024) : (win0_1.blk t).view.emb (ix2 l k) = ix2 (⟨t.val % 4 * 1024 + l.val, hl⟩ : Fin 4096) k := by
    blk_ext [idx1]
  have e2 : (win0_2.blk t).view.emb (ix2 r l) =
      ix2 (⟨t.val / 4 * 2048 + r.val, hr⟩ : Fin 4096) (⟨t.val % 4 * 1024 + l.val, hl⟩ : Fin 4096) := by
    blk_ext [idx2]
  have e3 : (win0_3.blk t).view.emb (ix2 r l) =
      ix2 (⟨t.val / 4 * 2048 + r.val, hr⟩ : Fin 4096) (⟨t.val % 4 * 1024 + l.val, hl⟩ : Fin 4096) := by
    blk_ext [idx3]
  rw [pay_apply]
  blk_simp [iblk, e0, e1, e2, e3]
  rw [act_apply, V_main_arg0, V_main_arg3]
  rfl

theorem final_o (c : Dev nD) : (dats m 0 c).arrAt 3 cfg0.N =
    G (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  frame_out
  exact blk m c t y

open Cert.Reference4Ideal.Read in
theorem ref_apply (x0 : S4096x1024.Idx → EReal) (x1 : S4096x1024.Idx → EReal) (x2 : S1024x4096.Idx → EReal)
    (x3 : S4096x1024.Idx → EReal) (r l : Fin 4096) :
    val_main_v17 (F := Ideal) x0 x1 x2 x3 (ix2 r l) = G x0 x1 x2 x3 (ix2 r l) := by
  pointwise [val_main_v17, val_main_v16, val_main_v15, val_main_v14, val_main_v13, val_main_v12, val_main_v10, val_main_v9,val_main_v6,val_main_v5,val_main_v4,val_main_v3,val_main_v2,val_main_v1,val_main_v0, val_main_cst,val_main_cst_0,val_main_cst_1,val_main_cst_2,val_main_call0_v0,val_main_call0_cst]
  show _ = back x0 x3 (ix2 r l) * (Ideal.ofBits FTy.f32 0x40000000#32 * max (pre x1 x2 (ix2 r l)) 0)
  change (if 0 < pre x1 x2 (ix2 r l) then _ else _) = _
  split_ifs with h
  · rfl
  · rw [max_eq_right (not_lt.mp h), mul_zero, mul_zero]

theorem algebraic : Cert.algebraic_Kernel4Ideal_Reference4Ideal := by
  pair_intro
  · run_from (run_blocks m g)
  · run_from Cert.Reference4Ideal.Value.run m' g'
    rw [final_o]
    funext i
    obtain ⟨r, l, rfl⟩ : ∃ r l, i = ix2 r l := ⟨i 0, i 1, (ix2_eta i).symm⟩
    exact ref_apply _ _ _ _ r l

end Cert.Relu2
-- ==== Proof.Rms.lean ====
/- The root-mean-square norm of a row of 1024 numbers, and the gradient that jax takes of it against the one written in
   closed form. -/
module

public import proofs.«01_k».proof.Proof.Finite

@[expose] public section

noncomputable section

namespace Cert.Rms

open Idealize Idealize.ShloMosaic

/-- The row's length, the number added under the root, and minus a half, as words denote them. -/
abbrev len : EReal := Ideal.ofBits FTy.f32 0x44800000#32
abbrev eps : EReal := Ideal.ofBits FTy.f32 0x358637BD#32
abbrev negHalf : EReal := Ideal.ofBits FTy.f32 0xBF000000#32

/-- The mean square of a row, with the number added under the root. -/
def ms (x : Fin 1024 → EReal) : EReal := Ideal.div (∑ k, x k * x k) len + eps

/-- The reciprocal of the root. -/
def rs (x : Fin 1024 → EReal) : EReal := Ideal.rsqrt (ms x)

/-- The gradient at the row against `d`, the gradient at the normed row, in closed form. -/
def dx (x d : Fin 1024 → EReal) (l : Fin 1024) : EReal :=
  rs x * (d l - x l * rs x * Ideal.div (∑ k, d k * (x k * rs x)) len)

/-- The gradient at the mean square, as the chain rule gives it, over the row's length. -/
def dms (x d : Fin 1024 → EReal) : EReal := Ideal.div ((∑ k, x k * d k) * (negHalf * Ideal.div (rs x) (ms x))) len

section
variable (X D : Fin 1024 → ℝ)

/-- The mean square over the reals, -/
def msR : ℝ := (∑ k, X k * X k) * (1 / 1024) + 8796093 / 8796093022208

theorem msR_pos : 0 < msR X := by
  unfold msR
  have : 0 ≤ ∑ k, X k * X k := Finset.sum_nonneg fun k _ => mul_self_nonneg _
  positivity

/-- and the reciprocal of its root. -/
def rsR : ℝ := (Real.sqrt (msR X))⁻¹

theorem rsR_sq : rsR X * rsR X = 1 / msR X := by
  unfold rsR
  rw [← mul_inv, Real.mul_self_sqrt (msR_pos X).le, one_div]

theorem ms_coe : ms (fun k => (X k : EReal)) = (msR X : EReal) := by
  unfold ms len eps
  rw [Cert.Finite.word_n1024, Cert.Finite.word_eps]
  simp only [← EReal.coe_mul, Cert.Finite.sum_coe]
  rw [Ideal.div_coe (by norm_num), ← EReal.coe_mul, ← EReal.coe_add]
  rfl

theorem rs_coe : rs (fun k => (X k : EReal)) = (rsR X : EReal) := by
  unfold rs
  rw [ms_coe, Ideal.rsqrt_coe, if_neg (msR_pos X).le.not_gt, if_neg (msR_pos X).ne']
  rfl

/-- The closed form over the reals, -/
def dxR (l : Fin 1024) : ℝ := rsR X * (D l - X l * rsR X * ((∑ k, D k * (X k * rsR X)) * (1 / 1024)))

/-- and the gradient at the mean square. -/
def dmsR : ℝ := (∑ k, X k * D k) * (-1 / 2 * (rsR X * (1 / msR X))) * (1 / 1024)

theorem dx_coe (l : Fin 1024) : dx (fun k => (X k : EReal)) (fun k => (D k : EReal)) l = (dxR X D l : EReal) := by
  unfold dx len
  rw [rs_coe, Cert.Finite.word_n1024]
  simp only [← EReal.coe_mul, Cert.Finite.sum_coe]
  rw [Ideal.div_coe (by norm_num)]
  simp only [← EReal.coe_mul, ← EReal.coe_sub]
  rfl

theorem dms_coe : dms (fun k => (X k : EReal)) (fun k => (D k : EReal)) = (dmsR X D : EReal) := by
  unfold dms len negHalf
  rw [rs_coe, ms_coe, Cert.Finite.word_n1024, Cert.Finite.word_neg_half, Ideal.div_coe (msR_pos X).ne',
    Ideal.div_coe (by norm_num)]
  simp only [← EReal.coe_mul, Cert.Finite.sum_coe]
  rfl

/-- The chain rule's gradient over the reals is the closed form. -/
theorem dxR_eq (l : Fin 1024) : D l * rsR X + X l * dmsR X D + dmsR X D * X l = dxR X D l := by
  unfold dxR dmsR
  have e : ∑ k, D k * (X k * rsR X) = (∑ k, X k * D k) * rsR X := by
    rw [Finset.sum_mul]
    exact Finset.sum_congr rfl fun k _ => by ring
  rw [e, ← rsR_sq]
  ring

end

/-- At real rows the gradient that the chain rule gives, added to any number, is the closed form. -/
theorem dx_eq (x d : Fin 1024 → EReal) (a : EReal) (l : Fin 1024) (hx : ∃ X : Fin 1024 → ℝ, x = fun k => (X k : EReal))
    (hd : ∃ D : Fin 1024 → ℝ, d = fun k => (D k : EReal)) :
    a + d l * rs x + x l * dms x d + dms x d * x l = dx x d l + a := by
  obtain ⟨X, rfl⟩ := hx
  obtain ⟨D, rfl⟩ := hd
  rw [dx_coe, dms_coe, rs_coe, ← dxR_eq, add_assoc, add_assoc, add_comm]
  simp only [← EReal.coe_mul, ← EReal.coe_add]
  rw [add_assoc]

end Cert.Rms
-- ==== Proof.NormRef.lean ====
/- The gradient through the modulated norm in front of a product, fused with that product's gradient. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_norm

@[expose] public section

noncomputable section

namespace Cert.Norm

open Idealize Idealize.ShloMosaic Idealize.SL.Sem Idealize.ShloMosaic.TcCoe
open Cert.Kernel5Ideal Cert.Kernel5Ideal.Gen Cert.Kernel5Ideal.Value

variable (m : (ℓ : Loc nD τ sig) → Buf (Elt Ideal) ℓ)

open Cert.Common Cert.Rms

/-- Three rows of 1024 end to end. -/
def cat (p q s : Fin 1024 → EReal) (x : Fin 3072) : EReal :=
  if h : x.val < 1024 then p ⟨x.val, h⟩
  else if h' : x.val - 1024 < 1024 then q ⟨x.val - 1024, h'⟩ else s ⟨x.val - 1024 - 1024, by omega⟩

/-- The cotangent, its three parts end to end, against the weight. -/
def dh (ct : S3x4096x1024.Idx → EReal) (w : S1024x3072.Idx → EReal) (i : S4096x1024.Idx) : EReal :=
  ∑ x : Fin 3072, cat (fun k => ct (ix3 0 (i 0) k)) (fun k => ct (ix3 1 (i 0) k)) (fun k => ct (ix3 2 (i 0) k)) x * w (ix2 (i 1) x)

/-- The gradient at the normed array plus what arrives past the norm, -/
def G5 (ct : S3x4096x1024.Idx → EReal) (dres x : S4096x1024.Idx → EReal) (wn : S1x1024.Idx → EReal) (w : S1024x3072.Idx → EReal)
    (i : S4096x1024.Idx) : EReal :=
  dx (fun k => x (ix2 (i 0) k)) (fun k => dh ct w (ix2 (i 0) k) * wn (ix2 0 k)) (i 1) + dres i

/-- and the gradients of the norm's weight and shift above six rows of zeros. -/
def G6 (ct : S3x4096x1024.Idx → EReal) (x : S4096x1024.Idx → EReal) (w : S1024x3072.Idx → EReal) (i : S8x1024.Idx) : EReal :=
  if (i 0).val = 1 then ∑ r : Fin 4096, dh ct w (ix2 r (i 1))
  else if (i 0).val = 0 then ∑ r : Fin 4096, dh ct w (ix2 r (i 1)) * (x (ix2 r (i 1)) * rs fun k => x (ix2 r k))
  else 0

/-! ## What one block computes -/

theorem pay7_apply (x : Vec Ideal S512x1024 .f32) (r : Fin 512) (l : Fin 1024) :
    k0_pay7 x (ix2 r l) = x (ix2 r l) * rs (fun k => x (ix2 r k)) := by
  pointwise [k0_pay7, k0_pay6]
  rfl

theorem pay8_apply (x0 x1 x2 : Vec Ideal S1x512x1024 .bf16) (w : Vec Ideal S1024x3072 .bf16) (x : Vec Ideal S512x1024 .f32) (wn : Vec Ideal S1x1024 .f32)
    (r : Fin 512) (l : Fin 1024) :
    k0_pay8 x0 x1 x2 w x wn (ix2 r l) = dx (fun k => x (ix2 r k)) (fun k => k0_pay5 x0 x1 x2 w (ix2 r k) * wn (ix2 0 k)) l := by
  pointwise [k0_pay8, k0_pay6, pay7_apply]
  rfl

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

section
variable (c : Dev nD)

abbrev A5 := G5 (m ((c : Thread nD τ).loc main_arg0)) (m ((c : Thread nD τ).loc main_arg1)) (m ((c : Thread nD τ).loc main_arg2)) (m ((c : Thread nD τ).loc main_arg3)) (m ((c : Thread nD τ).loc main_arg5))
abbrev A6 := G6 (m ((c : Thread nD τ).loc main_arg0)) (m ((c : Thread nD τ).loc main_arg2)) (m ((c : Thread nD τ).loc main_arg5))
abbrev Adh := dh (m ((c : Thread nD τ).loc main_arg0)) (m ((c : Thread nD τ).loc main_arg5))
abbrev Ax : S4096x1024.Idx → EReal := m ((c : Thread nD τ).loc main_arg2)

/-- The block of the product with the weight. -/
theorem bdh_apply (t : Fin cfg0.N) (r : Fin 512) (l : Fin 1024) :
    k0_pay5 (View.ld (iblk m c 0 t) (Rect.unit ![0, 0, 0] ![1, 512, 1024] inb_S3x512x1024_S1x512x1024_0_0_0))
    (View.ld (iblk m c 0 t) (Rect.unit ![1, 0, 0] ![1, 512, 1024] inb_S3x512x1024_S1x512x1024_1_0_0))
    (View.ld (iblk m c 0 t) (Rect.unit ![2, 0, 0] ![1, 512, 1024] inb_S3x512x1024_S1x512x1024_2_0_0)) (iblk m c 1 t) (ix2 r l) = Adh m c (ix2 (row t r) l) := by
  have e0 (q : Fin 3) (k : Fin 1024) : (win0_0.blk t).view.emb (ix3 q r k) = ix3 q (row t r) k := by blk_ext [idx0]
  have e1 (k : Fin 3072) : (win0_1.blk t).view.emb (ix2 l k) = ix2 l k := by blk_ext [idx1]
  pointwise [k0_pay5]
  blk_simp [iblk, e0, e1]
  rw [V_main_arg0, V_main_arg5]
  rfl

theorem bx (t : Fin cfg0.N) (r : Fin 512) (l : Fin 1024) :
    iblk m c 2 t (ix2 r l) = (m ((c : Thread nD τ).loc main_arg2) : S4096x1024.Idx → EReal) (ix2 (row t r) l) := by
  have e : (win0_2.blk t).view.emb (ix2 r l) = ix2 (row t r) l := by blk_ext [idx2]
  blk_simp [iblk, e]

theorem bw (t : Fin cfg0.N) (l : Fin 1024) :
    iblk m c 3 t (ix2 0 l) = (m ((c : Thread nD τ).loc main_arg3) : S1x1024.Idx → EReal) (ix2 0 l) := by
  have e : (win0_3.blk t).view.emb (ix2 0 l) = ix2 0 l := by blk_ext [idx3]
  blk_simp [iblk, e]

theorem bres (t : Fin cfg0.N) (r : Fin 512) (l : Fin 1024) :
    iblk m c 4 t (ix2 r l) = (m ((c : Thread nD τ).loc main_arg1) : S4096x1024.Idx → EReal) (ix2 (row t r) l) := by
  have e : (win0_4.blk t).view.emb (ix2 r l) = ix2 (row t r) l := by blk_ext [idx4]
  blk_simp [iblk, e]

/-! ## What the points leave in the outputs' buffers -/

theorem out5 (t : Fin cfg0.N) (r : Fin 512) (l : Fin 1024) :
    (outsAt0 m c t.val t.isLt).1 (ix2 r l) = A5 m c (ix2 (row t r) l) := by
  have e : (outsAt0 m c t.val t.isLt).1 = k0_pay1 (iblk m c 4 t) (k0_pay8 (View.ld (iblk m c 0 t) (Rect.unit ![0, 0, 0] ![1, 512, 1024] inb_S3x512x1024_S1x512x1024_0_0_0))
    (View.ld (iblk m c 0 t) (Rect.unit ![1, 0, 0] ![1, 512, 1024] inb_S3x512x1024_S1x512x1024_1_0_0))
    (View.ld (iblk m c 0 t) (Rect.unit ![2, 0, 0] ![1, 512, 1024] inb_S3x512x1024_S1x512x1024_2_0_0)) (iblk m c 1 t) (iblk m c 2 t) (iblk m c 3 t)) := by
    by_cases h : t.val % 8 = 0
    · rw [outsAt0_A m c t h]
      frame_out
      rfl
    · rw [outsAt0_B m c t h]
      frame_out
      rfl
  rw [e]
  pointwise [k0_pay1, pay8_apply]
  simp only [bx, bw, bres, bdh_apply]
  rfl

/-- What one point adds to the sums. -/
def inc (t : Fin cfg0.N) (j : S8x1024.Idx) : EReal :=
  if (j 0).val = 1 then ∑ r : Fin 512, Adh m c (ix2 (row t r) (j 1))
  else if (j 0).val = 0 then ∑ r : Fin 512, Adh m c (ix2 (row t r) (j 1)) * k0_pay7 (iblk m c 2 t) (ix2 r (j 1))
  else 0

theorem out6_A (t : Fin cfg0.N) (h : t.val % 8 = 0) (j : S8x1024.Idx) :
    (outsAt0 m c t.val t.isLt).2 j = 0 + inc m c t j := by
  obtain ⟨r, l, rfl⟩ : ∃ (r : Fin 8) (l : Fin 1024), j = ix2 r l := ⟨j 0, j 1, (ix2_eta j).symm⟩
  rw [outsAt0_A m c t h]
  frame_out
  erw [canon_row, canon_row, canon_whole (by decide)]
  change (if r.val = 1 then _ else if r.val = 0 then _ else _) = 0 + if r.val = 1 then _ else if r.val = 0 then _ else _
  rw [zero_add]
  split_ifs with h1 h0
  · pointwise [k0_pay4]
    erw [readCov_row _ _ 1 (by omega), read_row]
    rw [if_neg (show ¬ (1 : ℕ) = 0 by decide), View.read_writes_full]
    pointwise [k0_pay2]
    exact (Finset.sum_congr rfl fun x _ => bdh_apply m c t x l)
  · pointwise [k0_pay3]
    erw [readCov_row _ _ 0 (by omega)]
    rw [View.read_writes_full]
    pointwise [k0_pay2]
    exact (Finset.sum_congr rfl fun x _ => congrArg (· * _) (bdh_apply m c t x l))
  · pointwise [k0_pay2]

theorem out6_B (t : Fin cfg0.N) (h : ¬ t.val % 8 = 0) (j : S8x1024.Idx) :
    (outsAt0 m c t.val t.isLt).2 j =
      (outsAt0 m c (t.val - 1) (Nat.lt_of_le_of_lt (Nat.sub_le _ _) t.isLt)).2 j + inc m c t j := by
  obtain ⟨r, l, rfl⟩ : ∃ (r : Fin 8) (l : Fin 1024), j = ix2 r l := ⟨j 0, j 1, (ix2_eta j).symm⟩
  rw [outsAt0_B m c t h]
  generalize (outsAt0 m c (t.val - 1) (Nat.lt_of_le_of_lt (Nat.sub_le _ _) t.isLt)).2 = P
  frame_out
  erw [read_row, read_row]
  rw [View.writes_nil, Memref.IsWhole.read_unread]
  change (if r.val = 1 then _ else if r.val = 0 then _ else _) = _ + if r.val = 1 then _ else if r.val = 0 then _ else _
  split_ifs with h1 h0
  · obtain rfl : r = 1 := Fin.ext h1
    pointwise [k0_pay4]
    exact congrArg (_ + ·) (Finset.sum_congr rfl fun x _ => bdh_apply m c t x l)
  · obtain rfl : r = 0 := Fin.ext h0
    pointwise [k0_pay3]
    exact congrArg (_ + ·) (Finset.sum_congr rfl fun x _ => congrArg (· * _) (bdh_apply m c t x l))
  · exact (add_zero _).symm

/-! ## What the arrays hold -/

theorem final5 : (dats m 0 c).arrAt 5 cfg0.N = A5 m c := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, (ix2_eta y).symm⟩
  have e : (win0_5.blk t).view.emb (ix2 r l) = ix2 (row t r) l := by blk_ext [idx5]
  erw [e]
  exact out5 m c t r l

/-- After the last point the sums run over all rows. -/
theorem sums (j : S8x1024.Idx) : (outsAt0 m c t0_7.val t0_7.isLt).2 j = A6 m c j := by
  rw [Pipeline.eq_sum_fin_of_reset_step_apply_last (fun n h => (outsAt0 m c n h).2) 8 (fun _ => 0) (inc m c)
    (out6_A m c) (out6_B m c) (le_of_eq N_0) t0_7 rfl j, zero_add]
  change (∑ t, if (j 0).val = 1 then _ else if (j 0).val = 0 then _ else _) = if (j 0).val = 1 then _ else if (j 0).val = 0 then _ else _
  split_ifs with h1 h0
  · exact Fin.sum_mul_add_fin (S := 8) (n := 512) fun x : Fin 4096 => Adh m c (ix2 x (j 1))
  · refine Eq.trans ?_ (Fin.sum_mul_add_fin (S := 8) (n := 512) fun x : Fin 4096 => Adh m c (ix2 x (j 1)) * (Ax m c (ix2 x (j 1)) * rs fun k => Ax m c (ix2 x k)))
    refine Finset.sum_congr rfl fun t _ => Finset.sum_congr rfl fun r _ => ?_
    refine congrArg (_ * ·) ((pay7_apply _ r (j 1)).trans ?_)
    exact congrArg₂ (· * ·) (bx m c t r (j 1)) (congrArg rs (funext fun k => bx m c t r k))
  · exact Finset.sum_const_zero

theorem final6 : (dats m 0 c).arrAt 6 cfg0.N = A6 m c := by
  refine (dats m 0 c).arrAt_eq_of_covers 6 _ (by decide +kernel) fun t hf y => ?_
  obtain rfl : t = t0_7 := Fin.ext (by have := (flush0_6 t).mp hf; have h8 : t.val < 8 := t.isLt; show t.val = 7; omega)
  blk_simp
  rw [after0_6]
  obtain ⟨r, l, rfl⟩ : ∃ (r : Fin 8) (l : Fin 1024), y = ix2 r l := ⟨y 0, y 1, (ix2_eta y).symm⟩
  have e : (win0_6.blk t0_7).view.emb (ix2 r l) = ix2 r l := by blk_ext [idx6]
  erw [e]
  exact sums m c (ix2 r l)

/-! ## The precondition -/

theorem reals (h : Cert.Pre_Kernel5Ideal_finite_norm m) :
    (∃ X : S3x4096x1024.Idx → ℝ, m ((c : Thread nD τ).loc main_arg0) = fun i => (X i : EReal))
    ∧ (∃ X : S4096x1024.Idx → ℝ, m ((c : Thread nD τ).loc main_arg2) = fun i => (X i : EReal))
    ∧ (∃ X : S1x1024.Idx → ℝ, m ((c : Thread nD τ).loc main_arg3) = fun i => (X i : EReal))
    ∧ (∃ X : S1024x3072.Idx → ℝ, m ((c : Thread nD τ).loc main_arg5) = fun i => (X i : EReal)) := by
  obtain ⟨e, e3⟩ := Cert.Finite.andi_all (h c)
  obtain ⟨e, e2⟩ := Cert.Finite.andi_all e
  obtain ⟨e0, e1⟩ := Cert.Finite.andi_all e
  exact ⟨Cert.Finite.real_of_all _ Cert.Finite.inf_bf16 _ _ _ _ e0, Cert.Finite.real_of_all _ Cert.Finite.inf_f32 _ _ _ _ e1,
    Cert.Finite.real_of_all _ Cert.Finite.inf_f32 _ _ _ _ e2, Cert.Finite.real_of_all _ Cert.Finite.inf_bf16 _ _ _ _ e3⟩

end

/-- The product with the weight is real where both factors are. -/
theorem dh_real (ct : S3x4096x1024.Idx → ℝ) (w : S1024x3072.Idx → ℝ) :
    ∃ D : S4096x1024.Idx → ℝ, dh (fun i => (ct i : EReal)) (fun i => (w i : EReal)) = fun i => (D i : EReal) := by
  refine ⟨fun i => ∑ x : Fin 3072, (if h : x.val < 1024 then ct (ix3 0 (i 0) ⟨x.val, h⟩)
    else if h' : x.val - 1024 < 1024 then ct (ix3 1 (i 0) ⟨x.val - 1024, h'⟩) else ct (ix3 2 (i 0) ⟨x.val - 1024 - 1024, by omega⟩)) * w (ix2 (i 1) x), ?_⟩
  funext i
  rw [← Cert.Finite.sum_coe]
  refine Finset.sum_congr rfl fun x _ => ?_
  rw [EReal.coe_mul]
  congr 1
  unfold cat
  split_ifs <;> rfl

/-! ## The reference -/

open Cert.Reference5Ideal.Read in
theorem ref_dh (x0 : S3x4096x1024.Idx → EReal) (x5 : S1024x3072.Idx → EReal) (r : Fin 4096) (l : Fin 1024) :
    val_main_v27 (F := Ideal) x0 x5 (ix2 r l) = dh x0 x5 (ix2 r l) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst_3, val_main_v28, val_main_v29, val_main_v30, val_main_cst_4, val_main_v31, val_main_v32, val_main_v33, val_main_v34, val_main_v35, val_main_cst_5, val_main_v36, val_main_v37, val_main_v38, val_main_v39, val_main_v40, val_main_v41, val_main_cst_6, val_main_v42, val_main_v43, val_main_cst_7, val_main_v44, val_main_v45, val_main_v46, val_main_v47, val_main_v48, val_main_v49, val_main_cst_8, val_main_v50, val_main_v51]
  rfl

open Cert.Reference5Ideal.Read in
theorem ref5 (x0 : S3x4096x1024.Idx → EReal) (x1 x2 : S4096x1024.Idx → EReal) (x3 : S1x1024.Idx → EReal) (x5 : S1024x3072.Idx → EReal)
    (r : Fin 4096) (l : Fin 1024) :
    val_main_v49 (F := Ideal) x0 x1 x2 x3 x5 (ix2 r l) =
      x1 (ix2 r l) + dh x0 x5 (ix2 r l) * x3 (ix2 0 l) * rs (fun k => x2 (ix2 r k))
        + x2 (ix2 r l) * dms (fun k => x2 (ix2 r k)) (fun k => dh x0 x5 (ix2 r k) * x3 (ix2 0 k))
        + dms (fun k => x2 (ix2 r k)) (fun k => dh x0 x5 (ix2 r k) * x3 (ix2 0 k)) * x2 (ix2 r l) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_3, val_main_v28, val_main_v29, val_main_v30, val_main_cst_4, val_main_v31, val_main_v32, val_main_v33, val_main_v34, val_main_v35, val_main_cst_5, val_main_v36, val_main_v37, val_main_v38, val_main_v39, val_main_v40, val_main_v41, val_main_cst_6, val_main_v42, val_main_v43, val_main_cst_7, val_main_v44, val_main_v45, val_main_v46, val_main_v47, val_main_v48, val_main_v49, val_main_cst_8, val_main_v50, val_main_v51, ref_dh]
  simp only [Finset.univ_unique, Finset.sum_singleton]
  rfl

open Cert.Reference5Ideal.Read in
theorem ref6 (x0 : S3x4096x1024.Idx → EReal) (x2 : S4096x1024.Idx → EReal) (x5 : S1024x3072.Idx → EReal)
    (r : Fin 8) (l : Fin 1024) :
    val_main_v51 (F := Ideal) x0 x2 x5 (ix2 r l) = G6 x0 x2 x5 (ix2 r l) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_3, val_main_v28, val_main_v29, val_main_v30, val_main_cst_4, val_main_v31, val_main_v32, val_main_v33, val_main_v34, val_main_v35, val_main_cst_5, val_main_v36, val_main_v37, val_main_v38, val_main_v39, val_main_v40, val_main_v41, val_main_cst_6, val_main_v42, val_main_v43, val_main_cst_7, val_main_v44, val_main_v45, val_main_v46, val_main_v47, val_main_v48, val_main_v49, val_main_cst_8, val_main_v50, val_main_v51, ref_dh]
  change _ = if r.val = 1 then _ else if r.val = 0 then _ else _
  by_cases h0 : r.val = 0
  · rw [dif_pos (by omega), if_neg (by omega), if_pos h0]
    exact Finset.sum_congr rfl fun x _ => mul_comm _ _
  · rw [dif_neg (by omega)]
    by_cases h1 : r.val = 1
    · rw [dif_pos (by omega), if_pos h1]
      rfl
    · rw [dif_neg (by omega), if_neg h1, if_neg h0]

theorem algebraic : Cert.algebraic_Kernel5Ideal_Reference5Ideal_pre_finite_norm := by
  pair_intro
  · run_from (run_blocks m g)
  · run_from Cert.Reference5Ideal.Value.run m' g'
    · rw [final5]
      funext i
      obtain ⟨r, l, rfl⟩ : ∃ r l, i = ix2 r l := ⟨i 0, i 1, (ix2_eta i).symm⟩
      obtain ⟨h0, h1, h2, h3, h4, h5⟩ := hagree c
      rw [Cert.Reference5Ideal.Read.val_main_v49_eq]
      try simp only [h0, h1, h2, h3, h4, h5]
      refine (ref5 _ _ _ _ _ r l).trans ?_
      obtain ⟨⟨X0, e0⟩, ⟨X2, e2⟩, ⟨X3, e3⟩, ⟨X5, e5⟩⟩ := reals m c hpre
      obtain ⟨D, hD⟩ := dh_real X0 X5
      refine dx_eq (fun k => Ax m c (ix2 r k)) (fun k => Adh m c (ix2 r k) * (m ((c : Thread nD τ).loc main_arg3) : S1x1024.Idx → EReal) (ix2 0 k))
        ((m ((c : Thread nD τ).loc main_arg1) : S4096x1024.Idx → EReal) (ix2 r l)) l ⟨fun k => X2 (ix2 r k), ?_⟩ ⟨fun k => D (ix2 r k) * X3 (ix2 0 k), ?_⟩
      · funext k
        exact congrFun e2 (ix2 r k)
      · funext k
        rw [EReal.coe_mul]
        exact congrArg₂ (· * ·) ((congrFun (congrArg₂ dh e0 e5) _).trans (congrFun hD _)) (congrFun e3 (ix2 0 k))
    · rw [final6]
      funext i
      obtain ⟨r, l, rfl⟩ : ∃ r l, i = ix2 r l := ⟨i 0, i 1, (ix2_eta i).symm⟩
      obtain ⟨h0, h1, h2, h3, h4, h5⟩ := hagree c
      rw [Cert.Reference5Ideal.Read.val_main_v51_eq]
      try simp only [h0, h1, h2, h3, h4, h5]
      exact ref6 _ _ _ r l

end Cert.Norm
-- ==== Proof.GatedRef.lean ====
/- The gradient through the norm behind a gated residual addition, fused with a product's gradient. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_gated

@[expose] public section

noncomputable section

namespace Cert.Gated

open Idealize Idealize.ShloMosaic Idealize.SL.Sem Idealize.ShloMosaic.TcCoe
open Cert.Kernel6Ideal Cert.Kernel6Ideal.Gen Cert.Kernel6Ideal.Value

variable (m : (ℓ : Loc nD τ sig) → Buf (Elt Ideal) ℓ)

open Cert.Common Cert.Rms

/-- The cotangent against the weight. -/
def dh (ct : S4096x4096.Idx → EReal) (w : S1024x4096.Idx → EReal) (i : S4096x1024.Idx) : EReal :=
  ∑ x : Fin 4096, ct (ix2 (i 0) x) * w (ix2 (i 1) x)

/-- The residual stream behind the gated addition. -/
def mid (x y : S4096x1024.Idx → EReal) (g : S1x1024.Idx → EReal) (i : S4096x1024.Idx) : EReal :=
  x i + g (ix2 0 (i 1)) * y i

/-- With `d` the product: the gradient at the residual stream, through the norm, plus what arrives past it; -/
def G7 (d dres x y : S4096x1024.Idx → EReal) (g wn : S1x1024.Idx → EReal) (i : S4096x1024.Idx) : EReal :=
  dx (fun k => mid x y g (ix2 (i 0) k)) (fun k => d (ix2 (i 0) k) * wn (ix2 0 k)) (i 1) + dres i

/-- that at the gated branch; -/
def G8 (d dres x y : S4096x1024.Idx → EReal) (g wn : S1x1024.Idx → EReal) (i : S4096x1024.Idx) : EReal :=
  G7 d dres x y g wn i * g (ix2 0 (i 1))

/-- and those of the norm's weight, the shift and the gate above five rows of zeros. -/
def G9 (d dres x y : S4096x1024.Idx → EReal) (g wn : S1x1024.Idx → EReal) (i : S8x1024.Idx) : EReal :=
  if (i 0).val = 2 then ∑ r : Fin 4096, G7 d dres x y g wn (ix2 r (i 1)) * y (ix2 r (i 1))
  else if (i 0).val = 1 then ∑ r : Fin 4096, d (ix2 r (i 1))
  else if (i 0).val = 0 then
    ∑ r : Fin 4096, d (ix2 r (i 1)) * (mid x y g (ix2 r (i 1)) * rs fun k => mid x y g (ix2 r k))
  else 0

/-- Where the arguments are real so are the rows that the norm's gradient is taken of: in the derivative's shape it is the kernel's. -/
theorem dx_mid (d dres x y : S4096x1024.Idx → EReal) (g wn : S1x1024.Idx → EReal)
    (hd : ∃ X : S4096x1024.Idx → ℝ, d = fun i => (X i : EReal)) (hx : ∃ X : S4096x1024.Idx → ℝ, x = fun i => (X i : EReal))
    (hy : ∃ X : S4096x1024.Idx → ℝ, y = fun i => (X i : EReal)) (hg : ∃ X : S1x1024.Idx → ℝ, g = fun i => (X i : EReal))
    (hw : ∃ X : S1x1024.Idx → ℝ, wn = fun i => (X i : EReal)) (r : Fin 4096) (l : Fin 1024) :
    dres (ix2 r l) + d (ix2 r l) * wn (ix2 0 l) * rs (fun k => mid x y g (ix2 r k))
      + mid x y g (ix2 r l) * dms (fun k => mid x y g (ix2 r k)) (fun k => d (ix2 r k) * wn (ix2 0 k))
      + dms (fun k => mid x y g (ix2 r k)) (fun k => d (ix2 r k) * wn (ix2 0 k)) * mid x y g (ix2 r l)
      = G7 d dres x y g wn (ix2 r l) := by
  obtain ⟨D, rfl⟩ := hd
  obtain ⟨X, rfl⟩ := hx
  obtain ⟨Y, rfl⟩ := hy
  obtain ⟨G, rfl⟩ := hg
  obtain ⟨W, rfl⟩ := hw
  exact dx_eq _ _ _ l ⟨fun k => X (ix2 r k) + G (ix2 0 k) * Y (ix2 r k), funext fun k => by rw [EReal.coe_add, EReal.coe_mul]⟩
    ⟨fun k => D (ix2 r k) * W (ix2 0 k), funext fun k => by rw [EReal.coe_mul]⟩

/-! ## What one block computes -/

theorem pay9_apply (x : Vec Ideal S512x1024 .f32) (r : Fin 512) (l : Fin 1024) :
    k0_pay9 x (ix2 r l) = x (ix2 r l) * rs (fun k => x (ix2 r k)) := by
  pointwise [k0_pay9, k0_pay8, k0_pay7]
  rfl

theorem pay10_apply (a : Vec Ideal S512x4096 .bf16) (w : Vec Ideal S1024x4096 .bf16) (x : Vec Ideal S512x1024 .f32) (wn : Vec Ideal S1x1024 .f32)
    (d : Vec Ideal S512x1024 .f32) (r : Fin 512) (l : Fin 1024) :
    k0_pay10 a w x wn d (ix2 r l) = dx (fun k => x (ix2 r k)) (fun k => k0_pay6 a w (ix2 r k) * wn (ix2 0 k)) l + d (ix2 r l) := by
  pointwise [k0_pay10, k0_pay8, pay9_apply, k0_pay7]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

section
variable (c : Dev nD)

abbrev Adh := dh (m ((c : Thread nD τ).loc main_arg0)) (m ((c : Thread nD τ).loc main_arg7))
abbrev A7 := G7 (Adh m c) (m ((c : Thread nD τ).loc main_arg1)) (m ((c : Thread nD τ).loc main_arg2)) (m ((c : Thread nD τ).loc main_arg3)) (m ((c : Thread nD τ).loc main_arg4)) (m ((c : Thread nD τ).loc main_arg5))
abbrev A8 := G8 (Adh m c) (m ((c : Thread nD τ).loc main_arg1)) (m ((c : Thread nD τ).loc main_arg2)) (m ((c : Thread nD τ).loc main_arg3)) (m ((c : Thread nD τ).loc main_arg4)) (m ((c : Thread nD τ).loc main_arg5))
abbrev A9 := G9 (Adh m c) (m ((c : Thread nD τ).loc main_arg1)) (m ((c : Thread nD τ).loc main_arg2)) (m ((c : Thread nD τ).loc main_arg3)) (m ((c : Thread nD τ).loc main_arg4)) (m ((c : Thread nD τ).loc main_arg5))
abbrev Ares : S4096x1024.Idx → EReal := m ((c : Thread nD τ).loc main_arg1)
abbrev Ay : S4096x1024.Idx → EReal := m ((c : Thread nD τ).loc main_arg3)
abbrev Ag : S1x1024.Idx → EReal := m ((c : Thread nD τ).loc main_arg4)
abbrev Awn : S1x1024.Idx → EReal := m ((c : Thread nD τ).loc main_arg5)
abbrev Amid := mid (m ((c : Thread nD τ).loc main_arg2)) (m ((c : Thread nD τ).loc main_arg3)) (m ((c : Thread nD τ).loc main_arg4))

/-- The residual stream is computed before the kernel's call. -/
theorem V_mid (r : Fin 4096) (l : Fin 1024) : (V m c main_v3 : S4096x1024.Idx → EReal) (ix2 r l) = Amid m c (ix2 r l) := by
  after_reads_at
  rfl

theorem bdh (t : Fin cfg0.N) (r : Fin 512) (l : Fin 1024) : k0_pay6 (iblk m c 0 t) (iblk m c 1 t) (ix2 r l) = Adh m c (ix2 (row t r) l) := by
  have e0 (k : Fin 4096) : (win0_0.blk t).view.emb (ix2 r k) = ix2 (row t r) k := by blk_ext [idx0]
  have e1 (k : Fin 4096) : (win0_1.blk t).view.emb (ix2 l k) = ix2 l k := by blk_ext [idx1]
  pointwise [k0_pay6]
  blk_simp [iblk, e0, e1]
  rfl

theorem bx (t : Fin cfg0.N) (r : Fin 512) (l : Fin 1024) : iblk m c 2 t (ix2 r l) = Amid m c (ix2 (row t r) l) := by
  have e : (win0_2.blk t).view.emb (ix2 r l) = ix2 (row t r) l := by blk_ext [idx2]
  blk_simp [iblk, e]
  exact V_mid m c _ _

theorem bw (t : Fin cfg0.N) (l : Fin 1024) :
    iblk m c 3 t (ix2 0 l) = Awn m c (ix2 0 l) := by
  have e : (win0_3.blk t).view.emb (ix2 0 l) = ix2 0 l := by blk_ext [idx3]
  blk_simp [iblk, e]
  rw [V_main_arg5]

theorem bres (t : Fin cfg0.N) (r : Fin 512) (l : Fin 1024) :
    iblk m c 4 t (ix2 r l) = Ares m c (ix2 (row t r) l) := by
  have e : (win0_4.blk t).view.emb (ix2 r l) = ix2 (row t r) l := by blk_ext [idx4]
  blk_simp [iblk, e]
  rw [V_main_arg1]

theorem bval (t : Fin cfg0.N) (r : Fin 512) (l : Fin 1024) :
    iblk m c 5 t (ix2 r l) = Ay m c (ix2 (row t r) l) := by
  have e : (win0_5.blk t).view.emb (ix2 r l) = ix2 (row t r) l := by blk_ext [idx5]
  blk_simp [iblk, e]
  rw [V_main_arg3]

theorem bg (t : Fin cfg0.N) (l : Fin 1024) :
    iblk m c 6 t (ix2 0 l) = Ag m c (ix2 0 l) := by
  have e : (win0_6.blk t).view.emb (ix2 0 l) = ix2 0 l := by blk_ext [idx6]
  blk_simp [iblk, e]
  rw [V_main_arg4]

/-- The block of the gradient at the residual stream. -/
theorem bdx (t : Fin cfg0.N) (r : Fin 512) (l : Fin 1024) :
    k0_pay10 (iblk m c 0 t) (iblk m c 1 t) (iblk m c 2 t) (iblk m c 3 t) (iblk m c 4 t) (ix2 r l) = A7 m c (ix2 (row t r) l) := by
  rw [pay10_apply]
  simp only [bx, bw, bres, bdh]
  rfl

/-! ## What the points leave in the outputs' buffers -/

theorem out7 (t : Fin cfg0.N) : (outsAt0 m c t.val t.isLt).1 =
    k0_pay10 (iblk m c 0 t) (iblk m c 1 t) (iblk m c 2 t) (iblk m c 3 t) (iblk m c 4 t) := by
  by_cases h : t.val % 8 = 0
  · rw [outsAt0_A m c t h]
    frame_out
  · rw [outsAt0_B m c t h]
    frame_out

theorem out8 (t : Fin cfg0.N) : (outsAt0 m c t.val t.isLt).2.1 = k0_pay1 (iblk m c 6 t)
    (k0_pay10 (iblk m c 0 t) (iblk m c 1 t) (iblk m c 2 t) (iblk m c 3 t) (iblk m c 4 t)) := by
  by_cases h : t.val % 8 = 0
  · rw [outsAt0_A m c t h]
    frame_out
  · rw [outsAt0_B m c t h]
    frame_out

/-- What one point adds to the sums. -/
def inc (t : Fin cfg0.N) (j : S8x1024.Idx) : EReal :=
  if (j 0).val = 2 then ∑ r : Fin 512, A7 m c (ix2 (row t r) (j 1)) * iblk m c 5 t (ix2 r (j 1))
  else if (j 0).val = 1 then ∑ r : Fin 512, Adh m c (ix2 (row t r) (j 1))
  else if (j 0).val = 0 then ∑ r : Fin 512, Adh m c (ix2 (row t r) (j 1)) * k0_pay9 (iblk m c 2 t) (ix2 r (j 1))
  else 0

theorem out9_A (t : Fin cfg0.N) (h : t.val % 8 = 0) (j : S8x1024.Idx) :
    (outsAt0 m c t.val t.isLt).2.2 j = 0 + inc m c t j := by
  obtain ⟨r, l, rfl⟩ : ∃ (r : Fin 8) (l : Fin 1024), j = ix2 r l := ⟨j 0, j 1, (ix2_eta j).symm⟩
  rw [outsAt0_A m c t h]
  frame_out
  erw [canon_row, canon_row, canon_row, canon_whole (by decide)]
  change (if r.val = 2 then _ else if r.val = 1 then _ else if r.val = 0 then _ else _) =
    0 + if r.val = 2 then _ else if r.val = 1 then _ else if r.val = 0 then _ else _
  rw [zero_add]
  split_ifs with h2 h1 h0
  · pointwise [k0_pay5]
    erw [readCov_row _ _ 2 (by omega), read_row, read_row]
    rw [if_neg (show ¬ (2 : ℕ) = 1 by decide), if_neg (show ¬ (2 : ℕ) = 0 by decide), View.read_writes_full]
    pointwise [k0_pay2]
    exact Finset.sum_congr rfl fun x _ => congrArg (· * _) (bdx m c t x l)
  · pointwise [k0_pay4]
    erw [readCov_row _ _ 1 (by omega), read_row]
    rw [if_neg (show ¬ (1 : ℕ) = 0 by decide), View.read_writes_full]
    pointwise [k0_pay2]
    exact Finset.sum_congr rfl fun x _ => bdh m c t x l
  · pointwise [k0_pay3, k0_pay11]
    erw [readCov_row _ _ 0 (by omega)]
    rw [View.read_writes_full]
    pointwise [k0_pay2]
    exact Finset.sum_congr rfl fun x _ => congrArg (· * _) (bdh m c t x l)
  · pointwise [k0_pay2]

theorem out9_B (t : Fin cfg0.N) (h : ¬ t.val % 8 = 0) (j : S8x1024.Idx) :
    (outsAt0 m c t.val t.isLt).2.2 j =
      (outsAt0 m c (t.val - 1) (Nat.lt_of_le_of_lt (Nat.sub_le _ _) t.isLt)).2.2 j + inc m c t j := by
  obtain ⟨r, l, rfl⟩ : ∃ (r : Fin 8) (l : Fin 1024), j = ix2 r l := ⟨j 0, j 1, (ix2_eta j).symm⟩
  rw [outsAt0_B m c t h]
  generalize (outsAt0 m c (t.val - 1) (Nat.lt_of_le_of_lt (Nat.sub_le _ _) t.isLt)).2.2 = P
  frame_out
  erw [read_row, read_row, read_row]
  rw [View.writes_nil, Memref.IsWhole.read_unread]
  change (if r.val = 2 then _ else if r.val = 1 then _ else if r.val = 0 then _ else _) =
    _ + if r.val = 2 then _ else if r.val = 1 then _ else if r.val = 0 then _ else _
  split_ifs with h2 h1 h0
  · obtain rfl : r = 2 := Fin.ext h2
    pointwise [k0_pay5]
    exact congrArg (_ + ·) (Finset.sum_congr rfl fun x _ => congrArg (· * _) (bdx m c t x l))
  · obtain rfl : r = 1 := Fin.ext h1
    pointwise [k0_pay4]
    exact congrArg (_ + ·) (Finset.sum_congr rfl fun x _ => bdh m c t x l)
  · obtain rfl : r = 0 := Fin.ext h0
    pointwise [k0_pay3, k0_pay11]
    exact congrArg (_ + ·) (Finset.sum_congr rfl fun x _ => congrArg (· * _) (bdh m c t x l))
  · exact (add_zero _).symm

/-! ## What the arrays hold -/

theorem final7 : (dats m 0 c).arrAt 7 cfg0.N = A7 m c := by
  refine (dats m 0 c).arrAt_eq_of_covers 7 _ (by decide +kernel) fun t hf y => ?_
  blk_simp
  rw [after0_7, out7]
  obtain ⟨r, l, rfl⟩ : ∃ (r : Fin 512) (l : Fin 1024), y = ix2 r l := ⟨y 0, y 1, (ix2_eta y).symm⟩
  have e : (win0_7.blk t).view.emb (ix2 r l) = ix2 (row t r) l := by blk_ext [idx7]
  erw [e]
  exact bdx m c t r l

theorem final8 : (dats m 0 c).arrAt 8 cfg0.N = A8 m c := by
  refine (dats m 0 c).arrAt_eq_of_covers 8 _ (by decide +kernel) fun t hf y => ?_
  blk_simp
  rw [after0_8, out8]
  obtain ⟨r, l, rfl⟩ : ∃ (r : Fin 512) (l : Fin 1024), y = ix2 r l := ⟨y 0, y 1, (ix2_eta y).symm⟩
  have e : (win0_8.blk t).view.emb (ix2 r l) = ix2 (row t r) l := by blk_ext [idx8]
  erw [e]
  pointwise [k0_pay1]
  exact congrArg₂ (· * ·) (bdx m c t r l) (bg m c t l)

/-- After the last point the sums run over all rows. -/
theorem sums (j : S8x1024.Idx) : (outsAt0 m c t0_7.val t0_7.isLt).2.2 j = A9 m c j := by
  rw [Pipeline.eq_sum_fin_of_reset_step_apply_last (fun n h => (outsAt0 m c n h).2.2) 8 (fun _ => 0) (inc m c)
    (out9_A m c) (out9_B m c) (le_of_eq N_0) t0_7 rfl j, zero_add]
  change (∑ t, if (j 0).val = 2 then _ else if (j 0).val = 1 then _ else if (j 0).val = 0 then _ else _) =
    if (j 0).val = 2 then _ else if (j 0).val = 1 then _ else if (j 0).val = 0 then _ else _
  split_ifs with h2 h1 h0
  · refine Eq.trans ?_ (Fin.sum_mul_add_fin (S := 8) (n := 512) fun x : Fin 4096 => A7 m c (ix2 x (j 1)) * Ay m c (ix2 x (j 1)))
    exact Finset.sum_congr rfl fun t _ => Finset.sum_congr rfl fun r _ => congrArg (_ * ·) (bval m c t r (j 1))
  · exact Fin.sum_mul_add_fin (S := 8) (n := 512) fun x : Fin 4096 => Adh m c (ix2 x (j 1))
  · refine Eq.trans ?_ (Fin.sum_mul_add_fin (S := 8) (n := 512) fun x : Fin 4096 => Adh m c (ix2 x (j 1)) *
      (Amid m c (ix2 x (j 1)) * rs fun k => Amid m c (ix2 x k)))
    refine Finset.sum_congr rfl fun t _ => Finset.sum_congr rfl fun r _ => ?_
    refine congrArg (_ * ·) ((pay9_apply _ r (j 1)).trans ?_)
    exact congrArg₂ (· * ·) (bx m c t r (j 1)) (congrArg rs (funext fun k => bx m c t r k))
  · exact Finset.sum_const_zero

theorem final9 : (dats m 0 c).arrAt 9 cfg0.N = A9 m c := by
  refine (dats m 0 c).arrAt_eq_of_covers 9 _ (by decide +kernel) fun t hf y => ?_
  obtain rfl : t = t0_7 := Fin.ext (by have := (flush0_9 t).mp hf; have h8 : t.val < 8 := t.isLt; show t.val = 7; omega)
  blk_simp
  rw [after0_9]
  obtain ⟨r, l, rfl⟩ : ∃ (r : Fin 8) (l : Fin 1024), y = ix2 r l := ⟨y 0, y 1, (ix2_eta y).symm⟩
  have e : (win0_9.blk t0_7).view.emb (ix2 r l) = ix2 r l := by blk_ext [idx9]
  erw [e]
  exact sums m c (ix2 r l)

/-! ## The precondition -/

theorem reals (h : Cert.Pre_Kernel6Ideal_finite_gated m) :
    (∃ X : S4096x4096.Idx → ℝ, m ((c : Thread nD τ).loc main_arg0) = fun i => (X i : EReal))
    ∧ (∃ X : S4096x1024.Idx → ℝ, m ((c : Thread nD τ).loc main_arg2) = fun i => (X i : EReal))
    ∧ (∃ X : S4096x1024.Idx → ℝ, m ((c : Thread nD τ).loc main_arg3) = fun i => (X i : EReal))
    ∧ (∃ X : S1x1024.Idx → ℝ, m ((c : Thread nD τ).loc main_arg4) = fun i => (X i : EReal))
    ∧ (∃ X : S1x1024.Idx → ℝ, m ((c : Thread nD τ).loc main_arg5) = fun i => (X i : EReal))
    ∧ (∃ X : S1024x4096.Idx → ℝ, m ((c : Thread nD τ).loc main_arg7) = fun i => (X i : EReal)) := by
  obtain ⟨e, e5⟩ := Cert.Finite.andi_all (h c)
  obtain ⟨e, e4⟩ := Cert.Finite.andi_all e
  obtain ⟨e, e3⟩ := Cert.Finite.andi_all e
  obtain ⟨e, e2⟩ := Cert.Finite.andi_all e
  obtain ⟨e0, e1⟩ := Cert.Finite.andi_all e
  exact ⟨Cert.Finite.real_of_all _ Cert.Finite.inf_bf16 _ _ _ _ e0, Cert.Finite.real_of_all _ Cert.Finite.inf_f32 _ _ _ _ e1,
    Cert.Finite.real_of_all _ Cert.Finite.inf_bf16 _ _ _ _ e2, Cert.Finite.real_of_all _ Cert.Finite.inf_f32 _ _ _ _ e3,
    Cert.Finite.real_of_all _ Cert.Finite.inf_f32 _ _ _ _ e4, Cert.Finite.real_of_all _ Cert.Finite.inf_bf16 _ _ _ _ e5⟩

theorem dx_rows (h : Cert.Pre_Kernel6Ideal_finite_gated m) (r : Fin 4096) (l : Fin 1024) :
    Ares m c (ix2 r l) + Adh m c (ix2 r l) * Awn m c (ix2 0 l) * rs (fun k => Amid m c (ix2 r k))
      + Amid m c (ix2 r l) * dms (fun k => Amid m c (ix2 r k)) (fun k => Adh m c (ix2 r k) * Awn m c (ix2 0 k))
      + dms (fun k => Amid m c (ix2 r k)) (fun k => Adh m c (ix2 r k) * Awn m c (ix2 0 k)) * Amid m c (ix2 r l)
      = A7 m c (ix2 r l) := by
  obtain ⟨⟨X0, e0⟩, e2, e3, e4, e5, ⟨X7, e7⟩⟩ := reals m c h
  refine dx_mid _ _ _ _ _ _ ⟨fun i => ∑ x : Fin 4096, X0 (ix2 (i 0) x) * X7 (ix2 (i 1) x), ?_⟩ e2 e3 e4 e5 r l
  funext i
  rw [← Cert.Finite.sum_coe]
  refine Finset.sum_congr rfl fun x _ => ?_
  rw [EReal.coe_mul]
  exact congrArg₂ (· * ·) (congrFun e0 _) (congrFun e7 _)

end

/-! ## The reference -/

open Cert.Reference6Ideal.Read in
theorem ref_dh (x0 : S4096x4096.Idx → EReal) (x7 : S1024x4096.Idx → EReal) (r : Fin 4096) (l : Fin 1024) :
    val_main_v24 (F := Ideal) x0 x7 (ix2 r l) = dh x0 x7 (ix2 r l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_v24, val_main_cst_3, val_main_v25, val_main_v26, val_main_v27, val_main_cst_4, val_main_v28, val_main_v29, val_main_v30, val_main_v31, val_main_v32, val_main_cst_5, val_main_v33, val_main_v34, val_main_v35, val_main_v36, val_main_v37, val_main_v38, val_main_cst_6, val_main_v39, val_main_v40, val_main_cst_7, val_main_v41, val_main_v42, val_main_v43, val_main_v44, val_main_v45, val_main_v46, val_main_v47, val_main_v48, val_main_v49, val_main_v50, val_main_cst_8, val_main_v51, val_main_v52, val_main_v53, val_main_cst_9, val_main_v54, val_main_v55]
  rfl

open Cert.Reference6Ideal.Read in
theorem ref_mid (x2 x3 : S4096x1024.Idx → EReal) (x4 : S1x1024.Idx → EReal) (r : Fin 4096) (l : Fin 1024) :
    val_main_v4 (F := Ideal) x2 x3 x4 (ix2 r l) = mid x2 x3 x4 (ix2 r l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_v24, val_main_cst_3, val_main_v25, val_main_v26, val_main_v27, val_main_cst_4, val_main_v28, val_main_v29, val_main_v30, val_main_v31, val_main_v32, val_main_cst_5, val_main_v33, val_main_v34, val_main_v35, val_main_v36, val_main_v37, val_main_v38, val_main_cst_6, val_main_v39, val_main_v40, val_main_cst_7, val_main_v41, val_main_v42, val_main_v43, val_main_v44, val_main_v45, val_main_v46, val_main_v47, val_main_v48, val_main_v49, val_main_v50, val_main_cst_8, val_main_v51, val_main_v52, val_main_v53, val_main_cst_9, val_main_v54, val_main_v55]
  rfl

open Cert.Reference6Ideal.Read in
theorem ref7 (x0 : S4096x4096.Idx → EReal) (x1 x2 x3 : S4096x1024.Idx → EReal) (x4 x5 : S1x1024.Idx → EReal) (x7 : S1024x4096.Idx → EReal)
    (r : Fin 4096) (l : Fin 1024) :
    val_main_v46 (F := Ideal) x0 x1 x2 x3 x4 x5 x7 (ix2 r l) =
      x1 (ix2 r l) + dh x0 x7 (ix2 r l) * x5 (ix2 0 l) * rs (fun k => mid x2 x3 x4 (ix2 r k))
        + mid x2 x3 x4 (ix2 r l) * dms (fun k => mid x2 x3 x4 (ix2 r k)) (fun k => dh x0 x7 (ix2 r k) * x5 (ix2 0 k))
        + dms (fun k => mid x2 x3 x4 (ix2 r k)) (fun k => dh x0 x7 (ix2 r k) * x5 (ix2 0 k)) * mid x2 x3 x4 (ix2 r l) := by
  pointwise [val_main_v0, val_main_v1, val_main_v2, val_main_v3, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_cst_3, val_main_v25, val_main_v26, val_main_v27, val_main_cst_4, val_main_v28, val_main_v29, val_main_v30, val_main_v31, val_main_v32, val_main_cst_5, val_main_v33, val_main_v34, val_main_v35, val_main_v36, val_main_v37, val_main_v38, val_main_cst_6, val_main_v39, val_main_v40, val_main_cst_7, val_main_v41, val_main_v42, val_main_v43, val_main_v44, val_main_v45, val_main_v46, val_main_v47, val_main_v48, val_main_v49, val_main_v50, val_main_cst_8, val_main_v51, val_main_v52, val_main_v53, val_main_cst_9, val_main_v54, val_main_v55, ref_dh, ref_mid]
  simp only [Finset.univ_unique, Finset.sum_singleton]
  rfl

open Cert.Reference6Ideal.Read in
theorem ref8 (x0 : S4096x4096.Idx → EReal) (x1 x2 x3 : S4096x1024.Idx → EReal) (x4 x5 : S1x1024.Idx → EReal) (x7 : S1024x4096.Idx → EReal)
    (r : Fin 4096) (l : Fin 1024) :
    val_main_v53 (F := Ideal) x0 x1 x2 x3 x4 x5 x7 (ix2 r l) = val_main_v46 (F := Ideal) x0 x1 x2 x3 x4 x5 x7 (ix2 r l) * x4 (ix2 0 l) := by
  pointwise [val_main_v53, val_main_v49, val_main_v48, val_main_v47]
  exact mul_comm _ _

open Cert.Reference6Ideal.Read in
theorem ref9 (x0 : S4096x4096.Idx → EReal) (x1 x2 x3 : S4096x1024.Idx → EReal) (x4 x5 : S1x1024.Idx → EReal) (x7 : S1024x4096.Idx → EReal)
    (h : ∀ r l, val_main_v46 (F := Ideal) x0 x1 x2 x3 x4 x5 x7 (ix2 r l) = G7 (dh x0 x7) x1 x2 x3 x4 x5 (ix2 r l))
    (r : Fin 8) (l : Fin 1024) :
    val_main_v55 (F := Ideal) x0 x1 x2 x3 x4 x5 x7 (ix2 r l) = G9 (dh x0 x7) x1 x2 x3 x4 x5 (ix2 r l) := by
  pointwise [val_main_v0, val_main_v1, val_main_v2, val_main_v3, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_cst_3, val_main_v25, val_main_v26, val_main_v27, val_main_cst_4, val_main_v28, val_main_v29, val_main_v30, val_main_v31, val_main_v32, val_main_cst_5, val_main_v33, val_main_v34, val_main_v35, val_main_v36, val_main_v37, val_main_v38, val_main_cst_6, val_main_v39, val_main_v40, val_main_cst_7, val_main_v41, val_main_v42, val_main_v43, val_main_v44, val_main_v45, val_main_v47, val_main_v48, val_main_v49, val_main_v50, val_main_cst_8, val_main_v51, val_main_v52, val_main_v53, val_main_cst_9, val_main_v54, val_main_v55, ref_dh, ref_mid, h]
  change _ = if r.val = 2 then _ else if r.val = 1 then _ else if r.val = 0 then _ else _
  by_cases h0 : r.val = 0
  · rw [dif_pos (by omega), if_neg (by omega), if_neg (by omega), if_pos h0]
    exact Finset.sum_congr rfl fun x _ => mul_comm _ _
  · rw [dif_neg (by omega)]
    by_cases h1 : r.val = 1
    · rw [dif_pos (by omega), if_neg (by omega), if_pos h1]
      rfl
    · rw [dif_neg (by omega)]
      by_cases h2 : r.val = 2
      · rw [dif_pos (by omega), if_pos h2]
        rfl
      · rw [dif_neg (by omega), if_neg h2, if_neg h1, if_neg h0]

theorem algebraic : Cert.algebraic_Kernel6Ideal_Reference6Ideal_pre_finite_gated := by
  pair_intro
  · run_from (run_blocks m g)
  · have hd (c : Dev nD) (r : Fin 4096) (l : Fin 1024) := (ref7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) r l).trans (dx_rows m c hpre r l)
    run_from Cert.Reference6Ideal.Value.run m' g'
    · rw [final7]
      funext i
      obtain ⟨r, l, rfl⟩ : ∃ r l, i = ix2 r l := ⟨i 0, i 1, (ix2_eta i).symm⟩
      obtain ⟨h0, h1, h2, h3, h4, h5, h6, h7⟩ := hagree c
      rw [Cert.Reference6Ideal.Read.val_main_v46_eq]
      try simp only [h0, h1, h2, h3, h4, h5, h6, h7]
      exact hd c r l
    · rw [final8]
      funext i
      obtain ⟨r, l, rfl⟩ : ∃ r l, i = ix2 r l := ⟨i 0, i 1, (ix2_eta i).symm⟩
      obtain ⟨h0, h1, h2, h3, h4, h5, h6, h7⟩ := hagree c
      rw [Cert.Reference6Ideal.Read.val_main_v53_eq]
      try simp only [h0, h1, h2, h3, h4, h5, h6, h7]
      exact (ref8 _ _ _ _ _ _ _ r l).trans (congrArg (· * _) (hd c r l))
    · rw [final9]
      funext i
      obtain ⟨r, l, rfl⟩ : ∃ r l, i = ix2 r l := ⟨i 0, i 1, (ix2_eta i).symm⟩
      obtain ⟨h0, h1, h2, h3, h4, h5, h6, h7⟩ := hagree c
      rw [Cert.Reference6Ideal.Read.val_main_v55_eq]
      try simp only [h0, h1, h2, h3, h4, h5, h6, h7]
      exact ref9 _ _ _ _ _ _ _ (hd c) r l

end Cert.Gated
-- ==== Proof.LossRef.lean ====
/- The last product with the loss behind it and the gradient through the loss and the last norm. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_loss

@[expose] public section

noncomputable section

namespace Cert.Loss

open Idealize Idealize.ShloMosaic Idealize.SL.Sem Idealize.ShloMosaic.TcCoe
open Cert.Kernel7Ideal Cert.Kernel7Ideal.Gen Cert.Kernel7Ideal.Value

variable (m : (ℓ : Loc nD τ sig) → Buf (Elt Ideal) ℓ)

open Cert.Common Cert.Rms

abbrev half : EReal := Ideal.ofBits FTy.f32 0x3F000000#32
abbrev two : EReal := Ideal.ofBits FTy.f32 0x40000000#32
abbrev inv : EReal := Ideal.ofBits FTy.f32 0x3A800000#32

/-- The last product: the squares of the positive parts against the weight; -/
def ff (a : S4096x4096.Idx → EReal) (w : S4096x1024.Idx → EReal) (i : S4096x1024.Idx) : EReal :=
  ∑ x : Fin 4096, max (a (ix2 (i 0) x)) 0 * max (a (ix2 (i 0) x)) 0 * w (ix2 x (i 1))

/-- the residual stream behind it; -/
def mid (a : S4096x4096.Idx → EReal) (w x : S4096x1024.Idx → EReal) (g : S1x1024.Idx → EReal) (i : S4096x1024.Idx) : EReal :=
  x i + g (ix2 0 (i 1)) * ff a w i

/-- the normed stream; -/
def xn (a : S4096x4096.Idx → EReal) (w x : S4096x1024.Idx → EReal) (g : S1x1024.Idx → EReal) (i : S4096x1024.Idx) : EReal :=
  mid a w x g i * rs fun k => mid a w x g (ix2 (i 0) k)

/-- the error. -/
def err (a : S4096x4096.Idx → EReal) (w x : S4096x1024.Idx → EReal) (g : S1x1024.Idx → EReal) (tgt : S4096x1024.Idx → EReal) (fg : S1x1024.Idx → EReal) (i : S4096x1024.Idx) : EReal :=
  xn a w x g i * fg (ix2 0 (i 1)) - tgt i

/-- The gradient at the residual stream; -/
def G6 (a : S4096x4096.Idx → EReal) (w x : S4096x1024.Idx → EReal) (g : S1x1024.Idx → EReal) (tgt : S4096x1024.Idx → EReal) (fg : S1x1024.Idx → EReal) (i : S4096x1024.Idx) : EReal :=
  dx (fun k => mid a w x g (ix2 (i 0) k)) (fun k => err a w x g tgt fg (ix2 (i 0) k) * inv * fg (ix2 0 k)) (i 1)

/-- that at the product; -/
def G7 (a : S4096x4096.Idx → EReal) (w x : S4096x1024.Idx → EReal) (g : S1x1024.Idx → EReal) (tgt : S4096x1024.Idx → EReal) (fg : S1x1024.Idx → EReal) (i : S4096x1024.Idx) : EReal := G6 a w x g tgt fg i * g (ix2 0 (i 1))

/-- the mean square error of a row; -/
def mse (a : S4096x4096.Idx → EReal) (w x : S4096x1024.Idx → EReal) (g : S1x1024.Idx → EReal) (tgt : S4096x1024.Idx → EReal) (fg : S1x1024.Idx → EReal) (r : Fin 4096) : EReal :=
  Ideal.div (∑ k, err a w x g tgt fg (ix2 r k) * err a w x g tgt fg (ix2 r k)) len

/-- and the loss and the gradients of the norm's weight and the gate above five rows of zeros. -/
def G8 (a : S4096x4096.Idx → EReal) (w x : S4096x1024.Idx → EReal) (g : S1x1024.Idx → EReal) (tgt : S4096x1024.Idx → EReal) (fg : S1x1024.Idx → EReal) (i : S8x1024.Idx) : EReal :=
  if (i 0).val = 2 then ∑ r : Fin 4096, G6 a w x g tgt fg (ix2 r (i 1)) * ff a w (ix2 r (i 1))
  else if (i 0).val = 1 then ∑ r : Fin 4096, err a w x g tgt fg (ix2 r (i 1)) * inv * xn a w x g (ix2 r (i 1))
  else if (i 0).val = 0 then ∑ r : Fin 4096, half * mse a w x g tgt fg r
  else 0

/-- One half multiplies a sum term by term, whatever the terms. -/
theorem half_sum {ι : Type} (s : Finset ι) (f : ι → EReal) : half * ∑ i ∈ s, f i = ∑ i ∈ s, half * f i := by
  have h0 : (0 : EReal) ≤ half := by
    rw [half, Cert.Finite.word_half]
    exact EReal.coe_nonneg.mpr (by norm_num)
  have h1 : half ≠ ⊤ := by
    rw [half, Cert.Finite.word_half]
    exact EReal.coe_ne_top _
  induction s using Finset.cons_induction with
  | empty => simp
  | cons i s hi ih => rw [Finset.sum_cons, Finset.sum_cons, EReal.left_distrib_of_nonneg_of_ne_top h0 h1, ih]

/-- The factor of the mean and of the square together are the kernel's one factor. -/
theorem factors (e : EReal) : Ideal.div half len * (two * e) = e * inv := by
  rw [half, two, inv, len, Cert.Finite.word_half, Cert.Finite.word_two, Cert.Finite.word_inv1024, Cert.Finite.word_n1024,
    Ideal.div_coe (by norm_num), ← mul_assoc, ← EReal.coe_mul, ← EReal.coe_mul, mul_comm]
  congr 2
  norm_num

/-! ## What one block computes -/

section
variable (a : Vec Ideal S512x4096 .bf16) (w : Vec Ideal S4096x1024 .bf16) (x : Vec Ideal S512x1024 .f32) (g : Vec Ideal S1x1024 .f32)
  (tgt : Vec Ideal S512x1024 .f32) (fg : Vec Ideal S1x1024 .f32) (r : Fin 512) (l : Fin 1024)

theorem pay2_apply : k0_pay2 a w (ix2 r l) = ∑ k : Fin 4096, a (ix2 r k) * a (ix2 r k) * w (ix2 k l) := by
  pointwise [k0_pay2]

theorem pay3_apply : k0_pay3 a w x g (ix2 r l) = x (ix2 r l) + g (ix2 0 l) * k0_pay2 a w (ix2 r l) := by
  pointwise [k0_pay3]

theorem pay5_apply : k0_pay5 a w x g (ix2 r l) = k0_pay3 a w x g (ix2 r l) * rs (fun k => k0_pay3 a w x g (ix2 r k)) := by
  pointwise [k0_pay5, k0_pay4]
  rfl

theorem pay6_apply : k0_pay6 a w x g tgt fg (ix2 r l) = k0_pay5 a w x g (ix2 r l) * fg (ix2 0 l) - tgt (ix2 r l) := by
  pointwise [k0_pay6]

theorem pay7_eq : k0_pay7 a w x g tgt fg = half * ∑ r : Fin 512, Ideal.div (∑ k : Fin 1024, k0_pay6 a w x g tgt fg (ix2 r k) * k0_pay6 a w x g tgt fg (ix2 r k)) len := by
  pointwise [k0_pay7]
  simp only [Finset.univ_unique, Finset.sum_singleton]

theorem pay9_apply : k0_pay9 fg (k0_pay4 a w x g) (k0_pay5 a w x g) (k0_pay6 a w x g tgt fg) (ix2 r l) =
    dx (fun k => k0_pay3 a w x g (ix2 r k)) (fun k => k0_pay6 a w x g tgt fg (ix2 r k) * inv * fg (ix2 0 k)) l := by
  pointwise [k0_pay9, k0_pay8, pay5_apply, k0_pay4]
  rfl
end

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

section
variable (c : Dev nD)

abbrev Aff := ff (m ((c : Thread nD τ).loc main_arg0)) (m ((c : Thread nD τ).loc main_arg1))
abbrev Amid := mid (m ((c : Thread nD τ).loc main_arg0)) (m ((c : Thread nD τ).loc main_arg1)) (m ((c : Thread nD τ).loc main_arg2)) (m ((c : Thread nD τ).loc main_arg3))
abbrev Axn := xn (m ((c : Thread nD τ).loc main_arg0)) (m ((c : Thread nD τ).loc main_arg1)) (m ((c : Thread nD τ).loc main_arg2)) (m ((c : Thread nD τ).loc main_arg3))
abbrev Aerr := err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev A6 := G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev A7 := G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev A8 := G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev Amse := mse (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev Ax : S4096x1024.Idx → EReal := m ((c : Thread nD τ).loc main_arg2)
abbrev Ag : S1x1024.Idx → EReal := m ((c : Thread nD τ).loc main_arg3)
abbrev Atgt : S4096x1024.Idx → EReal := m ((c : Thread nD τ).loc main_arg4)
abbrev Afg : S1x1024.Idx → EReal := m ((c : Thread nD τ).loc main_arg5)
abbrev Aa : S4096x4096.Idx → EReal := m ((c : Thread nD τ).loc main_arg0)

/-- The positive parts are taken before the kernel's call. -/
theorem V_relu (r : Fin 4096) (l : Fin 4096) : (V m c main_v0 : S4096x4096.Idx → EReal) (ix2 r l) = max (Aa m c (ix2 r l)) 0 := by
  after_reads_at

/-- The block's product. -/
theorem bff (t : Fin cfg0.N) (r : Fin 512) (l : Fin 1024) : k0_pay2 (iblk m c 0 t) (iblk m c 1 t) (ix2 r l) = Aff m c (ix2 (row t r) l) := by
  have e0 (k : Fin 4096) : (win0_0.blk t).view.emb (ix2 r k) = ix2 (row t r) k := by blk_ext [idx0]
  have e1 (k : Fin 4096) : (win0_1.blk t).view.emb (ix2 k l) = ix2 k l := by blk_ext [idx1]
  rw [pay2_apply]
  blk_simp [iblk, e0, e1]
  rw [V_main_arg1]
  exact Finset.sum_congr rfl fun k _ => congrArg (fun z : EReal => z * z * _) (V_relu m c (row t r) k)

theorem bx (t : Fin cfg0.N) (r : Fin 512) (l : Fin 1024) : iblk m c 2 t (ix2 r l) = Ax m c (ix2 (row t r) l) := by
  have e : (win0_2.blk t).view.emb (ix2 r l) = ix2 (row t r) l := by blk_ext [idx2]
  blk_simp [iblk, e]
  rw [V_main_arg2]

theorem bg (t : Fin cfg0.N) (l : Fin 1024) : iblk m c 3 t (ix2 0 l) = Ag m c (ix2 0 l) := by
  have e : (win0_3.blk t).view.emb (ix2 0 l) = ix2 0 l := by blk_ext [idx3]
  blk_simp [iblk, e]
  rw [V_main_arg3]

theorem btgt (t : Fin cfg0.N) (r : Fin 512) (l : Fin 1024) : iblk m c 4 t (ix2 r l) = Atgt m c (ix2 (row t r) l) := by
  have e : (win0_4.blk t).view.emb (ix2 r l) = ix2 (row t r) l := by blk_ext [idx4]
  blk_simp [iblk, e]
  rw [V_main_arg4]

theorem bfg (t : Fin cfg0.N) (l : Fin 1024) : iblk m c 5 t (ix2 0 l) = Afg m c (ix2 0 l) := by
  have e : (win0_5.blk t).view.emb (ix2 0 l) = ix2 0 l := by blk_ext [idx5]
  blk_simp [iblk, e]
  rw [V_main_arg5]

theorem bmid (t : Fin cfg0.N) (r : Fin 512) (l : Fin 1024) :
    k0_pay3 (iblk m c 0 t) (iblk m c 1 t) (iblk m c 2 t) (iblk m c 3 t) (ix2 r l) = Amid m c (ix2 (row t r) l) := by
  rw [pay3_apply, bx, bff]
  exact congrArg (fun z : EReal => _ + z * Aff m c (ix2 (row t r) l)) (bg m c t l)

theorem bxn (t : Fin cfg0.N) (r : Fin 512) (l : Fin 1024) :
    k0_pay5 (iblk m c 0 t) (iblk m c 1 t) (iblk m c 2 t) (iblk m c 3 t) (ix2 r l) = Axn m c (ix2 (row t r) l) := by
  rw [pay5_apply]
  simp only [bmid]
  rfl

theorem berr (t : Fin cfg0.N) (r : Fin 512) (l : Fin 1024) :
    k0_pay6 (iblk m c 0 t) (iblk m c 1 t) (iblk m c 2 t) (iblk m c 3 t) (iblk m c 4 t) (iblk m c 5 t) (ix2 r l) = Aerr m c (ix2 (row t r) l) := by
  rw [pay6_apply, bxn, btgt]
  exact congrArg (_ * · - _) (bfg m c t l)

/-- The block of the gradient at the residual stream. -/
abbrev pdx (t : Fin cfg0.N) : FVec Ideal S512x1024 .f32 :=
  k0_pay9 (iblk m c 5 t) (k0_pay4 (iblk m c 0 t) (iblk m c 1 t) (iblk m c 2 t) (iblk m c 3 t))
    (k0_pay5 (iblk m c 0 t) (iblk m c 1 t) (iblk m c 2 t) (iblk m c 3 t))
    (k0_pay6 (iblk m c 0 t) (iblk m c 1 t) (iblk m c 2 t) (iblk m c 3 t) (iblk m c 4 t) (iblk m c 5 t))

theorem bdx (t : Fin cfg0.N) (r : Fin 512) (l : Fin 1024) : pdx m c t (ix2 r l) = A6 m c (ix2 (row t r) l) := by
  rw [pdx, pay9_apply]
  simp only [bmid, berr, bfg]
  rfl

/-! ## What the points leave in the outputs' buffers -/

theorem out6 (t : Fin cfg0.N) : (outsAt0 m c t.val t.isLt).1 = pdx m c t := by
  by_cases h : t.val % 8 = 0
  · rw [outsAt0_A m c t h]
    frame_out
  · rw [outsAt0_B m c t h]
    frame_out

theorem out7 (t : Fin cfg0.N) : (outsAt0 m c t.val t.isLt).2.1 = k0_pay11 (iblk m c 3 t) (iblk m c 5 t)
    (k0_pay4 (iblk m c 0 t) (iblk m c 1 t) (iblk m c 2 t) (iblk m c 3 t))
    (k0_pay5 (iblk m c 0 t) (iblk m c 1 t) (iblk m c 2 t) (iblk m c 3 t))
    (k0_pay6 (iblk m c 0 t) (iblk m c 1 t) (iblk m c 2 t) (iblk m c 3 t) (iblk m c 4 t) (iblk m c 5 t)) := by
  by_cases h : t.val % 8 = 0
  · rw [outsAt0_A m c t h]
    frame_out
  · rw [outsAt0_B m c t h]
    frame_out

/-- What one point adds to the sums. -/
def inc (t : Fin cfg0.N) (j : S8x1024.Idx) : EReal :=
  if (j 0).val = 2 then ∑ r : Fin 512, A6 m c (ix2 (row t r) (j 1)) * Aff m c (ix2 (row t r) (j 1))
  else if (j 0).val = 1 then ∑ r : Fin 512, Aerr m c (ix2 (row t r) (j 1)) * inv * Axn m c (ix2 (row t r) (j 1))
  else if (j 0).val = 0 then half * ∑ r : Fin 512, Amse m c (row t r)
  else 0

theorem inc2 (t : Fin cfg0.N) (l : Fin 1024) : ∑ x : Fin 512, pdx m c t (ix2 x l) * k0_pay2 (iblk m c 0 t) (iblk m c 1 t) (ix2 x l) =
    ∑ r : Fin 512, A6 m c (ix2 (row t r) l) * Aff m c (ix2 (row t r) l) :=
  Finset.sum_congr rfl fun x _ => congrArg₂ (· * ·) (bdx m c t x l) (bff m c t x l)

theorem inc1 (t : Fin cfg0.N) (l : Fin 1024) :
    ∑ x : Fin 512, k0_pay6 (iblk m c 0 t) (iblk m c 1 t) (iblk m c 2 t) (iblk m c 3 t) (iblk m c 4 t) (iblk m c 5 t) (ix2 x l) * inv *
      k0_pay5 (iblk m c 0 t) (iblk m c 1 t) (iblk m c 2 t) (iblk m c 3 t) (ix2 x l) =
    ∑ r : Fin 512, Aerr m c (ix2 (row t r) l) * inv * Axn m c (ix2 (row t r) l) :=
  Finset.sum_congr rfl fun x _ => congrArg₂ (· * inv * ·) (berr m c t x l) (bxn m c t x l)

theorem inc0 (t : Fin cfg0.N) :
    k0_pay7 (iblk m c 0 t) (iblk m c 1 t) (iblk m c 2 t) (iblk m c 3 t) (iblk m c 4 t) (iblk m c 5 t) = half * ∑ r : Fin 512, Amse m c (row t r) := by
  rw [pay7_eq]
  simp only [berr]
  rfl

theorem out8_A (t : Fin cfg0.N) (h : t.val % 8 = 0) (j : S8x1024.Idx) :
    (outsAt0 m c t.val t.isLt).2.2 j = 0 + inc m c t j := by
  obtain ⟨r, l, rfl⟩ : ∃ (r : Fin 8) (l : Fin 1024), j = ix2 r l := ⟨j 0, j 1, (ix2_eta j).symm⟩
  rw [outsAt0_A m c t h]
  frame_out
  erw [canon_row, canon_row, canon_row, canon_whole (by decide)]
  change (if r.val = 2 then _ else if r.val = 1 then _ else if r.val = 0 then _ else _) =
    0 + if r.val = 2 then _ else if r.val = 1 then _ else if r.val = 0 then _ else _
  rw [zero_add]
  split_ifs with h2 h1 h0
  · pointwise [k0_pay1, k0_pay10]
    erw [readCov_row _ _ 2 (by omega), read_row, read_row]
    rw [if_neg (show ¬ (2 : ℕ) = 1 by decide), if_neg (show ¬ (2 : ℕ) = 0 by decide), View.read_writes_full]
    pointwise [k0_pay12]
    exact inc2 m c t l
  · pointwise [k0_pay14, k0_pay8]
    erw [readCov_row _ _ 1 (by omega), read_row]
    rw [if_neg (show ¬ (1 : ℕ) = 0 by decide), View.read_writes_full]
    pointwise [k0_pay12]
    exact inc1 m c t l
  · pointwise [k0_pay13]
    erw [readCov_row _ _ 0 (by omega)]
    rw [View.read_writes_full]
    pointwise [k0_pay12]
    exact inc0 m c t
  · pointwise [k0_pay12]

theorem out8_B (t : Fin cfg0.N) (h : ¬ t.val % 8 = 0) (j : S8x1024.Idx) :
    (outsAt0 m c t.val t.isLt).2.2 j =
      (outsAt0 m c (t.val - 1) (Nat.lt_of_le_of_lt (Nat.sub_le _ _) t.isLt)).2.2 j + inc m c t j := by
  obtain ⟨r, l, rfl⟩ : ∃ (r : Fin 8) (l : Fin 1024), j = ix2 r l := ⟨j 0, j 1, (ix2_eta j).symm⟩
  rw [outsAt0_B m c t h]
  generalize (outsAt0 m c (t.val - 1) (Nat.lt_of_le_of_lt (Nat.sub_le _ _) t.isLt)).2.2 = P
  frame_out
  erw [read_row, read_row, read_row]
  rw [View.writes_nil, Memref.IsWhole.read_unread]
  change (if r.val = 2 then _ else if r.val = 1 then _ else if r.val = 0 then _ else _) =
    _ + if r.val = 2 then _ else if r.val = 1 then _ else if r.val = 0 then _ else _
  split_ifs with h2 h1 h0
  · obtain rfl : r = 2 := Fin.ext h2
    pointwise [k0_pay1, k0_pay10]
    exact congrArg (_ + ·) (inc2 m c t l)
  · obtain rfl : r = 1 := Fin.ext h1
    pointwise [k0_pay14, k0_pay8]
    exact congrArg (_ + ·) (inc1 m c t l)
  · obtain rfl : r = 0 := Fin.ext h0
    pointwise [k0_pay13]
    exact congrArg (_ + ·) (inc0 m c t)
  · exact (add_zero _).symm

/-! ## What the arrays hold -/

theorem final6 : (dats m 0 c).arrAt 6 cfg0.N = A6 m c := by
  refine (dats m 0 c).arrAt_eq_of_covers 6 _ (by decide +kernel) fun t hf y => ?_
  blk_simp
  rw [after0_6, out6]
  obtain ⟨r, l, rfl⟩ : ∃ (r : Fin 512) (l : Fin 1024), y = ix2 r l := ⟨y 0, y 1, (ix2_eta y).symm⟩
  have e : (win0_6.blk t).view.emb (ix2 r l) = ix2 (row t r) l := by blk_ext [idx6]
  erw [e]
  exact bdx m c t r l

theorem final7 : (dats m 0 c).arrAt 7 cfg0.N = A7 m c := by
  refine (dats m 0 c).arrAt_eq_of_covers 7 _ (by decide +kernel) fun t hf y => ?_
  blk_simp
  rw [after0_7, out7]
  obtain ⟨r, l, rfl⟩ : ∃ (r : Fin 512) (l : Fin 1024), y = ix2 r l := ⟨y 0, y 1, (ix2_eta y).symm⟩
  have e : (win0_7.blk t).view.emb (ix2 r l) = ix2 (row t r) l := by blk_ext [idx7]
  erw [e]
  pointwise [k0_pay11]
  exact congrArg₂ (· * ·) (bdx m c t r l) (bg m c t l)

/-- After the last point the sums run over all rows. -/
theorem sums (j : S8x1024.Idx) : (outsAt0 m c t0_7.val t0_7.isLt).2.2 j = A8 m c j := by
  rw [Pipeline.eq_sum_fin_of_reset_step_apply_last (fun n h => (outsAt0 m c n h).2.2) 8 (fun _ => 0) (inc m c)
    (out8_A m c) (out8_B m c) (le_of_eq N_0) t0_7 rfl j, zero_add]
  change (∑ t, if (j 0).val = 2 then _ else if (j 0).val = 1 then _ else if (j 0).val = 0 then _ else _) =
    if (j 0).val = 2 then _ else if (j 0).val = 1 then _ else if (j 0).val = 0 then _ else _
  split_ifs with h2 h1 h0
  · exact Fin.sum_mul_add_fin (S := 8) (n := 512) fun x : Fin 4096 => A6 m c (ix2 x (j 1)) * Aff m c (ix2 x (j 1))
  · exact Fin.sum_mul_add_fin (S := 8) (n := 512) fun x : Fin 4096 => Aerr m c (ix2 x (j 1)) * inv * Axn m c (ix2 x (j 1))
  · refine Eq.trans ?_ (Fin.sum_mul_add_fin (S := 8) (n := 512) fun x : Fin 4096 => half * Amse m c x)
    exact Finset.sum_congr rfl fun t _ => half_sum _ _
  · exact Finset.sum_const_zero

theorem final8 : (dats m 0 c).arrAt 8 cfg0.N = A8 m c := by
  refine (dats m 0 c).arrAt_eq_of_covers 8 _ (by decide +kernel) fun t hf y => ?_
  obtain rfl : t = t0_7 := Fin.ext (by have := (flush0_8 t).mp hf; have h8 : t.val < 8 := t.isLt; show t.val = 7; omega)
  blk_simp
  rw [after0_8]
  obtain ⟨r, l, rfl⟩ : ∃ (r : Fin 8) (l : Fin 1024), y = ix2 r l := ⟨y 0, y 1, (ix2_eta y).symm⟩
  have e : (win0_8.blk t0_7).view.emb (ix2 r l) = ix2 r l := by blk_ext [idx8]
  erw [e]
  exact sums m c (ix2 r l)

/-! ## The precondition -/

theorem reals (h : Cert.Pre_Kernel7Ideal_finite_loss m) :
    (∃ X : S4096x4096.Idx → ℝ, m ((c : Thread nD τ).loc main_arg0) = fun i => (X i : EReal))
    ∧ (∃ X : S4096x1024.Idx → ℝ, m ((c : Thread nD τ).loc main_arg1) = fun i => (X i : EReal))
    ∧ (∃ X : S4096x1024.Idx → ℝ, m ((c : Thread nD τ).loc main_arg2) = fun i => (X i : EReal))
    ∧ (∃ X : S1x1024.Idx → ℝ, m ((c : Thread nD τ).loc main_arg3) = fun i => (X i : EReal))
    ∧ (∃ X : S4096x1024.Idx → ℝ, m ((c : Thread nD τ).loc main_arg4) = fun i => (X i : EReal))
    ∧ (∃ X : S1x1024.Idx → ℝ, m ((c : Thread nD τ).loc main_arg5) = fun i => (X i : EReal)) := by
  obtain ⟨e, e5⟩ := Cert.Finite.andi_all (h c)
  obtain ⟨e, e4⟩ := Cert.Finite.andi_all e
  obtain ⟨e, e3⟩ := Cert.Finite.andi_all e
  obtain ⟨e, e2⟩ := Cert.Finite.andi_all e
  obtain ⟨e0, e1⟩ := Cert.Finite.andi_all e
  exact ⟨Cert.Finite.real_of_all _ Cert.Finite.inf_bf16 _ _ _ _ e0, Cert.Finite.real_of_all _ Cert.Finite.inf_bf16 _ _ _ _ e1,
    Cert.Finite.real_of_all _ Cert.Finite.inf_f32 _ _ _ _ e2, Cert.Finite.real_of_all _ Cert.Finite.inf_f32 _ _ _ _ e3,
    Cert.Finite.real_of_all _ Cert.Finite.inf_f32 _ _ _ _ e4, Cert.Finite.real_of_all _ Cert.Finite.inf_f32 _ _ _ _ e5⟩

theorem max_zero_coe (x : ℝ) : max (x : EReal) 0 = ((max x 0 : ℝ) : EReal) := by
  rw [← EReal.coe_zero]
  exact (EReal.coe_strictMono.monotone.map_max).symm

/-- The rows of the residual stream are real, and so are those of the gradient at the normed stream. -/
theorem rows_real (h : Cert.Pre_Kernel7Ideal_finite_loss m) (r : Fin 4096) :
    (∃ X : Fin 1024 → ℝ, (fun k => Amid m c (ix2 r k)) = fun k => (X k : EReal)) ∧
    ∃ D : Fin 1024 → ℝ, (fun k => Aerr m c (ix2 r k) * inv * Afg m c (ix2 0 k)) = fun k => (D k : EReal) := by
  obtain ⟨⟨X0, e0⟩, ⟨X1, e1⟩, ⟨X2, e2⟩, ⟨X3, e3⟩, ⟨X4, e4⟩, ⟨X5, e5⟩⟩ := reals m c h
  have hx : (fun k => Amid m c (ix2 r k)) = fun k => ((X2 (ix2 r k) + X3 (ix2 0 k) * (∑ x : Fin 4096, max (X0 (ix2 r x)) 0 * max (X0 (ix2 r x)) 0 * X1 (ix2 x k)) : ℝ) : EReal) := by
    funext k
    rw [EReal.coe_add, EReal.coe_mul, ← Cert.Finite.sum_coe]
    refine congrArg₂ (· + ·) (congrFun e2 _) (congrArg₂ (· * ·) (congrFun e3 _) (Finset.sum_congr rfl fun x _ => ?_))
    rw [EReal.coe_mul, EReal.coe_mul, ← max_zero_coe]
    exact congrArg₂ (· * ·) (congrArg (fun z : EReal => max z 0 * max z 0) (congrFun e0 _)) (congrFun e1 _)
  obtain ⟨M, hx⟩ : ∃ M : Fin 1024 → ℝ, (fun k => Amid m c (ix2 r k)) = fun k => (M k : EReal) := ⟨_, hx⟩
  refine ⟨⟨M, hx⟩, ?_⟩
  refine ⟨fun k => (M k * rsR M * X5 (ix2 0 k) - X4 (ix2 r k)) * (1 / 1024) * X5 (ix2 0 k), ?_⟩
  funext k
  rw [EReal.coe_mul, EReal.coe_mul, EReal.coe_sub, EReal.coe_mul, EReal.coe_mul, ← rs_coe, ← hx, ← Cert.Finite.word_inv1024, ← congrFun hx k]
  exact congrArg₂ (fun (p q : EReal) => (_ * p - q) * _ * p) (congrFun e5 _) (congrFun e4 _)

/-- In the derivative's shape the gradient at the residual stream is the kernel's. -/
theorem dx_rows (h : Cert.Pre_Kernel7Ideal_finite_loss m) (r : Fin 4096) (l : Fin 1024) :
    Aerr m c (ix2 r l) * inv * Afg m c (ix2 0 l) * rs (fun k => Amid m c (ix2 r k))
      + Amid m c (ix2 r l) * dms (fun k => Amid m c (ix2 r k)) (fun k => Aerr m c (ix2 r k) * inv * Afg m c (ix2 0 k))
      + dms (fun k => Amid m c (ix2 r k)) (fun k => Aerr m c (ix2 r k) * inv * Afg m c (ix2 0 k)) * Amid m c (ix2 r l)
      = A6 m c (ix2 r l) := by
  have := dx_eq (fun k => Amid m c (ix2 r k)) (fun k => Aerr m c (ix2 r k) * inv * Afg m c (ix2 0 k)) 0 l (rows_real m c h r).1 (rows_real m c h r).2
  rw [zero_add, add_zero] at this
  exact this

end

/-! ## The reference -/

section
variable (x0 : S4096x4096.Idx → EReal) (x1 x2 : S4096x1024.Idx → EReal) (x3 : S1x1024.Idx → EReal) (x4 : S4096x1024.Idx → EReal) (x5 : S1x1024.Idx → EReal)
  (r : Fin 4096) (l : Fin 1024)

open Cert.Reference7Ideal.Read in
theorem ref_ff : val_main_v4 (F := Ideal) x0 x1 (ix2 r l) = ff x0 x1 (ix2 r l) := by
  pointwise [val_main_v0, val_main_call0_cst, val_main_call0_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_v43, val_main_cst_12, val_main_v44, val_main_v45, val_main_v46, val_main_v47, val_main_v48, val_main_cst_13, val_main_v49, val_main_v50, val_main_cst_14, val_main_v51, val_main_v52, val_main_v53, val_main_v54, val_main_v55, val_main_v56, val_main_v57, val_main_v58, val_main_v59, val_main_cst_15, val_main_v60, val_main_v61, val_main_v62, val_main_v63, val_main_cst_16, val_main_v64, val_main_v65]
  rfl

open Cert.Reference7Ideal.Read in
theorem ref_mid : val_main_v7 (F := Ideal) x0 x1 x2 x3 (ix2 r l) = mid x0 x1 x2 x3 (ix2 r l) := by
  pointwise [val_main_v0, val_main_call0_cst, val_main_call0_v0, val_main_v1, val_main_v2, val_main_v3, val_main_v5, val_main_v6, val_main_v7, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_v43, val_main_cst_12, val_main_v44, val_main_v45, val_main_v46, val_main_v47, val_main_v48, val_main_cst_13, val_main_v49, val_main_v50, val_main_cst_14, val_main_v51, val_main_v52, val_main_v53, val_main_v54, val_main_v55, val_main_v56, val_main_v57, val_main_v58, val_main_v59, val_main_cst_15, val_main_v60, val_main_v61, val_main_v62, val_main_v63, val_main_cst_16, val_main_v64, val_main_v65, ref_ff]
  rfl

open Cert.Reference7Ideal.Read in
theorem ref_err : val_main_v23 (F := Ideal) x0 x1 x2 x3 x4 x5 (ix2 r l) = err x0 x1 x2 x3 x4 x5 (ix2 r l) := by
  pointwise [val_main_v0, val_main_call0_cst, val_main_call0_v0, val_main_v1, val_main_v2, val_main_v3, val_main_v5, val_main_v6, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_v43, val_main_cst_12, val_main_v44, val_main_v45, val_main_v46, val_main_v47, val_main_v48, val_main_cst_13, val_main_v49, val_main_v50, val_main_cst_14, val_main_v51, val_main_v52, val_main_v53, val_main_v54, val_main_v55, val_main_v56, val_main_v57, val_main_v58, val_main_v59, val_main_cst_15, val_main_v60, val_main_v61, val_main_v62, val_main_v63, val_main_cst_16, val_main_v64, val_main_v65, ref_mid]
  rfl

open Cert.Reference7Ideal.Read in
theorem ref6 : val_main_v56 (F := Ideal) x0 x1 x2 x3 x4 x5 (ix2 r l) =
    err x0 x1 x2 x3 x4 x5 (ix2 r l) * inv * x5 (ix2 0 l) * rs (fun k => mid x0 x1 x2 x3 (ix2 r k))
      + mid x0 x1 x2 x3 (ix2 r l) * dms (fun k => mid x0 x1 x2 x3 (ix2 r k)) (fun k => err x0 x1 x2 x3 x4 x5 (ix2 r k) * inv * x5 (ix2 0 k))
      + dms (fun k => mid x0 x1 x2 x3 (ix2 r k)) (fun k => err x0 x1 x2 x3 x4 x5 (ix2 r k) * inv * x5 (ix2 0 k)) * mid x0 x1 x2 x3 (ix2 r l) := by
  pointwise [val_main_v0, val_main_call0_cst, val_main_call0_v0, val_main_v1, val_main_v2, val_main_v3, val_main_v5, val_main_v6, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_v43, val_main_cst_12, val_main_v44, val_main_v45, val_main_v46, val_main_v47, val_main_v48, val_main_cst_13, val_main_v49, val_main_v50, val_main_cst_14, val_main_v51, val_main_v52, val_main_v53, val_main_v54, val_main_v55, val_main_v56, val_main_v57, val_main_v58, val_main_v59, val_main_cst_15, val_main_v60, val_main_v61, val_main_v62, val_main_v63, val_main_cst_16, val_main_v64, val_main_v65, ref_mid, ref_err]
  simp only [Finset.univ_unique, Finset.sum_singleton, factors]
  rfl

open Cert.Reference7Ideal.Read in
theorem ref7 : val_main_v62 (F := Ideal) x0 x1 x2 x3 x4 x5 (ix2 r l) = val_main_v56 (F := Ideal) x0 x1 x2 x3 x4 x5 (ix2 r l) * x3 (ix2 0 l) := by
  pointwise [val_main_v0, val_main_call0_cst, val_main_call0_v0, val_main_v1, val_main_v2, val_main_v3, val_main_v5, val_main_v6, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_v43, val_main_cst_12, val_main_v44, val_main_v45, val_main_v46, val_main_v47, val_main_v48, val_main_cst_13, val_main_v49, val_main_v50, val_main_cst_14, val_main_v51, val_main_v52, val_main_v53, val_main_v54, val_main_v55, val_main_v57, val_main_v58, val_main_v59, val_main_cst_15, val_main_v60, val_main_v61, val_main_v62, val_main_v63, val_main_cst_16, val_main_v64, val_main_v65]
  exact mul_comm _ _

end

open Cert.Reference7Ideal.Read in
theorem ref8 (x0 : S4096x4096.Idx → EReal) (x1 x2 : S4096x1024.Idx → EReal) (x3 : S1x1024.Idx → EReal) (x4 : S4096x1024.Idx → EReal) (x5 : S1x1024.Idx → EReal)
    (h : ∀ r l, val_main_v56 (F := Ideal) x0 x1 x2 x3 x4 x5 (ix2 r l) = G6 x0 x1 x2 x3 x4 x5 (ix2 r l))
    (r : Fin 8) (l : Fin 1024) :
    val_main_v65 (F := Ideal) x0 x1 x2 x3 x4 x5 (ix2 r l) = G8 x0 x1 x2 x3 x4 x5 (ix2 r l) := by
  pointwise [val_main_v0, val_main_call0_cst, val_main_call0_v0, val_main_v1, val_main_v2, val_main_v3, val_main_v5, val_main_v6, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_v43, val_main_cst_12, val_main_v44, val_main_v45, val_main_v46, val_main_v47, val_main_v48, val_main_cst_13, val_main_v49, val_main_v50, val_main_cst_14, val_main_v51, val_main_v52, val_main_v53, val_main_v54, val_main_v55, val_main_v57, val_main_v58, val_main_v59, val_main_cst_15, val_main_v60, val_main_v61, val_main_v62, val_main_v63, val_main_cst_16, val_main_v64, val_main_v65, ref_mid, ref_err, ref_ff, h]
  change _ = if r.val = 2 then _ else if r.val = 1 then _ else if r.val = 0 then _ else _
  by_cases h0 : r.val = 0
  · rw [dif_pos (by omega), if_neg (by omega), if_neg (by omega), if_pos h0]
    exact half_sum _ _
  · rw [dif_neg (by omega)]
    by_cases h1 : r.val = 1
    · rw [dif_pos (by omega), if_neg (by omega), if_pos h1]
      simp only [factors]
      exact Finset.sum_congr rfl fun x _ => mul_comm _ _
    · rw [dif_neg (by omega)]
      by_cases h2 : r.val = 2
      · rw [dif_pos (by omega), if_pos h2]
        rfl
      · rw [dif_neg (by omega), if_neg h2, if_neg h1, if_neg h0]

theorem algebraic : Cert.algebraic_Kernel7Ideal_Reference7Ideal_pre_finite_loss := by
  pair_intro
  · run_from (run_blocks m g)
  · have hd (c : Dev nD) (r : Fin 4096) (l : Fin 1024) := (ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r l).trans (dx_rows m c hpre r l)
    run_from Cert.Reference7Ideal.Value.run m' g'
    · rw [final6]
      funext i
      obtain ⟨r, l, rfl⟩ : ∃ r l, i = ix2 r l := ⟨i 0, i 1, (ix2_eta i).symm⟩
      obtain ⟨h0, h1, h2, h3, h4, h5⟩ := hagree c
      rw [Cert.Reference7Ideal.Read.val_main_v56_eq]
      try simp only [h0, h1, h2, h3, h4, h5]
      exact hd c r l
    · rw [final7]
      funext i
      obtain ⟨r, l, rfl⟩ : ∃ r l, i = ix2 r l := ⟨i 0, i 1, (ix2_eta i).symm⟩
      obtain ⟨h0, h1, h2, h3, h4, h5⟩ := hagree c
      rw [Cert.Reference7Ideal.Read.val_main_v62_eq]
      try simp only [h0, h1, h2, h3, h4, h5]
      exact (ref7 _ _ _ _ _ _ r l).trans (congrArg (· * _) (hd c r l))
    · rw [final8]
      funext i
      obtain ⟨r, l, rfl⟩ : ∃ r l, i = ix2 r l := ⟨i 0, i 1, (ix2_eta i).symm⟩
      obtain ⟨h0, h1, h2, h3, h4, h5⟩ := hagree c
      rw [Cert.Reference7Ideal.Read.val_main_v65_eq]
      try simp only [h0, h1, h2, h3, h4, h5]
      exact ref8 _ _ _ _ _ _ (hd c) r l

end Cert.Loss
-- ==== Proof.Sg.lean ====
/- The gradient of the spatial gate: what one grid point of the kernel, four chunks of 128 rows by eight heads, leaves in its
   outputs' buffers. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

/-! ## One chunk of 128 rows -/

/-- The row of a block that a row of its chunk is. -/
abbrev crow (n : Fin 4) (r : Fin 128) : Fin 512 := ⟨n.val * 128 + r.val, by omega⟩

/-- The column of the left half of a block that a lane of a head is, -/
abbrev lcol (h : Fin 8) (d : Fin 128) : Fin 2048 := ⟨h.val * 128 + d.val, by omega⟩

/-- and a column of its right half. -/
abbrev rcol (l : Fin 1024) : Fin 2048 := ⟨1024 + l.val, by omega⟩

/-- The column that a lane of a head is. -/
abbrev col (h : Fin 8) (d : Fin 128) : Fin 1024 := ⟨h.val * 128 + d.val, by omega⟩

section
variable (dp u v : Fin 128 → Fin 1024 → EReal) (g : Fin 1024 → EReal) (ws wt bs : Fin 8 → Fin 128 → Fin 128 → EReal)

/-- The normed half, times the norm's weight; -/
def vn (r : Fin 128) (k : Fin 1024) : EReal := v r k * rs (v r) * g k

/-- its mixture over the rows of the chunk; -/
def mixed (h : Fin 8) (t d : Fin 128) : EReal := ∑ s : Fin 128, ws h t s * vn v g s (col h d) + bs h t d

/-- the gradient at the half that is not normed; -/
def du (h : Fin 8) (t d : Fin 128) : EReal := dp t (col h d) * mixed v g ws bs h t d

/-- the gradient at the mixture, which is also what the chunk adds to the bias' gradient; -/
def dm (r : Fin 128) (k : Fin 1024) : EReal := dp r k * u r k

/-- what the chunk adds to the gradient of the mixing weights; -/
def dw (h : Fin 8) (t s : Fin 128) : EReal := ∑ d : Fin 128, dm dp u t (col h d) * vn v g s (col h d)

/-- the gradient at the normed half, -/
def dvn (h : Fin 8) (s d : Fin 128) : EReal := ∑ t : Fin 128, wt h s t * dm dp u t (col h d)

/-- by columns; -/
def dvc (s : Fin 128) (k : Fin 1024) : EReal :=
  dvn dp u wt ⟨k.val / 128, by omega⟩ s ⟨k.val % 128, by omega⟩

/-- the gradient at the half that is normed; -/
def dv (r : Fin 128) (l : Fin 1024) : EReal := dx (v r) (fun k => dvc dp u wt r k * g k) l

/-- and what the chunk adds to the gradient of the norm's weight. -/
def dg (l : Fin 1024) : EReal := ∑ r : Fin 128, dvc dp u wt r l * (v r l * rs (v r))

theorem dvc_col (h : Fin 8) (s d : Fin 128) : dvc dp u wt s (col h d) = dvn dp u wt h s d := by
  unfold dvc
  congr 1
  · exact Fin.ext (by show (h.val * 128 + d.val) / 128 = h.val; omega)
  · exact Fin.ext (by show (h.val * 128 + d.val) % 128 = d.val; omega)

end

/-! ## Reading slabs and tiles of a buffer -/

section
variable {Val : EltTy → Type} {e : EltTy} [∀ e, Nonempty (Val e)] {sig : RefSig} {κ : Kind} {sp : Space}

theorem ld_slab {K M n : ℕ} (a : ℕ) (ha : a < K)
    (inb : ∀ x, (![a, 0, 0] : Fin 3 → ℕ) x + (![1, M, n] : Fin 3 → ℕ) x ≤ (⟨3, ![K, M, n]⟩ : Shape).size x)
    (X : (⟨3, ![K, M, n]⟩ : Shape).Idx → Val e) (r : Fin M) (l : Fin n) :
    View.ld X (Rect.unit (s := (⟨3, ![K, M, n]⟩ : Shape)) ![a, 0, 0] ![1, M, n] inb) (ix3 0 r l) = X (ix3 ⟨a, ha⟩ r l) := by
  refine congrArg X (funext fun x => Fin.ext ?_)
  fin_cases x
  · simp
  · simp
  · simp

theorem ld_tile {A B p q : ℕ} (a b : ℕ) (ha : a + p ≤ A) (hb : b + q ≤ B)
    (inb : ∀ x, (![a, b] : Fin 2 → ℕ) x + (![p, q] : Fin 2 → ℕ) x ≤ (⟨2, ![A, B]⟩ : Shape).size x)
    (X : (⟨2, ![A, B]⟩ : Shape).Idx → Val e) (r : Fin p) (l : Fin q) :
    View.ld X (Rect.unit (s := (⟨2, ![A, B]⟩ : Shape)) ![a, b] ![p, q] inb) (ix2 r l) =
      X (ix2 ⟨a + r.val, by omega⟩ ⟨b + l.val, by omega⟩) := by
  refine congrArg X (funext fun x => Fin.ext ?_)
  fin_cases x
  · simp
  · simp

/-- The slab stored last, loaded; -/
theorem readCov_slab_same {K M n : ℕ} (v : View sig κ sp (⟨3, ![K, M, n]⟩ : Shape) e) (a : ℕ)
    (inb : ∀ x, (![a, 0, 0] : Fin 3 → ℕ) x + (![1, M, n] : Fin 3 → ℕ) x ≤ (⟨3, ![K, M, n]⟩ : Shape).size x)
    (w : (⟨3, ![1, M, n]⟩ : Shape).Idx → Val e) (L : List (View.Piece Val (⟨3, ![K, M, n]⟩ : Shape) e)) :
    v.readCov (⟨Rect.unit (s := (⟨3, ![K, M, n]⟩ : Shape)) ![a, 0, 0] ![1, M, n] inb, w⟩ :: L)
      (Rect.unit (s := (⟨3, ![K, M, n]⟩ : Shape)) ![a, 0, 0] ![1, M, n] inb).toLoadRect = w := by
  funext x
  unfold View.readCov
  rw [View.readAt_eq_ld, View.ld_apply]
  exact View.read_writes_cons_emb v _ _ w L x

/-- and another slab, loaded. -/
theorem readCov_slab_ne {K M n : ℕ} (v : View sig κ sp (⟨3, ![K, M, n]⟩ : Shape) e) (a b : ℕ)
    (inb : ∀ x, (![a, 0, 0] : Fin 3 → ℕ) x + (![1, M, n] : Fin 3 → ℕ) x ≤ (⟨3, ![K, M, n]⟩ : Shape).size x)
    (inb' : ∀ x, (![b, 0, 0] : Fin 3 → ℕ) x + (![1, M, n] : Fin 3 → ℕ) x ≤ (⟨3, ![K, M, n]⟩ : Shape).size x)
    (w : (⟨3, ![1, M, n]⟩ : Shape).Idx → Val e) (L : List (View.Piece Val (⟨3, ![K, M, n]⟩ : Shape) e)) (h : a ≠ b) :
    v.readCov (⟨Rect.unit (s := (⟨3, ![K, M, n]⟩ : Shape)) ![a, 0, 0] ![1, M, n] inb, w⟩ :: L)
      (Rect.unit (s := (⟨3, ![K, M, n]⟩ : Shape)) ![b, 0, 0] ![1, M, n] inb').toLoadRect =
    v.readCov L (Rect.unit (s := (⟨3, ![K, M, n]⟩ : Shape)) ![b, 0, 0] ![1, M, n] inb').toLoadRect := by
  funext x
  unfold View.readCov
  rw [View.readAt_eq_ld, View.readAt_eq_ld, View.ld_apply, View.ld_apply]
  refine View.read_writes_cons_miss v _ _ L _ fun hm => h ?_
  have := (Rect.mem_set_unit (inb := inb).mp hm) 0
  simp at this
  omega

/-- The slab stored last, at an index; -/
theorem canon_slab_same {K M n : ℕ} (a : ℕ) (ha : a < K)
    (inb : ∀ x, (![a, 0, 0] : Fin 3 → ℕ) x + (![1, M, n] : Fin 3 → ℕ) x ≤ (⟨3, ![K, M, n]⟩ : Shape).size x)
    (w : (⟨3, ![1, M, n]⟩ : Shape).Idx → Val e) (L : List (View.Piece Val (⟨3, ![K, M, n]⟩ : Shape) e)) (r : Fin M) (l : Fin n) :
    View.canon (⟨Rect.unit (s := (⟨3, ![K, M, n]⟩ : Shape)) ![a, 0, 0] ![1, M, n] inb, w⟩ :: L) (ix3 ⟨a, ha⟩ r l) = w (ix3 0 r l) :=
  (canon_slab a inb w L ⟨a, ha⟩ r l).trans (if_pos rfl)

/-- and another slab, at an index. -/
theorem canon_slab_ne {K M n : ℕ} (a b : ℕ) (hb : b < K)
    (inb : ∀ x, (![a, 0, 0] : Fin 3 → ℕ) x + (![1, M, n] : Fin 3 → ℕ) x ≤ (⟨3, ![K, M, n]⟩ : Shape).size x)
    (w : (⟨3, ![1, M, n]⟩ : Shape).Idx → Val e) (L : List (View.Piece Val (⟨3, ![K, M, n]⟩ : Shape) e)) (r : Fin M) (l : Fin n) (h : a ≠ b) :
    View.canon (⟨Rect.unit (s := (⟨3, ![K, M, n]⟩ : Shape)) ![a, 0, 0] ![1, M, n] inb, w⟩ :: L) (ix3 ⟨b, hb⟩ r l) =
      View.canon L (ix3 ⟨b, hb⟩ r l) :=
  (canon_slab a inb w L ⟨b, hb⟩ r l).trans (if_neg fun h' => h h'.symm)

/-- A whole buffer stored, then a slab of it loaded; -/
theorem readCov_slab_whole {K M n : ℕ} (v : View sig κ sp (⟨3, ![K, M, n]⟩ : Shape) e) (a : ℕ)
    (inb : ∀ x, (![0, 0, 0] : Fin 3 → ℕ) x + (![K, M, n] : Fin 3 → ℕ) x ≤ (⟨3, ![K, M, n]⟩ : Shape).size x)
    (inb' : ∀ x, (![a, 0, 0] : Fin 3 → ℕ) x + (![1, M, n] : Fin 3 → ℕ) x ≤ (⟨3, ![K, M, n]⟩ : Shape).size x)
    (w : (⟨3, ![K, M, n]⟩ : Shape).Idx → Val e) (L : List (View.Piece Val (⟨3, ![K, M, n]⟩ : Shape) e)) :
    v.readCov (⟨Rect.unit (s := (⟨3, ![K, M, n]⟩ : Shape)) ![0, 0, 0] ![K, M, n] inb, w⟩ :: L)
      (Rect.unit (s := (⟨3, ![K, M, n]⟩ : Shape)) ![a, 0, 0] ![1, M, n] inb').toLoadRect =
    View.ld w (Rect.unit (s := (⟨3, ![K, M, n]⟩ : Shape)) ![a, 0, 0] ![1, M, n] inb') := by
  rw [View.readCov_eq_canon', canon_whole (by funext x; fin_cases x <;> rfl) inb w L]

/-- A buffer whose first row was stored last: that row, read; -/
theorem read_top {n : ℕ} (v : View sig κ sp (⟨2, ![8, n]⟩ : Shape) e) (f : v.ty.Contents Val)
    (inb : ∀ x, (![0, 0] : Fin 2 → ℕ) x + (![1, n] : Fin 2 → ℕ) x ≤ (⟨2, ![8, n]⟩ : Shape).size x)
    (w : (⟨2, ![1, n]⟩ : Shape).Idx → Val e) (L : List (View.Piece Val (⟨2, ![8, n]⟩ : Shape) e)) (l : Fin n) :
    v.read Val (v.writes Val f (⟨Rect.unit (s := (⟨2, ![8, n]⟩ : Shape)) ![0, 0] ![1, n] inb, w⟩ :: L)) (ix2 0 l) = w (ix2 0 l) :=
  (read_row v f 0 inb w L 0 l).trans (if_pos rfl)

/-- that row, without the buffer; -/
theorem canon_top {n : ℕ}
    (inb : ∀ x, (![0, 0] : Fin 2 → ℕ) x + (![1, n] : Fin 2 → ℕ) x ≤ (⟨2, ![8, n]⟩ : Shape).size x)
    (w : (⟨2, ![1, n]⟩ : Shape).Idx → Val e) (L : List (View.Piece Val (⟨2, ![8, n]⟩ : Shape) e)) (l : Fin n) :
    View.canon (⟨Rect.unit (s := (⟨2, ![8, n]⟩ : Shape)) ![0, 0] ![1, n] inb, w⟩ :: L) (ix2 0 l) = w (ix2 0 l) :=
  (canon_row 0 inb w L 0 l).trans (if_pos rfl)

/-- that row, loaded; -/
theorem readCov_top {n : ℕ} (v : View sig κ sp (⟨2, ![8, n]⟩ : Shape) e)
    (inb : ∀ x, (![0, 0] : Fin 2 → ℕ) x + (![1, n] : Fin 2 → ℕ) x ≤ (⟨2, ![8, n]⟩ : Shape).size x)
    (w : (⟨2, ![1, n]⟩ : Shape).Idx → Val e) (L : List (View.Piece Val (⟨2, ![8, n]⟩ : Shape) e)) :
    v.readCov (⟨Rect.unit (s := (⟨2, ![8, n]⟩ : Shape)) ![0, 0] ![1, n] inb, w⟩ :: L)
      (Rect.unit (s := (⟨2, ![8, n]⟩ : Shape)) ![0, 0] ![1, n] inb).toLoadRect = w := by
  funext x
  unfold View.readCov
  rw [View.readAt_eq_ld, View.ld_apply]
  exact View.read_writes_cons_emb v _ _ w L x

/-- and the first row of a buffer stored whole, loaded. -/
theorem readCov_top_whole {n : ℕ} (v : View sig κ sp (⟨2, ![8, n]⟩ : Shape) e)
    (inb : ∀ x, (![0, 0] : Fin 2 → ℕ) x + (![8, n] : Fin 2 → ℕ) x ≤ (⟨2, ![8, n]⟩ : Shape).size x)
    (inb' : ∀ x, (![0, 0] : Fin 2 → ℕ) x + (![1, n] : Fin 2 → ℕ) x ≤ (⟨2, ![8, n]⟩ : Shape).size x)
    (w : (⟨2, ![8, n]⟩ : Shape).Idx → Val e) (L : List (View.Piece Val (⟨2, ![8, n]⟩ : Shape) e)) :
    v.readCov (⟨Rect.unit (s := (⟨2, ![8, n]⟩ : Shape)) ![0, 0] ![8, n] inb, w⟩ :: L)
      (Rect.unit (s := (⟨2, ![8, n]⟩ : Shape)) ![0, 0] ![1, n] inb').toLoadRect =
    View.ld w (Rect.unit (s := (⟨2, ![8, n]⟩ : Shape)) ![0, 0] ![1, n] inb') := by
  rw [View.readCov_eq_canon', canon_whole (by funext x; fin_cases x <;> rfl) inb w L]

/-- The tile of a head's columns, if it was stored last, loaded with the other heads' tiles of its rows; -/
theorem readCov_tile_same (v : View sig κ sp (⟨2, ![512, 1024]⟩ : Shape) e) (a b : ℕ) (h : Fin 8)
    (inb : ∀ x, (![a, b] : Fin 2 → ℕ) x + (![128, 128] : Fin 2 → ℕ) x ≤ (⟨2, ![512, 1024]⟩ : Shape).size x)
    (inb' : ∀ x, (![a, 0] : Fin 2 → ℕ) x + (![128, 1024] : Fin 2 → ℕ) x ≤ (⟨2, ![512, 1024]⟩ : Shape).size x)
    (w : (⟨2, ![128, 128]⟩ : Shape).Idx → Val e) (L : List (View.Piece Val (⟨2, ![512, 1024]⟩ : Shape) e)) (r d : Fin 128)
    (hb : b = h.val * 128) :
    v.readCov (⟨Rect.unit (s := (⟨2, ![512, 1024]⟩ : Shape)) ![a, b] ![128, 128] inb, w⟩ :: L)
      (Rect.unit (s := (⟨2, ![512, 1024]⟩ : Shape)) ![a, 0] ![128, 1024] inb').toLoadRect (ix2 r (col h d)) = w (ix2 r d) := by
  subst hb
  rw [View.readCov_eq_canon']
  refine Eq.trans (congrArg _ (?_ : _ = (Rect.unit (s := (⟨2, ![512, 1024]⟩ : Shape)) ![a, h.val * 128] ![128, 128] inb).emb (ix2 r d)))
    (View.canon_cons_emb ..)
  funext x
  apply Fin.ext
  fin_cases x
  · simp
  · simp

/-- and another head's tile. -/
theorem readCov_tile_ne (v : View sig κ sp (⟨2, ![512, 1024]⟩ : Shape) e) (a b : ℕ) (h : Fin 8)
    (inb : ∀ x, (![a, b] : Fin 2 → ℕ) x + (![128, 128] : Fin 2 → ℕ) x ≤ (⟨2, ![512, 1024]⟩ : Shape).size x)
    (inb' : ∀ x, (![a, 0] : Fin 2 → ℕ) x + (![128, 1024] : Fin 2 → ℕ) x ≤ (⟨2, ![512, 1024]⟩ : Shape).size x)
    (w : (⟨2, ![128, 128]⟩ : Shape).Idx → Val e) (L : List (View.Piece Val (⟨2, ![512, 1024]⟩ : Shape) e)) (r d : Fin 128)
    (hb : h.val * 128 + 128 ≤ b ∨ b + 128 ≤ h.val * 128) :
    v.readCov (⟨Rect.unit (s := (⟨2, ![512, 1024]⟩ : Shape)) ![a, b] ![128, 128] inb, w⟩ :: L)
      (Rect.unit (s := (⟨2, ![512, 1024]⟩ : Shape)) ![a, 0] ![128, 1024] inb').toLoadRect (ix2 r (col h d)) =
    v.readCov L (Rect.unit (s := (⟨2, ![512, 1024]⟩ : Shape)) ![a, 0] ![128, 1024] inb').toLoadRect (ix2 r (col h d)) := by
  rw [View.readCov_eq_canon', View.readCov_eq_canon']
  refine View.canon_cons_of_not_mem _ L fun hm => ?_
  have := (Rect.mem_set_unit (inb := inb).mp hm) 1
  simp at this
  omega
/-- The left half's tile of a chunk's rows and a head's columns, if it was stored last, at an index; -/
theorem canon_left_same (a b : ℕ) (n : Fin 4) (h : Fin 8) (r d : Fin 128)
    (inb : ∀ x, (![a, b] : Fin 2 → ℕ) x + (![128, 128] : Fin 2 → ℕ) x ≤ (⟨2, ![512, 2048]⟩ : Shape).size x)
    (w : (⟨2, ![128, 128]⟩ : Shape).Idx → Val e) (L : List (View.Piece Val (⟨2, ![512, 2048]⟩ : Shape) e))
    (ha : a = n.val * 128) (hb : b = h.val * 128) :
    View.canon (⟨Rect.unit (s := (⟨2, ![512, 2048]⟩ : Shape)) ![a, b] ![128, 128] inb, w⟩ :: L) (ix2 (crow n r) (lcol h d)) =
      w (ix2 r d) := by
  subst ha hb
  refine Eq.trans (congrArg _ (?_ : _ = (Rect.unit (s := (⟨2, ![512, 2048]⟩ : Shape)) ![n.val * 128, h.val * 128] ![128, 128] inb).emb (ix2 r d)))
    (View.canon_cons_emb ..)
  funext x
  apply Fin.ext
  fin_cases x
  · simp
  · simp

/-- another piece; -/
theorem canon_left_ne (a b q : ℕ) (n : Fin 4) (h : Fin 8) (r d : Fin 128)
    (inb : ∀ x, (![a, b] : Fin 2 → ℕ) x + (![128, q] : Fin 2 → ℕ) x ≤ (⟨2, ![512, 2048]⟩ : Shape).size x)
    (w : (⟨2, ![128, q]⟩ : Shape).Idx → Val e) (L : List (View.Piece Val (⟨2, ![512, 2048]⟩ : Shape) e))
    (hab : n.val * 128 + 128 ≤ a ∨ a + 128 ≤ n.val * 128 ∨ h.val * 128 + 128 ≤ b ∨ b + q ≤ h.val * 128) :
    View.canon (⟨Rect.unit (s := (⟨2, ![512, 2048]⟩ : Shape)) ![a, b] ![128, q] inb, w⟩ :: L) (ix2 (crow n r) (lcol h d)) =
      View.canon L (ix2 (crow n r) (lcol h d)) := by
  refine View.canon_cons_of_not_mem _ L fun hm => ?_
  have h0 := (Rect.mem_set_unit (inb := inb).mp hm) 0
  have h1 := (Rect.mem_set_unit (inb := inb).mp hm) 1
  simp at h0 h1
  omega

/-- the right half of a chunk's rows, if it was stored last; -/
theorem canon_right_same (a : ℕ) (n : Fin 4) (r : Fin 128) (l : Fin 1024)
    (inb : ∀ x, (![a, 1024] : Fin 2 → ℕ) x + (![128, 1024] : Fin 2 → ℕ) x ≤ (⟨2, ![512, 2048]⟩ : Shape).size x)
    (w : (⟨2, ![128, 1024]⟩ : Shape).Idx → Val e) (L : List (View.Piece Val (⟨2, ![512, 2048]⟩ : Shape) e))
    (ha : a = n.val * 128) :
    View.canon (⟨Rect.unit (s := (⟨2, ![512, 2048]⟩ : Shape)) ![a, 1024] ![128, 1024] inb, w⟩ :: L) (ix2 (crow n r) (rcol l)) =
      w (ix2 r l) := by
  subst ha
  refine Eq.trans (congrArg _ (?_ : _ = (Rect.unit (s := (⟨2, ![512, 2048]⟩ : Shape)) ![n.val * 128, 1024] ![128, 1024] inb).emb (ix2 r l)))
    (View.canon_cons_emb ..)
  funext x
  apply Fin.ext
  fin_cases x
  · simp
  · simp

/-- and another piece. -/
theorem canon_right_ne (a b q : ℕ) (n : Fin 4) (r : Fin 128) (l : Fin 1024)
    (inb : ∀ x, (![a, b] : Fin 2 → ℕ) x + (![128, q] : Fin 2 → ℕ) x ≤ (⟨2, ![512, 2048]⟩ : Shape).size x)
    (w : (⟨2, ![128, q]⟩ : Shape).Idx → Val e) (L : List (View.Piece Val (⟨2, ![512, 2048]⟩ : Shape) e))
    (hab : n.val * 128 + 128 ≤ a ∨ a + 128 ≤ n.val * 128 ∨ b + q ≤ 1024) :
    View.canon (⟨Rect.unit (s := (⟨2, ![512, 2048]⟩ : Shape)) ![a, b] ![128, q] inb, w⟩ :: L) (ix2 (crow n r) (rcol l)) =
      View.canon L (ix2 (crow n r) (rcol l)) := by
  refine View.canon_cons_of_not_mem _ L fun hm => ?_
  have h0 := (Rect.mem_set_unit (inb := inb).mp hm) 0
  have h1 := (Rect.mem_set_unit (inb := inb).mp hm) 1
  simp at h0 h1
  omega
end

/-! ## The chunks of a block -/

section
variable (x0 : Vec Ideal S512x1024 .f32) (x1 : Vec Ideal S512x2048 .f32) (x2 : Vec Ideal S1x1024 .f32)
  (x3 x4 : Vec Ideal S8x128x128 .bf16) (x5 : Vec Ideal S8x128x128 .f32)

abbrev cdp (n : Fin 4) : Fin 128 → Fin 1024 → EReal := fun r k => x0 (ix2 (crow n r) k)
abbrev cu (n : Fin 4) : Fin 128 → Fin 1024 → EReal := fun r k => x1 (ix2 (crow n r) ⟨k.val, by omega⟩)
abbrev cv (n : Fin 4) : Fin 128 → Fin 1024 → EReal := fun r k => x1 (ix2 (crow n r) ⟨1024 + k.val, by omega⟩)
abbrev cg : Fin 1024 → EReal := fun k => x2 (ix2 0 k)
abbrev cm (x : S8x128x128.Idx → EReal) : Fin 8 → Fin 128 → Fin 128 → EReal := fun h t s => x (ix3 h t s)
end

end Cert.Sg
-- ==== Proof.SgRead.lean ====
/- The gradient of the spatial gate: what the kernel loads of the buffer that it keeps a chunk's gradient at the normed half in. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg
public import proofs.«01_k».proof.Proof.Sg

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

theorem col_cases (l : Fin 1024) : ∃ (h : Fin 8) (d : Fin 128), l = col h d :=
  ⟨⟨l.val / 128, by omega⟩, ⟨l.val % 128, by omega⟩, Fin.ext (by show l.val = l.val / 128 * 128 + l.val % 128; omega)⟩

/-- The values at rows and columns, as a vector. -/
def tab (f : Fin 128 → Fin 1024 → EReal) : Vec Ideal S128x1024 .f32 := fun i => f (i 0) (i 1)

theorem tab_apply (f : Fin 128 → Fin 1024 → EReal) (r : Fin 128) (l : Fin 1024) : tab f (ix2 r l) = f r l := rfl

section
variable (c : Dev nD) (a1 : Memref sig .tc .vmem S512x1024 .f32) (h1 : a1.IsWhole) (a2 : Memref sig .tc .vmem S512x2048 .f32) (h2 : a2.IsWhole)
  (a5 : Memref sig .tc .vmem S8x128x128 .bf16) (h5 : a5.IsWhole) (a11 : Memref sig .tc .vmem S512x1024 .f32)
  (x0 : Vec Ideal S512x1024 .f32) (x1 : Vec Ideal S512x2048 .f32) (x4 : Vec Ideal S8x128x128 .bf16)

/-- What is loaded of the buffer after a chunk's eight heads: the chunk's gradient at the normed half. -/
abbrev Reads (f0 f1 f2 f3 : Vec Ideal S128x1024 .f32) : Prop :=
  (f0 = tab (dvc (cdp x0 0) (cu x1 0) (cm x4))) ∧ (f1 = tab (dvc (cdp x0 1) (cu x1 1) (cm x4))) ∧
    (f2 = tab (dvc (cdp x0 2) (cu x1 2) (cm x4))) ∧ f3 = tab (dvc (cdp x0 3) (cu x1 3) (cm x4))

set_option maxHeartbeats 16000000 in
/-- So it is where the kernel's one condition holds, and where it does not. -/
theorem reads :
    Reads x0 x1 x4 (kernelRun0_A.sl.v290 (F := Ideal) c a1 h1 a2 h2 a5 h5 a11 x0 x1 x4)
      (kernelRun0_A.sl.v600 (F := Ideal) c a1 h1 a2 h2 a5 h5 a11 x0 x1 x4) (kernelRun0_A.sl.v910 (F := Ideal) c a1 h1 a2 h2 a5 h5 a11 x0 x1 x4)
      (kernelRun0_A.sl.v1220 (F := Ideal) c a1 h1 a2 h2 a5 h5 a11 x0 x1 x4) ∧
    Reads x0 x1 x4 (kernelRun0_B.sl.v290 (F := Ideal) c a1 h1 a2 h2 a5 h5 a11 x0 x1 x4)
      (kernelRun0_B.sl.v600 (F := Ideal) c a1 h1 a2 h2 a5 h5 a11 x0 x1 x4) (kernelRun0_B.sl.v910 (F := Ideal) c a1 h1 a2 h2 a5 h5 a11 x0 x1 x4)
      (kernelRun0_B.sl.v1220 (F := Ideal) c a1 h1 a2 h2 a5 h5 a11 x0 x1 x4) := by
  refine ⟨⟨?_, ?_, ?_, ?_⟩, ?_, ?_, ?_, ?_⟩
  all_goals
    funext i
    obtain ⟨r, l, rfl⟩ : ∃ r l, i = ix2 r l := ⟨i 0, i 1, (ix2_eta i).symm⟩
    obtain ⟨h, d, rfl⟩ := col_cases l
    rw [tab_apply, dvc_col]
    rcases h with ⟨h, hh⟩
    interval_cases h
  all_goals
    frame_out
    simp only [readCov_tile_same, readCov_tile_ne, Nat.reduceMul, Nat.reduceAdd, Nat.reduceLeDiff, or_true, true_or]
    open_payloads
    pointwise []
    simp only [dvn, dm, cdp, cu, cv, cg, crow, col, Fin.val_zero, zero_mul, zero_add]
    try rfl
end

end Cert.Sg
-- ==== Proof.SgSum.lean ====
/- The gradient of the spatial gate: what one grid point of the kernel adds to the gradients of the mixing weights and of the bias. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg
public import proofs.«01_k».proof.Proof.Sg

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

section
variable (c : Dev nD)

set_option maxHeartbeats 8000000 in
/-- What a later point leaves of the gradients of the mixing weights and of the bias: what the point before left, and its four chunks' parts. -/
theorem out78_B (t : Fin cfg0.N) (h : ¬ t.val % 8 = 0) (k : Fin 8) (r l : Fin 128) :
    (outsAt0 m c t.val t.isLt).2.1 (ix3 k r l) =
      (outsAt0 m c (t.val - 1) (Nat.lt_of_le_of_lt (Nat.sub_le _ _) t.isLt)).2.1 (ix3 k r l) +
        ∑ n : Fin 4, dw (cdp (iblk m c 0 t) n) (cu (iblk m c 1 t) n) (cv (iblk m c 1 t) n) (cg (iblk m c 2 t)) k r l ∧
    (outsAt0 m c t.val t.isLt).2.2.1 (ix3 k r l) =
      (outsAt0 m c (t.val - 1) (Nat.lt_of_le_of_lt (Nat.sub_le _ _) t.isLt)).2.2.1 (ix3 k r l) +
        ∑ n : Fin 4, dm (cdp (iblk m c 0 t) n) (cu (iblk m c 1 t) n) r (col k l) := by
  rw [Fin.sum_univ_four, Fin.sum_univ_four]
  simp only [← add_assoc]
  rcases k with ⟨k, hk⟩
  interval_cases k <;> constructor
  all_goals
    rw [outsAt0_B m c t h]
    generalize (outsAt0 m c (t.val - 1) (Nat.lt_of_le_of_lt (Nat.sub_le _ _) t.isLt)) = P
    dsimp only
    frame_out
    simp only [canon_slab_same, canon_slab_ne, readCov_slab_same, readCov_slab_ne, ne_eq, OfNat.ofNat_ne_zero, OfNat.ofNat_ne_one, one_ne_zero, zero_ne_one, OfNat.one_ne_ofNat, Nat.reduceEqDiff, OfNat.zero_ne_ofNat,
      not_false_eq_true]
    open_payloads
    pointwise []
    simp only [dw, vn, dm, rs, ms, cdp, cu, cv, cg, crow, col, Fin.val_zero, zero_mul, zero_add]
    try rfl

set_option maxHeartbeats 8000000 in
/-- What the first point leaves of the gradients of the mixing weights and of the bias: its four chunks' parts. -/
theorem out78_A (t : Fin cfg0.N) (h : t.val % 8 = 0) (k : Fin 8) (r l : Fin 128) :
    (outsAt0 m c t.val t.isLt).2.1 (ix3 k r l) =
      0 +
        ∑ n : Fin 4, dw (cdp (iblk m c 0 t) n) (cu (iblk m c 1 t) n) (cv (iblk m c 1 t) n) (cg (iblk m c 2 t)) k r l ∧
    (outsAt0 m c t.val t.isLt).2.2.1 (ix3 k r l) =
      0 +
        ∑ n : Fin 4, dm (cdp (iblk m c 0 t) n) (cu (iblk m c 1 t) n) r (col k l) := by
  rw [Fin.sum_univ_four, Fin.sum_univ_four]
  simp only [← add_assoc]
  rcases k with ⟨k, hk⟩
  interval_cases k <;> constructor
  all_goals
    rw [outsAt0_A m c t h]
    dsimp only
    frame_out
    simp only [canon_slab_same, canon_slab_ne, readCov_slab_same, readCov_slab_ne, readCov_slab_whole, ne_eq, OfNat.ofNat_ne_zero, OfNat.ofNat_ne_one, one_ne_zero, zero_ne_one, OfNat.one_ne_ofNat, Nat.reduceEqDiff, OfNat.zero_ne_ofNat,
      not_false_eq_true]
    open_payloads
    pointwise []
    simp only [dw, vn, dm, rs, ms, cdp, cu, cv, cg, crow, col, Fin.val_zero, zero_mul, zero_add]
    try rfl
end

end Cert.Sg
-- ==== Proof.SgOut.lean ====
/- The gradient of the spatial gate: what one grid point of the kernel leaves of the gradients of the norm's weight and of the normed half of the
   gate's operand. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg
public import proofs.«01_k».proof.Proof.SgRead

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

section
variable (c : Dev nD)

set_option maxHeartbeats 8000000 in
/-- What a later point leaves of the gradient of the norm's weight: what the point before left, and its four chunks' parts. -/
theorem out9_B (t : Fin cfg0.N) (h : ¬ t.val % 8 = 0) (l : Fin 1024) :
    (outsAt0 m c t.val t.isLt).2.2.2 (ix2 0 l) =
      (outsAt0 m c (t.val - 1) (Nat.lt_of_le_of_lt (Nat.sub_le _ _) t.isLt)).2.2.2 (ix2 0 l) +
        ∑ n : Fin 4, dg (cdp (iblk m c 0 t) n) (cu (iblk m c 1 t) n) (cv (iblk m c 1 t) n) (cm (iblk m c 4 t)) l := by
  rw [Fin.sum_univ_four, ← add_assoc, ← add_assoc, ← add_assoc, outsAt0_B m c t h]
  generalize (outsAt0 m c (t.val - 1) (Nat.lt_of_le_of_lt (Nat.sub_le _ _) t.isLt)) = P
  dsimp only
  unfold out0_B_9 kernelRun0_B
  dsimp only
  simp only [kernelRun0_B.sl.r_51, kernelRun0_B.sl.r_67, kernelRun0_B.sl.r_69, kernelRun0_B.sl.H9_2, kernelRun0_B.sl.H9_1, kernelRun0_B.sl.H9_3, kernelRun0_B.sl.r_16, kernelRun0_B.sl.r_17, kernelRun0_B.sl.r_66, kernelRun0_B.sl.r_68, kernelRun0_B.sl.r_50, kernelRun0_B.sl.v616, kernelRun0_B.sl.v926, kernelRun0_B.sl.v1236, (reads c _ _ _ _ _ _ _ _ _ _).2.1,
    (reads c _ _ _ _ _ _ _ _ _ _).2.2.1, (reads c _ _ _ _ _ _ _ _ _ _).2.2.2.1, (reads c _ _ _ _ _ _ _ _ _ _).2.2.2.2]
  frame_out
  simp only [read_top, readCov_top]
  open_payloads
  pointwise [tab_apply]
  simp only [dg, rs, ms, cv, crow, Fin.val_zero, zero_mul, zero_add]
  rfl

set_option maxHeartbeats 8000000 in
/-- What the first point leaves of the gradient of the norm's weight: its four chunks' parts. -/
theorem out9_A (t : Fin cfg0.N) (h : t.val % 8 = 0) (l : Fin 1024) :
    (outsAt0 m c t.val t.isLt).2.2.2 (ix2 0 l) =
      0 +
        ∑ n : Fin 4, dg (cdp (iblk m c 0 t) n) (cu (iblk m c 1 t) n) (cv (iblk m c 1 t) n) (cm (iblk m c 4 t)) l := by
  rw [Fin.sum_univ_four, ← add_assoc, ← add_assoc, ← add_assoc, outsAt0_A m c t h]
  dsimp only
  unfold out0_A_9 kernelRun0_A
  dsimp only
  simp only [kernelRun0_A.sl.r_65, kernelRun0_A.sl.r_68, kernelRun0_A.sl.r_50, kernelRun0_A.sl.r_15, kernelRun0_A.sl.r_66, kernelRun0_A.sl.H9_3, kernelRun0_A.sl.H9_2, kernelRun0_A.sl.r_16, kernelRun0_A.sl.v616, kernelRun0_A.sl.v1236, kernelRun0_A.sl.H9_4, kernelRun0_A.sl.r_67, kernelRun0_A.sl.v926, kernelRun0_A.sl.r_49, (reads c _ _ _ _ _ _ _ _ _ _).1.1,
    (reads c _ _ _ _ _ _ _ _ _ _).1.2.1, (reads c _ _ _ _ _ _ _ _ _ _).1.2.2.1, (reads c _ _ _ _ _ _ _ _ _ _).1.2.2.2]
  frame_out
  simp only [canon_top, readCov_top, readCov_top_whole]
  open_payloads
  pointwise [tab_apply]
  simp only [dg, rs, ms, cv, crow, Fin.val_zero, zero_mul, zero_add]
  rfl

set_option maxHeartbeats 8000000 in
/-- What a later point leaves of the gradient of the gate's operand at the half that is normed. -/
theorem out6r_B (t : Fin cfg0.N) (hA : ¬ t.val % 8 = 0) (n : Fin 4) (r : Fin 128) (l : Fin 1024) :
    (outsAt0 m c t.val t.isLt).1 (ix2 (crow n r) (rcol l)) =
      dv (cdp (iblk m c 0 t) n) (cu (iblk m c 1 t) n) (cv (iblk m c 1 t) n) (cg (iblk m c 2 t)) (cm (iblk m c 4 t)) r l := by
  rcases n with ⟨n, hn⟩
  interval_cases n
  all_goals
    rw [outsAt0_B m c t hA]
    generalize (outsAt0 m c (t.val - 1) (Nat.lt_of_le_of_lt (Nat.sub_le _ _) t.isLt)) = P
    dsimp only
    unfold out0_B_6 kernelRun0_B
    dsimp only
    simp only [kernelRun0_B.sl.r_51, kernelRun0_B.sl.r_67, kernelRun0_B.sl.r_69, kernelRun0_B.sl.H9_2, kernelRun0_B.sl.H9_1, kernelRun0_B.sl.H9_3, kernelRun0_B.sl.r_16, kernelRun0_B.sl.r_17, kernelRun0_B.sl.r_66, kernelRun0_B.sl.r_68, kernelRun0_B.sl.r_50, kernelRun0_B.sl.v616, kernelRun0_B.sl.v926, kernelRun0_B.sl.v1236, (reads c _ _ _ _ _ _ _ _ _ _).2.1,
      (reads c _ _ _ _ _ _ _ _ _ _).2.2.1, (reads c _ _ _ _ _ _ _ _ _ _).2.2.2.1, (reads c _ _ _ _ _ _ _ _ _ _).2.2.2.2]
    frame_out
    simp only [canon_right_same, canon_right_ne, Nat.reduceMul, Nat.reduceAdd, Nat.reduceLeDiff, or_true, true_or]
    open_payloads
    pointwise [tab_apply]
    simp only [dv, dx, rs, ms, cv, cg, crow, Fin.val_zero, zero_mul, zero_add]
    try rfl

set_option maxHeartbeats 8000000 in
/-- What the first point leaves of the gradient of the gate's operand at the half that is normed. -/
theorem out6r_A (t : Fin cfg0.N) (hA : t.val % 8 = 0) (n : Fin 4) (r : Fin 128) (l : Fin 1024) :
    (outsAt0 m c t.val t.isLt).1 (ix2 (crow n r) (rcol l)) =
      dv (cdp (iblk m c 0 t) n) (cu (iblk m c 1 t) n) (cv (iblk m c 1 t) n) (cg (iblk m c 2 t)) (cm (iblk m c 4 t)) r l := by
  rcases n with ⟨n, hn⟩
  interval_cases n
  all_goals
    rw [outsAt0_A m c t hA]
    dsimp only
    unfold out0_A_6 kernelRun0_A
    dsimp only
    simp only [kernelRun0_A.sl.r_65, kernelRun0_A.sl.r_68, kernelRun0_A.sl.r_50, kernelRun0_A.sl.r_15, kernelRun0_A.sl.r_66, kernelRun0_A.sl.H9_3, kernelRun0_A.sl.H9_2, kernelRun0_A.sl.r_16, kernelRun0_A.sl.v616, kernelRun0_A.sl.v1236, kernelRun0_A.sl.H9_4, kernelRun0_A.sl.r_67, kernelRun0_A.sl.v926, kernelRun0_A.sl.r_49, (reads c _ _ _ _ _ _ _ _ _ _).1.1,
      (reads c _ _ _ _ _ _ _ _ _ _).1.2.1, (reads c _ _ _ _ _ _ _ _ _ _).1.2.2.1, (reads c _ _ _ _ _ _ _ _ _ _).1.2.2.2]
    frame_out
    simp only [canon_right_same, canon_right_ne, Nat.reduceMul, Nat.reduceAdd, Nat.reduceLeDiff, or_true, true_or]
    open_payloads
    pointwise [tab_apply]
    simp only [dv, dx, rs, ms, cv, cg, crow, Fin.val_zero, zero_mul, zero_add]
    try rfl
end

end Cert.Sg
-- ==== Proof.SgRest.lean ====
/- The gradient of the spatial gate: the seven rows below the sums, which no point adds to. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg
public import proofs.«01_k».proof.Proof.SgRead

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

section
variable {Val : EltTy → Type} {e : EltTy} [∀ e, Inhabited (Val e)]

/-- A buffer of eight rows whose first row was stored last: the other rows, -/
theorem canon_rest {n : ℕ} {r : Fin 8} (hr : ¬ r.val = 0)
    (inb : ∀ x, (![0, 0] : Fin 2 → ℕ) x + (![1, n] : Fin 2 → ℕ) x ≤ (⟨2, ![8, n]⟩ : Shape).size x)
    (w : (⟨2, ![1, n]⟩ : Shape).Idx → Val e) (L : List (View.Piece Val (⟨2, ![8, n]⟩ : Shape) e)) (l : Fin n) :
    View.canon (⟨Rect.unit (s := (⟨2, ![8, n]⟩ : Shape)) ![0, 0] ![1, n] inb, w⟩ :: L) (ix2 r l) = View.canon L (ix2 r l) :=
  (canon_row 0 inb w L r l).trans (if_neg hr)

/-- and those, read over what the buffer held. -/
theorem read_rest {sig : RefSig} {κ : Kind} {sp : Space} {n : ℕ} {r : Fin 8} (hr : ¬ r.val = 0)
    (v : View sig κ sp (⟨2, ![8, n]⟩ : Shape) e) (f : v.ty.Contents Val)
    (inb : ∀ x, (![0, 0] : Fin 2 → ℕ) x + (![1, n] : Fin 2 → ℕ) x ≤ (⟨2, ![8, n]⟩ : Shape).size x)
    (w : (⟨2, ![1, n]⟩ : Shape).Idx → Val e) (L : List (View.Piece Val (⟨2, ![8, n]⟩ : Shape) e)) (l : Fin n) :
    v.read Val (v.writes Val f (⟨Rect.unit (s := (⟨2, ![8, n]⟩ : Shape)) ![0, 0] ![1, n] inb, w⟩ :: L)) (ix2 r l) =
      v.read Val (v.writes Val f L) (ix2 r l) :=
  (read_row v f 0 inb w L r l).trans (if_neg hr)
end

section
variable (c : Dev nD)

set_option maxHeartbeats 8000000 in
/-- The rows below the first: the first point leaves zeros, -/
theorem rest9_A (t : Fin cfg0.N) (h : t.val % 8 = 0) (r : Fin 8) (hr : ¬ r.val = 0) (l : Fin 1024) :
    (outsAt0 m c t.val t.isLt).2.2.2 (ix2 r l) = 0 := by
  rw [outsAt0_A m c t h]
  dsimp only
  unfold out0_A_9 kernelRun0_A
  dsimp only
  simp only [kernelRun0_A.sl.r_65, kernelRun0_A.sl.r_68, kernelRun0_A.sl.r_50, kernelRun0_A.sl.r_15, kernelRun0_A.sl.r_66, kernelRun0_A.sl.H9_3, kernelRun0_A.sl.H9_2, kernelRun0_A.sl.r_16, kernelRun0_A.sl.v616, kernelRun0_A.sl.v1236, kernelRun0_A.sl.H9_4, kernelRun0_A.sl.r_67, kernelRun0_A.sl.v926, kernelRun0_A.sl.r_49, (reads c _ _ _ _ _ _ _ _ _ _).1.1,
    (reads c _ _ _ _ _ _ _ _ _ _).1.2.1, (reads c _ _ _ _ _ _ _ _ _ _).1.2.2.1, (reads c _ _ _ _ _ _ _ _ _ _).1.2.2.2]
  frame_out
  simp only [canon_rest hr]
  open_payloads
  pointwise []
  erw [canon_whole (by funext x; fin_cases x <;> rfl)]
  rfl

set_option maxHeartbeats 8000000 in
/-- and a later point leaves what the point before left. -/
theorem rest9_B (t : Fin cfg0.N) (h : ¬ t.val % 8 = 0) (r : Fin 8) (hr : ¬ r.val = 0) (l : Fin 1024) :
    (outsAt0 m c t.val t.isLt).2.2.2 (ix2 r l) =
      (outsAt0 m c (t.val - 1) (Nat.lt_of_le_of_lt (Nat.sub_le _ _) t.isLt)).2.2.2 (ix2 r l) := by
  rw [outsAt0_B m c t h]
  generalize (outsAt0 m c (t.val - 1) (Nat.lt_of_le_of_lt (Nat.sub_le _ _) t.isLt)) = P
  dsimp only
  unfold out0_B_9 kernelRun0_B
  dsimp only
  simp only [kernelRun0_B.sl.r_51, kernelRun0_B.sl.r_67, kernelRun0_B.sl.r_69, kernelRun0_B.sl.H9_2, kernelRun0_B.sl.H9_1, kernelRun0_B.sl.H9_3, kernelRun0_B.sl.r_16, kernelRun0_B.sl.r_17, kernelRun0_B.sl.r_66, kernelRun0_B.sl.r_68, kernelRun0_B.sl.r_50, kernelRun0_B.sl.v616, kernelRun0_B.sl.v926, kernelRun0_B.sl.v1236, (reads c _ _ _ _ _ _ _ _ _ _).2.1,
    (reads c _ _ _ _ _ _ _ _ _ _).2.2.1, (reads c _ _ _ _ _ _ _ _ _ _).2.2.2.1, (reads c _ _ _ _ _ _ _ _ _ _).2.2.2.2]
  frame_out
  simp only [read_rest hr]
  rw [View.writes_nil, Memref.IsWhole.read_unread]
end

end Cert.Sg
-- ==== Proof.SgLeft.lean ====
/- The gradient of the spatial gate: what one grid point of the kernel leaves of the gradient of the other half of the
   gate's operand. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg
public import proofs.«01_k».proof.Proof.Sg

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

section
variable (c : Dev nD)

set_option maxHeartbeats 8000000 in
/-- What a later point leaves of the gradient of the gate's operand at the half that is not normed. -/
theorem out6l_B (t : Fin cfg0.N) (hA : ¬ t.val % 8 = 0) (n : Fin 4) (h : Fin 8) (r d : Fin 128) :
    (outsAt0 m c t.val t.isLt).1 (ix2 (crow n r) (lcol h d)) =
      du (cdp (iblk m c 0 t) n) (cv (iblk m c 1 t) n) (cg (iblk m c 2 t)) (cm (iblk m c 3 t)) (cm (iblk m c 5 t)) h r d := by
  rcases n with ⟨n, hn⟩
  rcases h with ⟨h, hh⟩
  interval_cases n <;> interval_cases h
  all_goals
    rw [outsAt0_B m c t hA]
    generalize (outsAt0 m c (t.val - 1) (Nat.lt_of_le_of_lt (Nat.sub_le _ _) t.isLt)) = P
    dsimp only
    frame_out
    simp only [canon_left_same, canon_left_ne, Nat.reduceMul, Nat.reduceAdd, Nat.reduceLeDiff, or_true, true_or]
    open_payloads
    pointwise []
    simp only [du, mixed, vn, dm, rs, ms, cdp, cu, cv, cg, crow, col, Fin.val_zero, zero_mul, zero_add]
    try rfl

set_option maxHeartbeats 8000000 in
/-- What the first point leaves of the gradient of the gate's operand at the half that is not normed. -/
theorem out6l_A (t : Fin cfg0.N) (hA : t.val % 8 = 0) (n : Fin 4) (h : Fin 8) (r d : Fin 128) :
    (outsAt0 m c t.val t.isLt).1 (ix2 (crow n r) (lcol h d)) =
      du (cdp (iblk m c 0 t) n) (cv (iblk m c 1 t) n) (cg (iblk m c 2 t)) (cm (iblk m c 3 t)) (cm (iblk m c 5 t)) h r d := by
  rcases n with ⟨n, hn⟩
  rcases h with ⟨h, hh⟩
  interval_cases n <;> interval_cases h
  all_goals
    rw [outsAt0_A m c t hA]
    dsimp only
    frame_out
    simp only [canon_left_same, canon_left_ne, Nat.reduceMul, Nat.reduceAdd, Nat.reduceLeDiff, or_true, true_or]
    open_payloads
    pointwise []
    simp only [du, mixed, vn, dm, rs, ms, cdp, cu, cv, cg, crow, col, Fin.val_zero, zero_mul, zero_add]
    try rfl

end

end Cert.Sg
-- ==== Proof.SgRef.lean ====
/- The gradient of the spatial gate: the kernel's arrays, and the derivative of the gate as the reference takes it. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.Gen.Pre_finite_sg
public import proofs.«01_k».proof.Proof.SgRead
public import proofs.«01_k».proof.Proof.SgSum
public import proofs.«01_k».proof.Proof.SgOut
public import proofs.«01_k».proof.Proof.SgRest
public import proofs.«01_k».proof.Proof.SgLeft

@[expose] public section

noncomputable section

namespace Cert.Sg

open Idealize Idealize.ShloMosaic Idealize.SL.Sem Idealize.ShloMosaic.TcCoe
open Cert.Kernel8Ideal Cert.Kernel8Ideal.Gen Cert.Kernel8Ideal.Value

variable (m : (ℓ : Loc nD τ sig) → Buf (Elt Ideal) ℓ)

open Cert.Common Cert.Rms

/-! ## The arrays, chunk by chunk -/

/-- The row that a row of a chunk is. -/
abbrev row (N : Fin 32) (r : Fin 128) : Fin 4096 := ⟨N.val * 128 + r.val, by omega⟩

abbrev adp (x0 : S4096x1024.Idx → EReal) (N : Fin 32) : Fin 128 → Fin 1024 → EReal := fun r k => x0 (ix2 (row N r) k)
abbrev au (x1 : S4096x2048.Idx → EReal) (N : Fin 32) : Fin 128 → Fin 1024 → EReal := fun r k => x1 (ix2 (row N r) ⟨k.val, by omega⟩)
abbrev av (x1 : S4096x2048.Idx → EReal) (N : Fin 32) : Fin 128 → Fin 1024 → EReal := fun r k => x1 (ix2 (row N r) (rcol k))
abbrev ag (x2 : S1x1024.Idx → EReal) : Fin 1024 → EReal := fun k => x2 (ix2 0 k)

/-- The mixing weights on and below the diagonal, zeros above it; -/
def tri (x3 : S8x128x128.Idx → EReal) (h : Fin 8) (t s : Fin 128) : EReal :=
  Scalar.select (Scalar.select (IntOp.cmpi .sge (IntOp.addi (BitVec.ofNat 32 t.val) 0#32) (BitVec.ofNat 32 s.val)) 1#1 0#1) (x3 (ix3 h t s)) 0

/-- transposed; -/
abbrev trit (x3 : S8x128x128.Idx → EReal) (h : Fin 8) (s t : Fin 128) : EReal := tri x3 h t s

/-- and the bias, the same for every lane. -/
abbrev ab (x4 : S8x128.Idx → EReal) (h : Fin 8) (t _ : Fin 128) : EReal := x4 (ix2 h t)

section
variable (x0 : S4096x1024.Idx → EReal) (x1 : S4096x2048.Idx → EReal) (x2 : S1x1024.Idx → EReal) (x3 : S8x128x128.Idx → EReal)
  (x4 : S8x128.Idx → EReal)

/-- The gradient of the gate's operand: left half and right half; -/
def G6 (i : S4096x2048.Idx) : EReal :=
  if h : (i 1).val < 1024 then
    du (adp x0 ⟨(i 0).val / 128, by have := (i 0).isLt; show (i 0).val / 128 < 32; change (i 0).val < 4096 at this; omega⟩)
      (av x1 ⟨(i 0).val / 128, by have := (i 0).isLt; show (i 0).val / 128 < 32; change (i 0).val < 4096 at this; omega⟩) (ag x2) (tri x3) (ab x4)
      ⟨(i 1).val / 128, by omega⟩ ⟨(i 0).val % 128, by omega⟩ ⟨(i 1).val % 128, by omega⟩
  else
    dv (adp x0 ⟨(i 0).val / 128, by have := (i 0).isLt; show (i 0).val / 128 < 32; change (i 0).val < 4096 at this; omega⟩)
      (au x1 ⟨(i 0).val / 128, by have := (i 0).isLt; show (i 0).val / 128 < 32; change (i 0).val < 4096 at this; omega⟩)
      (av x1 ⟨(i 0).val / 128, by have := (i 0).isLt; show (i 0).val / 128 < 32; change (i 0).val < 4096 at this; omega⟩) (ag x2) (trit x3)
      ⟨(i 0).val % 128, by omega⟩ ⟨(i 1).val - 1024, by have := (i 1).isLt; change (i 1).val < 2048 at this; omega⟩

/-- those of the mixing weights and of the bias; -/
def G7 (i : S8x128x128.Idx) : EReal := ∑ N : Fin 32, dw (adp x0 N) (au x1 N) (av x1 N) (ag x2) (i 0) (i 1) (i 2)

def G8 (i : S8x128x128.Idx) : EReal := ∑ N : Fin 32, dm (adp x0 N) (au x1 N) (i 1) (col (i 0) (i 2))

/-- and that of the norm's weight, above seven rows of zeros. -/
def G9 (i : S8x1024.Idx) : EReal :=
  if (i 0).val = 0 then ∑ N : Fin 32, dg (adp x0 N) (au x1 N) (av x1 N) (trit x3) (i 1) else 0

theorem chunk_of_row (N : Fin 32) (r : Fin 128) :
    (⟨(row N r).val / 128, by omega⟩ : Fin 32) = N ∧ (⟨(row N r).val % 128, by omega⟩ : Fin 128) = r :=
  ⟨Fin.ext (by show (N.val * 128 + r.val) / 128 = N.val; omega), Fin.ext (by show (N.val * 128 + r.val) % 128 = r.val; omega)⟩

theorem head_of_col (h : Fin 8) (d : Fin 128) :
    (⟨(col h d).val / 128, by omega⟩ : Fin 8) = h ∧ (⟨(col h d).val % 128, by omega⟩ : Fin 128) = d :=
  ⟨Fin.ext (by show (h.val * 128 + d.val) / 128 = h.val; omega), Fin.ext (by show (h.val * 128 + d.val) % 128 = d.val; omega)⟩

theorem G6_left (N : Fin 32) (r : Fin 128) (h : Fin 8) (d : Fin 128) :
    G6 x0 x1 x2 x3 x4 (ix2 (row N r) (lcol h d)) = du (adp x0 N) (av x1 N) (ag x2) (tri x3) (ab x4) h r d := by
  unfold G6
  refine (dif_pos (show h.val * 128 + d.val < 1024 by omega)).trans ?_
  have e := chunk_of_row N r
  have e' := head_of_col h d
  exact congr (congr (congrArg₂ (fun N' h' => du (adp x0 N') (av x1 N') (ag x2) (tri x3) (ab x4) h') e.1 e'.1) e.2) e'.2

theorem G6_right (N : Fin 32) (r : Fin 128) (l : Fin 1024) :
    G6 x0 x1 x2 x3 x4 (ix2 (row N r) (rcol l)) = dv (adp x0 N) (au x1 N) (av x1 N) (ag x2) (trit x3) r l := by
  unfold G6
  refine (dif_neg (show ¬ 1024 + l.val < 1024 by omega)).trans ?_
  have e := chunk_of_row N r
  have e' : (⟨(rcol l).val - 1024, by omega⟩ : Fin 1024) = l := Fin.ext (by show 1024 + l.val - 1024 = l.val; omega)
  exact congr (congrArg₂ (fun N' r' => dv (adp x0 N') (au x1 N') (av x1 N') (ag x2) (trit x3) r') e.1 e.2) e'
end

theorem row_cases (r : Fin 4096) : ∃ (N : Fin 32) (s : Fin 128), r = row N s :=
  ⟨⟨r.val / 128, by omega⟩, ⟨r.val % 128, by omega⟩, Fin.ext (by show r.val = r.val / 128 * 128 + r.val % 128; omega)⟩

/-- A column is one of the left half's heads' or one of the right half's. -/
theorem half_cases (l : Fin 2048) : (∃ h d, l = lcol h d) ∨ ∃ k, l = rcol k := by
  by_cases hl : l.val < 1024
  · exact .inl ⟨⟨l.val / 128, by omega⟩, ⟨l.val % 128, by omega⟩, Fin.ext (by show l.val = l.val / 128 * 128 + l.val % 128; omega)⟩
  · exact .inr ⟨⟨l.val - 1024, by omega⟩, Fin.ext (by show l.val = 1024 + (l.val - 1024); omega)⟩

/-! ## The blocks, out of the arrays -/

section
variable (c : Dev nD)

abbrev X0 : S4096x1024.Idx → EReal := m ((c : Thread nD τ).loc main_arg0)
abbrev X1 : S4096x2048.Idx → EReal := m ((c : Thread nD τ).loc main_arg1)
abbrev X2 : S1x1024.Idx → EReal := m ((c : Thread nD τ).loc main_arg2)
abbrev X3 : S8x128x128.Idx → EReal := m ((c : Thread nD τ).loc main_arg3)
abbrev X4 : S8x128.Idx → EReal := m ((c : Thread nD τ).loc main_arg4)

/-- The chunk of the arrays that a chunk of a block is. -/
abbrev ch (t : Fin cfg0.N) (n : Fin 4) : Fin 32 := ⟨t.val * 4 + n.val, by have h : t.val < 8 := t.isLt; omega⟩

theorem Vws (h : Fin 8) (r l : Fin 128) : (V m c main_v4 : S8x128x128.Idx → EReal) (ix3 h r l) = tri (X3 m c) h r l := by
  after_reads_at
  simp only [id]
  pointwise [tri]

theorem Vwst (h : Fin 8) (r l : Fin 128) : (V m c main_v6 : S8x128x128.Idx → EReal) (ix3 h r l) = trit (X3 m c) h r l := by
  after_reads_at
  simp only [id]
  pointwise [trit, tri]

theorem Vbs (h : Fin 8) (r l : Fin 128) : (V m c main_v8 : S8x128x128.Idx → EReal) (ix3 h r l) = ab (X4 m c) h r l := by
  after_reads_at

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)

/-- The array's row that a row of a block is. -/
abbrev brow (t : Fin cfg0.N) (R : Fin 512) : Fin 4096 := ⟨t.val * 512 + R.val, by have h : t.val < 8 := t.isLt; omega⟩

theorem brow_crow (t : Fin cfg0.N) (n : Fin 4) (r : Fin 128) : brow t (crow n r) = row (ch t n) r :=
  Fin.ext (by show t.val * 512 + (n.val * 128 + r.val) = (t.val * 4 + n.val) * 128 + r.val; omega)

theorem b0 (t : Fin cfg0.N) (n : Fin 4) : cdp (iblk m c 0 t) n = adp (X0 m c) (ch t n) := by
  have e (R : Fin 512) (k : Fin 1024) : (win0_0.blk t).view.emb (ix2 R k) = ix2 (brow t R) k := by blk_ext [idx0]
  have e' (R : Fin 512) (k : Fin 1024) : iblk m c 0 t (ix2 R k) = X0 m c (ix2 (brow t R) k) := by
    blk_simp [iblk, e]
    rw [V_main_arg0]
  funext r k
  exact (e' (crow n r) k).trans (congrArg (fun R => X0 m c (ix2 R k)) (brow_crow t n r))

theorem b1 (t : Fin cfg0.N) (R : Fin 512) (k : Fin 2048) : iblk m c 1 t (ix2 R k) = X1 m c (ix2 (brow t R) k) := by
  have e (R : Fin 512) (k : Fin 2048) : (win0_1.blk t).view.emb (ix2 R k) = ix2 (brow t R) k := by blk_ext [idx1]
  blk_simp [iblk, e]
  rw [V_main_arg1]

theorem b1u (t : Fin cfg0.N) (n : Fin 4) : cu (iblk m c 1 t) n = au (X1 m c) (ch t n) := by
  funext r k
  exact (b1 m c t (crow n r) _).trans (congrArg (fun R => X1 m c (ix2 R _)) (brow_crow t n r))

theorem b1v (t : Fin cfg0.N) (n : Fin 4) : cv (iblk m c 1 t) n = av (X1 m c) (ch t n) := by
  funext r k
  exact (b1 m c t (crow n r) _).trans (congrArg (fun R => X1 m c (ix2 R _)) (brow_crow t n r))

theorem b2 (t : Fin cfg0.N) : cg (iblk m c 2 t) = ag (X2 m c) := by
  have e (k : Fin 1024) : (win0_2.blk t).view.emb (ix2 0 k) = ix2 0 k := by blk_ext [idx2]
  funext k
  show iblk m c 2 t (ix2 0 k) = _
  blk_simp [iblk, e]
  rw [V_main_arg2]

theorem b3 (t : Fin cfg0.N) : cm (iblk m c 3 t) = tri (X3 m c) := by
  have e (h : Fin 8) (r l : Fin 128) : (win0_3.blk t).view.emb (ix3 h r l) = ix3 h r l := by blk_ext [idx3]
  funext h r l
  show iblk m c 3 t (ix3 h r l) = _
  blk_simp [iblk, e]
  exact Vws m c h r l

theorem b4 (t : Fin cfg0.N) : cm (iblk m c 4 t) = trit (X3 m c) := by
  have e (h : Fin 8) (r l : Fin 128) : (win0_4.blk t).view.emb (ix3 h r l) = ix3 h r l := by blk_ext [idx4]
  funext h r l
  show iblk m c 4 t (ix3 h r l) = _
  blk_simp [iblk, e]
  exact Vwst m c h r l

theorem b5 (t : Fin cfg0.N) : cm (iblk m c 5 t) = ab (X4 m c) := by
  have e (h : Fin 8) (r l : Fin 128) : (win0_5.blk t).view.emb (ix3 h r l) = ix3 h r l := by blk_ext [idx5]
  funext h r l
  show iblk m c 5 t (ix3 h r l) = _
  blk_simp [iblk, e]
  exact Vbs m c h r l

/-! ## The arrays that the kernel leaves -/

theorem final6 : (dats m 0 c).arrAt 6 cfg0.N = G6 (X0 m c) (X1 m c) (X2 m c) (X3 m c) (X4 m c) := by
  refine (dats m 0 c).arrAt_eq_of_covers 6 _ (by decide +kernel) fun t hf y => ?_
  blk_simp
  rw [after0_6]
  obtain ⟨R, l, rfl⟩ : ∃ (R : Fin 512) (l : Fin 2048), y = ix2 R l := ⟨y 0, y 1, (ix2_eta y).symm⟩
  have e : (win0_6.blk t).view.emb (ix2 R l) = ix2 (brow t R) l := by blk_ext [idx6]
  erw [e]
  obtain ⟨n, r, rfl⟩ : ∃ n r, R = crow n r :=
    ⟨⟨R.val / 128, by omega⟩, ⟨R.val % 128, by omega⟩, Fin.ext (by show R.val = R.val / 128 * 128 + R.val % 128; omega)⟩
  rw [brow_crow]
  rcases half_cases l with ⟨h, d, rfl⟩ | ⟨k, rfl⟩
  · rw [G6_left, ← b0, ← b1v, ← b2 m c t, ← b3 m c t, ← b5 m c t]
    by_cases hA : t.val % 8 = 0
    · exact out6l_A m c t hA n h r d
    · exact out6l_B m c t hA n h r d
  · rw [G6_right, ← b0, ← b1v, ← b1u, ← b2 m c t, ← b4 m c t]
    by_cases hA : t.val % 8 = 0
    · exact out6r_A m c t hA n r k
    · exact out6r_B m c t hA n r k

/-- A sum over the points of sums over their chunks is one over the array's chunks. -/
theorem sum_chunks (f : Fin 32 → EReal) : ∑ t : Fin cfg0.N, ∑ n : Fin 4, f (ch t n) = ∑ N : Fin 32, f N :=
  Fin.sum_mul_add_fin (S := 8) (n := 4) f

/-- What a point adds to the gradient of the mixing weights, and to that of the bias. -/
def inc7 (t : Fin cfg0.N) (j : S8x128x128.Idx) : EReal :=
  ∑ n : Fin 4, dw (cdp (iblk m c 0 t) n) (cu (iblk m c 1 t) n) (cv (iblk m c 1 t) n) (cg (iblk m c 2 t)) (j 0) (j 1) (j 2)

def inc8 (t : Fin cfg0.N) (j : S8x128x128.Idx) : EReal :=
  ∑ n : Fin 4, dm (cdp (iblk m c 0 t) n) (cu (iblk m c 1 t) n) (j 1) (col (j 0) (j 2))

theorem step_A (t : Fin cfg0.N) (h : t.val % 8 = 0) (j : S8x128x128.Idx) :
    (outsAt0 m c t.val t.isLt).2.1 j = 0 + inc7 m c t j ∧ (outsAt0 m c t.val t.isLt).2.2.1 j = 0 + inc8 m c t j := by
  obtain ⟨a, r, l, rfl⟩ : ∃ a r l, j = ix3 a r l := ⟨j 0, j 1, j 2, (ix3_eta j).symm⟩
  exact out78_A m c t h a r l

theorem step_B (t : Fin cfg0.N) (h : ¬ t.val % 8 = 0) (j : S8x128x128.Idx) :
    (outsAt0 m c t.val t.isLt).2.1 j =
        (outsAt0 m c (t.val - 1) (Nat.lt_of_le_of_lt (Nat.sub_le _ _) t.isLt)).2.1 j + inc7 m c t j ∧
      (outsAt0 m c t.val t.isLt).2.2.1 j =
        (outsAt0 m c (t.val - 1) (Nat.lt_of_le_of_lt (Nat.sub_le _ _) t.isLt)).2.2.1 j + inc8 m c t j := by
  obtain ⟨a, r, l, rfl⟩ : ∃ a r l, j = ix3 a r l := ⟨j 0, j 1, j 2, (ix3_eta j).symm⟩
  exact out78_B m c t h a r l

theorem sums7 (j : S8x128x128.Idx) :
    (outsAt0 m c t0_7.val t0_7.isLt).2.1 j = G7 (X0 m c) (X1 m c) (X2 m c) j := by
  rw [Pipeline.eq_sum_fin_of_reset_step_apply_last (fun n h => (outsAt0 m c n h).2.1) 8 (fun _ => 0) (inc7 m c)
    (fun t h j => (step_A m c t h j).1) (fun t h j => (step_B m c t h j).1) (le_of_eq N_0) t0_7 rfl j, zero_add]
  unfold inc7
  simp only [b0, b1u, b1v, b2]
  exact sum_chunks fun N => dw (adp (X0 m c) N) (au (X1 m c) N) (av (X1 m c) N) (ag (X2 m c)) (j 0) (j 1) (j 2)

theorem sums8 (j : S8x128x128.Idx) : (outsAt0 m c t0_7.val t0_7.isLt).2.2.1 j = G8 (X0 m c) (X1 m c) j := by
  rw [Pipeline.eq_sum_fin_of_reset_step_apply_last (fun n h => (outsAt0 m c n h).2.2.1) 8 (fun _ => 0) (inc8 m c)
    (fun t h j => (step_A m c t h j).2) (fun t h j => (step_B m c t h j).2) (le_of_eq N_0) t0_7 rfl j, zero_add]
  unfold inc8
  simp only [b0, b1u]
  exact sum_chunks fun N => dm (adp (X0 m c) N) (au (X1 m c) N) (j 1) (col (j 0) (j 2))

theorem final7 : (dats m 0 c).arrAt 7 cfg0.N = G7 (X0 m c) (X1 m c) (X2 m c) := by
  refine (dats m 0 c).arrAt_eq_of_covers 7 _ (by decide +kernel) fun t hf y => ?_
  obtain rfl : t = t0_7 := Fin.ext (by have := (flush0_7 t).mp hf; have h8 : t.val < 8 := t.isLt; show t.val = 7; omega)
  blk_simp
  rw [after0_7]
  obtain ⟨a, r, l, rfl⟩ : ∃ (a : Fin 8) (r l : Fin 128), y = ix3 a r l := ⟨y 0, y 1, y 2, (ix3_eta y).symm⟩
  have e : (win0_7.blk t0_7).view.emb (ix3 a r l) = ix3 a r l := by blk_ext [idx7]
  erw [e]
  exact sums7 m c (ix3 a r l)

theorem final8 : (dats m 0 c).arrAt 8 cfg0.N = G8 (X0 m c) (X1 m c) := by
  refine (dats m 0 c).arrAt_eq_of_covers 8 _ (by decide +kernel) fun t hf y => ?_
  obtain rfl : t = t0_7 := Fin.ext (by have := (flush0_8 t).mp hf; have h8 : t.val < 8 := t.isLt; show t.val = 7; omega)
  blk_simp
  rw [after0_8]
  obtain ⟨a, r, l, rfl⟩ : ∃ (a : Fin 8) (r l : Fin 128), y = ix3 a r l := ⟨y 0, y 1, y 2, (ix3_eta y).symm⟩
  have e : (win0_8.blk t0_7).view.emb (ix3 a r l) = ix3 a r l := by blk_ext [idx8]
  erw [e]
  exact sums8 m c (ix3 a r l)

/-- What a point adds to the rows of sums: to the first row the gradient of the norm's weight, to the others nothing. -/
def inc9 (t : Fin cfg0.N) (j : S8x1024.Idx) : EReal :=
  if (j 0).val = 0 then
    ∑ n : Fin 4, dg (cdp (iblk m c 0 t) n) (cu (iblk m c 1 t) n) (cv (iblk m c 1 t) n) (cm (iblk m c 4 t)) (j 1)
  else 0

theorem step9_A (t : Fin cfg0.N) (h : t.val % 8 = 0) (j : S8x1024.Idx) : (outsAt0 m c t.val t.isLt).2.2.2 j = 0 + inc9 m c t j := by
  obtain ⟨r, l, rfl⟩ : ∃ (r : Fin 8) (l : Fin 1024), j = ix2 r l := ⟨j 0, j 1, (ix2_eta j).symm⟩
  by_cases hr : r.val = 0
  · obtain rfl : r = 0 := Fin.ext hr
    exact (out9_A m c t h l).trans (congrArg (0 + ·) (if_pos rfl).symm)
  · exact ((rest9_A m c t h r hr l).trans (zero_add 0).symm).trans (congrArg (0 + ·) (if_neg hr).symm)

theorem step9_B (t : Fin cfg0.N) (h : ¬ t.val % 8 = 0) (j : S8x1024.Idx) :
    (outsAt0 m c t.val t.isLt).2.2.2 j =
      (outsAt0 m c (t.val - 1) (Nat.lt_of_le_of_lt (Nat.sub_le _ _) t.isLt)).2.2.2 j + inc9 m c t j := by
  obtain ⟨r, l, rfl⟩ : ∃ (r : Fin 8) (l : Fin 1024), j = ix2 r l := ⟨j 0, j 1, (ix2_eta j).symm⟩
  by_cases hr : r.val = 0
  · obtain rfl : r = 0 := Fin.ext hr
    exact (out9_B m c t h l).trans (congrArg (_ + ·) (if_pos rfl).symm)
  · exact ((rest9_B m c t h r hr l).trans (add_zero _).symm).trans (congrArg (_ + ·) (if_neg hr).symm)

theorem sums9 (j : S8x1024.Idx) :
    (outsAt0 m c t0_7.val t0_7.isLt).2.2.2 j = G9 (X0 m c) (X1 m c) (X3 m c) j := by
  rw [Pipeline.eq_sum_fin_of_reset_step_apply_last (fun n h => (outsAt0 m c n h).2.2.2) 8 (fun _ => 0) (inc9 m c)
    (step9_A m c) (step9_B m c) (le_of_eq N_0) t0_7 rfl j, zero_add]
  unfold inc9 G9
  simp only [b0, b1u, b1v, b4]
  split_ifs with hj
  · exact sum_chunks fun N => dg (adp (X0 m c) N) (au (X1 m c) N) (av (X1 m c) N) (trit (X3 m c)) (j 1)
  · exact Finset.sum_const_zero

theorem final9 : (dats m 0 c).arrAt 9 cfg0.N = G9 (X0 m c) (X1 m c) (X3 m c) := by
  refine (dats m 0 c).arrAt_eq_of_covers 9 _ (by decide +kernel) fun t hf y => ?_
  obtain rfl : t = t0_7 := Fin.ext (by have := (flush0_9 t).mp hf; have h8 : t.val < 8 := t.isLt; show t.val = 7; omega)
  blk_simp
  rw [after0_9]
  obtain ⟨r, l, rfl⟩ : ∃ (r : Fin 8) (l : Fin 1024), y = ix2 r l := ⟨y 0, y 1, (ix2_eta y).symm⟩
  have e : (win0_9.blk t0_7).view.emb (ix2 r l) = ix2 r l := by blk_ext [idx9]
  erw [e]
  exact sums9 m c (ix2 r l)
end

/-! ## The reference -/

open Cert.Reference8Ideal.Read in
theorem ref24 (x1 : S4096x2048.Idx → EReal) (x2 : S1x1024.Idx → EReal) (N : Fin 32) (t : Fin 128) (h : Fin 8) (d : Fin 128) :
    val_main_v24 (F := Ideal) x1 x2 (ix4 N t h d) = vn (av x1 N) (ag x2) t (col h d) := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67]
  rfl

open Cert.Reference8Ideal.Read in
theorem ref4 (x3 : S8x128x128.Idx → EReal) (h : Fin 8) (t s : Fin 128) :
    val_main_v4 (F := Ideal) x3 (ix3 h t s) = tri x3 h t s := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67]
  rfl

open Cert.Reference8Ideal.Read in
theorem ref35 (x0 : S4096x1024.Idx → EReal) (x1 : S4096x2048.Idx → EReal) (N : Fin 32) (t : Fin 128) (h : Fin 8) (d : Fin 128) :
    val_main_v35 (F := Ideal) x0 x1 (ix4 N t h d) = dm (adp x0 N) (au x1 N) t (col h d) := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67]
  exact mul_comm _ _

open Cert.Reference8Ideal.Read in
theorem ref30 (x1 : S4096x2048.Idx → EReal) (x2 : S1x1024.Idx → EReal) (x3 : S8x128x128.Idx → EReal) (x4 : S8x128.Idx → EReal) (N : Fin 32) (t : Fin 128) (h : Fin 8) (d : Fin 128) :
    val_main_v30 (F := Ideal) x1 x2 x3 x4 (ix4 N t h d) = mixed (av x1 N) (ag x2) (tri x3) (ab x4) h t d := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref24, ref4]
  exact congrArg (· + _) (Finset.sum_congr rfl fun s _ => mul_comm _ _)

open Cert.Reference8Ideal.Read in
theorem ref43 (x0 : S4096x1024.Idx → EReal) (x1 : S4096x2048.Idx → EReal) (x3 : S8x128x128.Idx → EReal) (N : Fin 32) (t : Fin 128) (h : Fin 8) (d : Fin 128) :
    val_main_v43 (F := Ideal) x0 x1 x3 (ix4 N t h d) = dvn (adp x0 N) (au x1 N) (trit x3) h t d := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref35, ref4]
  exact Finset.sum_congr rfl fun s _ => mul_comm _ _

open Cert.Reference8Ideal.Read in
theorem ref39 (x0 : S4096x1024.Idx → EReal) (x1 : S4096x2048.Idx → EReal) (h : Fin 8) (r l : Fin 128) :
    val_main_v39 (F := Ideal) x0 x1 (ix3 h r l) = ∑ N : Fin 32, dm (adp x0 N) (au x1 N) r (col h l) := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref35]
  simp only [Finset.univ_unique, Finset.sum_singleton]

open Cert.Reference8Ideal.Read in
theorem ref41 (x0 : S4096x1024.Idx → EReal) (x1 : S4096x2048.Idx → EReal) (x2 : S1x1024.Idx → EReal) (h : Fin 8) (r l : Fin 128) :
    val_main_v41 (F := Ideal) x0 x1 x2 (ix3 h r l) = ∑ N : Fin 32, dw (adp x0 N) (au x1 N) (av x1 N) (ag x2) h r l := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v25, val_main_v26, val_main_v27, val_main_v28, val_main_v29, val_main_v30, val_main_v31, val_main_v32, val_main_v33, val_main_v34, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref35, ref24]
  rfl

open Cert.Reference8Ideal.Read in
theorem ref31 (x1 : S4096x2048.Idx → EReal) (x2 : S1x1024.Idx → EReal) (x3 : S8x128x128.Idx → EReal) (x4 : S8x128.Idx → EReal) (N : Fin 32) (r : Fin 128) (h : Fin 8) (d : Fin 128) :
    val_main_v31 (F := Ideal) x1 x2 x3 x4 (ix2 (row N r) (col h d)) = mixed (av x1 N) (ag x2) (tri x3) (ab x4) h r d := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v31, val_main_v32, val_main_v33, val_main_v34, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref30]
  exact congr (congr (congrArg₂ (fun N h => mixed (av x1 N) (ag x2) (tri x3) (ab x4) h) (chunk_of_row N r).1 (head_of_col h d).1) (chunk_of_row N r).2) (head_of_col h d).2

open Cert.Reference8Ideal.Read in
theorem ref44 (x0 : S4096x1024.Idx → EReal) (x1 : S4096x2048.Idx → EReal) (x3 : S8x128x128.Idx → EReal) (N : Fin 32) (r : Fin 128) (l : Fin 1024) :
    val_main_v44 (F := Ideal) x0 x1 x3 (ix2 (row N r) l) = dvc (adp x0 N) (au x1 N) (trit x3) r l := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref43]
  exact congrArg₂ (fun N r => dvc (adp x0 N) (au x1 N) (trit x3) r l) (chunk_of_row N r).1 (chunk_of_row N r).2

open Cert.Reference8Ideal.Read in
theorem ref34 (x0 : S4096x1024.Idx → EReal) (x1 : S4096x2048.Idx → EReal) (x2 : S1x1024.Idx → EReal) (x3 : S8x128x128.Idx → EReal) (x4 : S8x128.Idx → EReal) (N : Fin 32) (r : Fin 128) (h : Fin 8) (d : Fin 128) :
    val_main_v34 (F := Ideal) x0 x1 x2 x3 x4 (ix2 (row N r) (col h d)) = du (adp x0 N) (av x1 N) (ag x2) (tri x3) (ab x4) h r d := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v32, val_main_v33, val_main_v34, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref31]
  rfl

open Cert.Reference8Ideal.Read in
theorem ref63 (x0 : S4096x1024.Idx → EReal) (x1 : S4096x2048.Idx → EReal) (x2 : S1x1024.Idx → EReal) (x3 : S8x128x128.Idx → EReal) (N : Fin 32) (r : Fin 128) (l : Fin 1024)
    (hx : ∃ X : Fin 1024 → ℝ, av x1 N r = fun k => (X k : EReal))
    (hd : ∃ X : Fin 1024 → ℝ, (fun k => dvc (adp x0 N) (au x1 N) (trit x3) r k * ag x2 k) = fun k => (X k : EReal)) :
    val_main_v63 (F := Ideal) x0 x1 x2 x3 (ix2 (row N r) l) = dv (adp x0 N) (au x1 N) (av x1 N) (ag x2) (trit x3) r l := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v43, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67, ref44]
  simp only [Finset.univ_unique, Finset.sum_singleton]
  have e := dx_eq (av x1 N r) (fun k => dvc (adp x0 N) (au x1 N) (trit x3) r k * ag x2 k) 0 l hx hd
  rw [zero_add, add_zero] at e
  exact e

open Cert.Reference8Ideal.Read in
theorem ref65_left (x0 : S4096x1024.Idx → EReal) (x1 : S4096x2048.Idx → EReal) (x2 : S1x1024.Idx → EReal) (x3 : S8x128x128.Idx → EReal) (x4 : S8x128.Idx → EReal) (N : Fin 32) (r : Fin 128) (h : Fin 8) (d : Fin 128) :
    val_main_v65 (F := Ideal) x0 x1 x2 x3 x4 (ix2 (row N r) (lcol h d)) = G6 x0 x1 x2 x3 x4 (ix2 (row N r) (lcol h d)) := by
  rw [G6_left]
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v64, val_main_v65, val_main_cst_10, val_main_v66, val_main_v67]
  exact (dif_pos (show h.val * 128 + d.val < 1024 by omega)).trans (ref34 x0 x1 x2 x3 x4 N r h d)

open Cert.Reference8Ideal.Read in
theorem ref65_right (x0 : S4096x1024.Idx → EReal) (x1 : S4096x2048.Idx → EReal) (x2 : S1x1024.Idx → EReal) (x3 : S8x128x128.Idx → EReal) (x4 : S8x128.Idx → EReal) (N : Fin 32) (r : Fin 128) (l : Fin 1024)
    (hx : ∃ X : Fin 1024 → ℝ, av x1 N r = fun k => (X k : EReal))
    (hd : ∃ X : Fin 1024 → ℝ, (fun k => dvc (adp x0 N) (au x1 N) (trit x3) r k * ag x2 k) = fun k => (X k : EReal)) :
    val_main_v65 (F := Ideal) x0 x1 x2 x3 x4 (ix2 (row N r) (rcol l)) = G6 x0 x1 x2 x3 x4 (ix2 (row N r) (rcol l)) := by
  rw [G6_right]
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v35, val_main_cst_4, val_main_v36, val_main_v37, val_main_cst_5, val_main_v38, val_main_v39, val_main_v40, val_main_v41, val_main_v42, val_main_v43, val_main_v44, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v64, val_main_v65, val_main_cst_10, val_main_v66, val_main_v67]
  exact ref63 x0 x1 x2 x3 N r l hx hd

open Cert.Reference8Ideal.Read in
theorem ref67 (x0 : S4096x1024.Idx → EReal) (x1 : S4096x2048.Idx → EReal) (x3 : S8x128x128.Idx → EReal) (r : Fin 8) (l : Fin 1024) :
    val_main_v67 (F := Ideal) x0 x1 x3 (ix2 r l) = G9 x0 x1 x3 (ix2 r l) := by
  pointwise [val_main_c, val_main_v0, val_main_call0_v0, val_main_call0_c, val_main_call0_v1, val_main_call0_v2, val_main_call0_v3, val_main_call0_v4, val_main_call0_c_0, val_main_call0_v5, val_main_v1, val_main_v2, val_main_cst, val_main_v3, val_main_call1_v0, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_v40, val_main_v41, val_main_v42, val_main_v43, val_main_v45, val_main_cst_6, val_main_v46, val_main_v47, val_main_v48, val_main_v49, val_main_v50, val_main_cst_7, val_main_v51, val_main_v52, val_main_v53, val_main_v54, val_main_v55, val_main_cst_8, val_main_v56, val_main_v57, val_main_cst_9, val_main_v58, val_main_v59, val_main_v60, val_main_v61, val_main_v62, val_main_v63, val_main_v64, val_main_v65, val_main_cst_10, val_main_v66, val_main_v67]
  unfold G9
  by_cases hr : r.val = 0
  · refine (dif_pos (show r.val < 1 by omega)).trans (Eq.trans ?_ (if_pos hr).symm)
    refine (Fin.sum_mul_add_fin (S := 32) (n := 128) fun x : Fin 4096 => x1 (ix2 x (rcol l)) * rs (fun k => x1 (ix2 x (rcol k))) *
      val_main_v44 (F := Ideal) x0 x1 x3 (ix2 x l)).symm.trans (Finset.sum_congr rfl fun N _ => Finset.sum_congr rfl fun s _ => ?_)
    exact (congrArg (_ * ·) (ref44 x0 x1 x3 N s l)).trans (mul_comm _ _)
  · exact (dif_neg (show ¬ r.val < 1 by omega)).trans (if_neg hr).symm

/-! ## The precondition, and the equality -/

section
variable (c : Dev nD)

theorem reals (h : Cert.Pre_Kernel8Ideal_finite_sg m) :
    (∃ Y : S4096x1024.Idx → ℝ, X0 m c = fun i => (Y i : EReal)) ∧ (∃ Y : S4096x2048.Idx → ℝ, X1 m c = fun i => (Y i : EReal))
    ∧ (∃ Y : S1x1024.Idx → ℝ, X2 m c = fun i => (Y i : EReal)) ∧ (∃ Y : S8x128x128.Idx → ℝ, X3 m c = fun i => (Y i : EReal)) := by
  obtain ⟨e, e3⟩ := Cert.Finite.andi_all (h c)
  obtain ⟨e, e2⟩ := Cert.Finite.andi_all e
  obtain ⟨e0, e1⟩ := Cert.Finite.andi_all e
  exact ⟨Cert.Finite.real_of_all _ Cert.Finite.inf_f32 _ _ _ _ e0, Cert.Finite.real_of_all _ Cert.Finite.inf_f32 _ _ _ _ e1,
    Cert.Finite.real_of_all _ Cert.Finite.inf_f32 _ _ _ _ e2, Cert.Finite.real_of_all _ Cert.Finite.inf_f32 _ _ _ _ e3⟩

/-- Masked real weights are real. -/
theorem tri_real (Y : S8x128x128.Idx → ℝ) (h : Fin 8) (t s : Fin 128) : ∃ y : ℝ, tri (fun i => (Y i : EReal)) h t s = (y : EReal) := by
  unfold tri Scalar.select
  split_ifs
  all_goals first | exact ⟨_, rfl⟩ | exact ⟨0, rfl⟩

/-- The rows that the norm's gradient is taken of are real. -/
theorem row_real (h : Cert.Pre_Kernel8Ideal_finite_sg m) (N : Fin 32) (r : Fin 128) :
    ∃ X : Fin 1024 → ℝ, av (X1 m c) N r = fun k => (X k : EReal) := by
  obtain ⟨-, ⟨Y1, e1⟩, -, -⟩ := reals m c h
  exact ⟨fun k => Y1 (ix2 (row N r) (rcol k)), funext fun k => congrFun e1 _⟩

theorem grad_real (h : Cert.Pre_Kernel8Ideal_finite_sg m) (N : Fin 32) (r : Fin 128) :
    ∃ X : Fin 1024 → ℝ, (fun k => dvc (adp (X0 m c) N) (au (X1 m c) N) (trit (X3 m c)) r k * ag (X2 m c) k) = fun k => (X k : EReal) := by
  obtain ⟨⟨Y0, e0⟩, ⟨Y1, e1⟩, ⟨Y2, e2⟩, ⟨Y3, e3⟩⟩ := reals m c h
  rw [e0, e1, e2, e3]
  choose T hT using tri_real Y3
  refine ⟨fun k => (∑ t : Fin 128, T ⟨k.val / 128, by omega⟩ t r * (Y0 (ix2 (row N t) (col ⟨k.val / 128, by omega⟩ ⟨k.val % 128, by omega⟩)) *
    Y1 (ix2 (row N t) ⟨(col ⟨k.val / 128, by omega⟩ ⟨k.val % 128, by omega⟩).val, by omega⟩))) * Y2 (ix2 0 k), funext fun k => ?_⟩
  rw [EReal.coe_mul, ← Cert.Finite.sum_coe]
  unfold dvc dvn
  refine congrArg (fun z : EReal => z * (Y2 (ix2 0 k) : EReal)) (Finset.sum_congr rfl fun t _ => ?_)
  rw [EReal.coe_mul, EReal.coe_mul]
  exact congrArg (fun z : EReal => z * _) (hT _ _ _)

end

theorem algebraic : Cert.algebraic_Kernel8Ideal_Reference8Ideal_pre_finite_sg := by
  pair_intro
  · run_from (run_blocks m g)
  · have hx := fun c => row_real m c hpre
    have hd := fun c => grad_real m c hpre
    run_from Cert.Reference8Ideal.Value.run m' g'
    · rw [final6]
      funext i
      obtain ⟨r, l, rfl⟩ : ∃ (r : Fin 4096) (l : Fin 2048), i = ix2 r l := ⟨i 0, i 1, (ix2_eta i).symm⟩
      obtain ⟨h0, h1, h2, h3, h4⟩ := hagree c
      rw [Cert.Reference8Ideal.Read.val_main_v65_eq]
      try simp only [h0, h1, h2, h3, h4]
      obtain ⟨N, s, rfl⟩ := row_cases r
      rcases half_cases l with ⟨h, d, rfl⟩ | ⟨k, rfl⟩
      · exact ref65_left _ _ _ _ _ N s h d
      · exact ref65_right _ _ _ _ _ N s k (hx c N s) (hd c N s)
    · rw [final7]
      funext i
      obtain ⟨a, r, l, rfl⟩ : ∃ (a : Fin 8) (r l : Fin 128), i = ix3 a r l := ⟨i 0, i 1, i 2, (ix3_eta i).symm⟩
      obtain ⟨h0, h1, h2, h3, h4⟩ := hagree c
      try simp only [h0, h1, h2, h3, h4]
      exact ref41 (X0 m c) (X1 m c) (X2 m c) a r l
    · rw [final8]
      funext i
      obtain ⟨a, r, l, rfl⟩ : ∃ (a : Fin 8) (r l : Fin 128), i = ix3 a r l := ⟨i 0, i 1, i 2, (ix3_eta i).symm⟩
      obtain ⟨h0, h1, h2, h3, h4⟩ := hagree c
      rw [Cert.Reference8Ideal.Read.val_main_v39_eq]
      try simp only [h0, h1, h2, h3, h4]
      exact ref39 _ _ a r l
    · rw [final9]
      funext i
      obtain ⟨r, l, rfl⟩ : ∃ (r : Fin 8) (l : Fin 1024), i = ix2 r l := ⟨i 0, i 1, (ix2_eta i).symm⟩
      obtain ⟨h0, h1, h2, h3, h4⟩ := hagree c
      rw [Cert.Reference8Ideal.Read.val_main_v67_eq]
      try simp only [h0, h1, h2, h3, h4]
      exact ref67 _ _ _ r l

end Cert.Sg
-- ==== Proof.SgFwd.lean ====
/- The spatial gate of the forward pass. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms
public import proofs.«01_k».proof.Proof.SgRef

@[expose] public section

noncomputable section

namespace Cert.SgFwd

open Idealize Idealize.ShloMosaic Idealize.SL.Sem Idealize.ShloMosaic.TcCoe
open Cert.Kernel10Ideal Cert.Kernel10Ideal.Gen Cert.Kernel10Ideal.Value

variable (m : (ℓ : Loc nD τ sig) → Buf (Elt Ideal) ℓ)

open Cert.Common Cert.Rms
open Cert.Sg (crow col vn mixed du cu cv cg cm row au av ag tri ab chunk_of_row head_of_col row_cases col_cases)

/-- The arguments, as arrays of numbers. -/
abbrev X0 (c : Dev nD) : S4096x2048.Idx → EReal := m ((c : Thread nD τ).loc main_arg0)
abbrev X1 (c : Dev nD) : S1x1024.Idx → EReal := m ((c : Thread nD τ).loc main_arg1)
abbrev X2 (c : Dev nD) : S8x128x128.Idx → EReal := m ((c : Thread nD τ).loc main_arg2)
abbrev X3 (c : Dev nD) : S8x128.Idx → EReal := m ((c : Thread nD τ).loc main_arg3)

/-- The gated array, as a function of the arguments: the half that is not normed times the mixture of the half that is. -/
def G4 (x : S4096x2048.Idx → EReal) (g : S1x1024.Idx → EReal) (w : S8x128x128.Idx → EReal) (b : S8x128.Idx → EReal) (i : S4096x1024.Idx) : EReal :=
  du (au x ⟨(i 0).val / 128, by have := (i 0).isLt; show (i 0).val / 128 < 32; change (i 0).val < 4096 at this; omega⟩)
    (av x ⟨(i 0).val / 128, by have := (i 0).isLt; show (i 0).val / 128 < 32; change (i 0).val < 4096 at this; omega⟩) (ag g) (tri w) (ab b)
    ⟨(i 1).val / 128, by have := (i 1).isLt; show (i 1).val / 128 < 8; change (i 1).val < 1024 at this; omega⟩ ⟨(i 0).val % 128, by omega⟩ ⟨(i 1).val % 128, by omega⟩

theorem G4_at (x : S4096x2048.Idx → EReal) (g : S1x1024.Idx → EReal) (w : S8x128x128.Idx → EReal) (b : S8x128.Idx → EReal)
    (N : Fin 32) (r : Fin 128) (h : Fin 8) (d : Fin 128) :
    G4 x g w b (ix2 (row N r) (col h d)) = du (au x N) (av x N) (ag g) (tri w) (ab b) h r d := by
  have e := chunk_of_row N r
  have e' := head_of_col h d
  exact congr (congr (congrArg₂ (fun N' h' => du (au x N') (av x N') (ag g) (tri w) (ab b) h') e.1 e'.1) e.2) e'.2

/-! ## The tiles that a grid point stores -/

section
variable {Val : EltTy → Type} {e : EltTy} [∀ e, Nonempty (Val e)]

/-- The tile of a chunk's rows and a head's columns, if it was stored last, at an index; -/
theorem canon_tile_same (a b : ℕ) (n : Fin 4) (h : Fin 8) (r d : Fin 128)
    (inb : ∀ x, (![a, b] : Fin 2 → ℕ) x + (![128, 128] : Fin 2 → ℕ) x ≤ (⟨2, ![512, 1024]⟩ : Shape).size x)
    (w : (⟨2, ![128, 128]⟩ : Shape).Idx → Val e) (L : List (View.Piece Val (⟨2, ![512, 1024]⟩ : Shape) e))
    (ha : a = n.val * 128) (hb : b = h.val * 128) :
    View.canon (⟨Rect.unit (s := (⟨2, ![512, 1024]⟩ : Shape)) ![a, b] ![128, 128] inb, w⟩ :: L) (ix2 (crow n r) (col h d)) =
      w (ix2 r d) := by
  subst ha hb
  refine Eq.trans (congrArg _ (?_ : _ = (Rect.unit (s := (⟨2, ![512, 1024]⟩ : Shape)) ![n.val * 128, h.val * 128] ![128, 128] inb).emb (ix2 r d)))
    (View.canon_cons_emb ..)
  funext x
  apply Fin.ext
  fin_cases x <;> simp

/-- and another tile. -/
theorem canon_tile_ne (a b : ℕ) (n : Fin 4) (h : Fin 8) (r d : Fin 128)
    (inb : ∀ x, (![a, b] : Fin 2 → ℕ) x + (![128, 128] : Fin 2 → ℕ) x ≤ (⟨2, ![512, 1024]⟩ : Shape).size x)
    (w : (⟨2, ![128, 128]⟩ : Shape).Idx → Val e) (L : List (View.Piece Val (⟨2, ![512, 1024]⟩ : Shape) e))
    (hab : n.val * 128 + 128 ≤ a ∨ a + 128 ≤ n.val * 128 ∨ h.val * 128 + 128 ≤ b ∨ b + 128 ≤ h.val * 128) :
    View.canon (⟨Rect.unit (s := (⟨2, ![512, 1024]⟩ : Shape)) ![a, b] ![128, 128] inb, w⟩ :: L) (ix2 (crow n r) (col h d)) =
      View.canon L (ix2 (crow n r) (col h d)) := by
  refine View.canon_cons_of_not_mem _ L fun hm => ?_
  have h0 := (Rect.mem_set_unit (inb := inb).mp hm) 0
  have h1 := (Rect.mem_set_unit (inb := inb).mp hm) 1
  simp at h0 h1
  omega

end

set_option maxHeartbeats 8000000 in
/-- What a grid point leaves in a tile of its block. -/
theorem out_at (x0 : Vec Ideal S512x2048 .f32) (x1 : Vec Ideal S1x1024 .f32) (x2 : Vec Ideal S8x128x128 .bf16) (x3 : Vec Ideal S8x128x128 .f32)
    (n : Fin 4) (h : Fin 8) (r d : Fin 128) :
    out0_4 x0 x1 x2 x3 (ix2 (crow n r) (col h d)) = du (cu x0 n) (cv x0 n) (cg x1) (cm x2) (cm x3) h r d := by
  rcases n with ⟨n, hn⟩
  rcases h with ⟨h, hh⟩
  interval_cases n <;> interval_cases h
  all_goals
    unfold out0_4
    frame_out
    simp only [r0_0, r0_1, r0_2, r0_3, r0_4, r0_5, r0_6, r0_7, r0_8, r0_9, r0_10, r0_11, r0_12, r0_13, r0_14, r0_15, r0_16, r0_17, r0_18, r0_19, r0_20, r0_21, r0_22, r0_23, r0_24, r0_25, r0_26, r0_27, r0_28, r0_29, r0_30, r0_31, r0_32, r0_33, r0_34, r0_35, r0_36, r0_37, r0_38, r0_39, r0_40, r0_41, r0_42, r0_43, r0_44, r0_45, r0_46, r0_47, r0_48, r0_49, r0_50, r0_51, r0_52, r0_53, r0_54, r0_55, r0_56, r0_57, r0_58, r0_59, r0_60, r0_61, r0_62, r0_63, r0_64, r0_65, r0_66, r0_67, r0_68, r0_69, r0_70, r0_71, r0_72, r0_73, r0_74, r0_75, r0_76, canon_tile_same, canon_tile_ne, Nat.reduceMul, Nat.reduceAdd, Nat.reduceLeDiff, or_true, true_or]
    open_payloads
    pointwise []
    simp only [du, mixed, vn, rs, ms, cu, cv, cg, cm, crow, col, Fin.val_zero, zero_mul, zero_add]
    try rfl

/-! ## The blocks, out of the arrays -/

section
variable (c : Dev nD)

/-- The chunk of the arrays that a chunk of a block is. -/
abbrev ch (t : Fin cfg0.N) (n : Fin 4) : Fin 32 := ⟨t.val * 4 + n.val, by have h : t.val < 8 := t.isLt; omega⟩

theorem Vws (h : Fin 8) (r l : Fin 128) : (V m c main_v4 : S8x128x128.Idx → EReal) (ix3 h r l) = tri (X2 m c) h r l := by
  after_reads_at
  simp only [id]
  pointwise [tri]

theorem Vbs (h : Fin 8) (r l : Fin 128) : (V m c main_v6 : S8x128x128.Idx → EReal) (ix3 h r l) = ab (X3 m c) h r l := by
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)

/-- The array's row that a row of a block is. -/
abbrev brow (t : Fin cfg0.N) (R : Fin 512) : Fin 4096 := ⟨t.val * 512 + R.val, by have h : t.val < 8 := t.isLt; omega⟩

theorem brow_crow (t : Fin cfg0.N) (n : Fin 4) (r : Fin 128) : brow t (crow n r) = row (ch t n) r :=
  Fin.ext (by show t.val * 512 + (n.val * 128 + r.val) = (t.val * 4 + n.val) * 128 + r.val; omega)

theorem b0 (t : Fin cfg0.N) (R : Fin 512) (k : Fin 2048) : iblk m c 0 t (ix2 R k) = X0 m c (ix2 (brow t R) k) := by
  have e (R : Fin 512) (k : Fin 2048) : (win0_0.blk t).view.emb (ix2 R k) = ix2 (brow t R) k := by blk_ext [idx0]
  blk_simp [iblk, e]
  rw [V_main_arg0]

theorem b0u (t : Fin cfg0.N) (n : Fin 4) : cu (iblk m c 0 t) n = au (X0 m c) (ch t n) := by
  funext r k
  exact (b0 m c t (crow n r) _).trans (congrArg (fun R => X0 m c (ix2 R _)) (brow_crow t n r))

theorem b0v (t : Fin cfg0.N) (n : Fin 4) : cv (iblk m c 0 t) n = av (X0 m c) (ch t n) := by
  funext r k
  exact (b0 m c t (crow n r) _).trans (congrArg (fun R => X0 m c (ix2 R _)) (brow_crow t n r))

theorem b1 (t : Fin cfg0.N) : cg (iblk m c 1 t) = ag (X1 m c) := by
  have e (k : Fin 1024) : (win0_1.blk t).view.emb (ix2 0 k) = ix2 0 k := by blk_ext [idx1]
  funext k
  show iblk m c 1 t (ix2 0 k) = _
  blk_simp [iblk, e]
  rw [V_main_arg1]

theorem b2 (t : Fin cfg0.N) : cm (iblk m c 2 t) = tri (X2 m c) := by
  have e (h : Fin 8) (r l : Fin 128) : (win0_2.blk t).view.emb (ix3 h r l) = ix3 h r l := by blk_ext [idx2]
  funext h r l
  show iblk m c 2 t (ix3 h r l) = _
  blk_simp [iblk, e]
  exact Vws m c h r l

theorem b3 (t : Fin cfg0.N) : cm (iblk m c 3 t) = ab (X3 m c) := by
  have e (h : Fin 8) (r l : Fin 128) : (win0_3.blk t).view.emb (ix3 h r l) = ix3 h r l := by blk_ext [idx3]
  funext h r l
  show iblk m c 3 t (ix3 h r l) = _
  blk_simp [iblk, e]
  exact Vbs m c h r l

/-- The array that the kernel leaves. -/
theorem final4 : (dats m 0 c).arrAt 4 cfg0.N = G4 (X0 m c) (X1 m c) (X2 m c) (X3 m c) := by
  refine (dats m 0 c).arrAt_eq_of_covers 4 _ (by decide +kernel) fun t hf y => ?_
  blk_simp
  rw [after0_4]
  obtain ⟨R, l, rfl⟩ : ∃ (R : Fin 512) (l : Fin 1024), y = ix2 R l := ⟨y 0, y 1, (ix2_eta y).symm⟩
  have e : (win0_4.blk t).view.emb (ix2 R l) = ix2 (brow t R) l := by blk_ext [idx4]
  erw [e]
  obtain ⟨n, r, rfl⟩ : ∃ n r, R = crow n r :=
    ⟨⟨R.val / 128, by omega⟩, ⟨R.val % 128, by omega⟩, Fin.ext (by show R.val = R.val / 128 * 128 + R.val % 128; omega)⟩
  obtain ⟨h, d, rfl⟩ := col_cases l
  rw [brow_crow]
  refine (out_at _ _ _ _ n h r d).trans ?_
  rw [b0u, b0v, b1, b2, b3]
  exact (G4_at _ _ _ _ (ch t n) r h d).symm

end

/-! ## The reference -/

theorem ref14 (x0 : S4096x2048.Idx → EReal) (x1 : S1x1024.Idx → EReal) (N : Fin 32) (t : Fin 128) (h : Fin 8) (d : Fin 128) :
    Cert.Reference10Ideal.Read.val_main_v14 (F := Ideal) x0 x1 (ix4 N t h d) = vn (av x0 N) (ag x1) t (col h d) := by
  open Cert.Reference10Ideal.Read in
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_c, val_main_v15, val_main_call0_v0, val_main_call0_c, val_main_call0_v1, val_main_call0_v2, val_main_call0_v3, val_main_call0_v4, val_main_call0_c_0, val_main_call0_v5, val_main_v16, val_main_v17, val_main_cst_2, val_main_v18, val_main_call1_v0, val_main_v19, val_main_v20, val_main_v21, val_main_v22, val_main_v23, val_main_v24, val_main_v25, val_main_v26, val_main_v27, val_main_v28, val_main_v29]
  rfl

theorem ref19 (x2 : S8x128x128.Idx → EReal) (h : Fin 8) (t s : Fin 128) :
    Cert.Reference10Ideal.Read.val_main_v19 (F := Ideal) x2 (ix3 h t s) = tri x2 h t s := by
  open Cert.Reference10Ideal.Read in
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_c, val_main_v15, val_main_call0_v0, val_main_call0_c, val_main_call0_v1, val_main_call0_v2, val_main_call0_v3, val_main_call0_v4, val_main_call0_c_0, val_main_call0_v5, val_main_v16, val_main_v17, val_main_cst_2, val_main_v18, val_main_call1_v0, val_main_v19, val_main_v20, val_main_v21, val_main_v22, val_main_v23, val_main_v24, val_main_v25, val_main_v26, val_main_v27, val_main_v28, val_main_v29]
  rfl

theorem ref26 (x0 : S4096x2048.Idx → EReal) (x1 : S1x1024.Idx → EReal) (x2 : S8x128x128.Idx → EReal) (x3 : S8x128.Idx → EReal) (N : Fin 32) (t : Fin 128) (h : Fin 8) (d : Fin 128) :
    Cert.Reference10Ideal.Read.val_main_v26 (F := Ideal) x0 x1 x2 x3 (ix4 N t h d) = mixed (av x0 N) (ag x1) (tri x2) (ab x3) h t d := by
  open Cert.Reference10Ideal.Read in
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_c, val_main_v15, val_main_call0_v0, val_main_call0_c, val_main_call0_v1, val_main_call0_v2, val_main_call0_v3, val_main_call0_v4, val_main_call0_c_0, val_main_call0_v5, val_main_v16, val_main_v17, val_main_cst_2, val_main_v18, val_main_call1_v0, val_main_v20, val_main_v21, val_main_v22, val_main_v23, val_main_v24, val_main_v25, val_main_v26, val_main_v27, val_main_v28, val_main_v29, ref14, ref19]
  exact congrArg (· + _) (Finset.sum_congr rfl fun s _ => mul_comm _ _)

theorem ref27 (x0 : S4096x2048.Idx → EReal) (x1 : S1x1024.Idx → EReal) (x2 : S8x128x128.Idx → EReal) (x3 : S8x128.Idx → EReal) (N : Fin 32) (r : Fin 128) (h : Fin 8) (d : Fin 128) :
    Cert.Reference10Ideal.Read.val_main_v27 (F := Ideal) x0 x1 x2 x3 (ix2 (row N r) (col h d)) = mixed (av x0 N) (ag x1) (tri x2) (ab x3) h r d := by
  open Cert.Reference10Ideal.Read in
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_c, val_main_v15, val_main_call0_v0, val_main_call0_c, val_main_call0_v1, val_main_call0_v2, val_main_call0_v3, val_main_call0_v4, val_main_call0_c_0, val_main_call0_v5, val_main_v16, val_main_v17, val_main_cst_2, val_main_v18, val_main_call1_v0, val_main_v19, val_main_v20, val_main_v21, val_main_v22, val_main_v23, val_main_v24, val_main_v25, val_main_v27, val_main_v28, val_main_v29, ref26]
  exact congr (congr (congrArg₂ (fun N h => mixed (av x0 N) (ag x1) (tri x2) (ab x3) h) (chunk_of_row N r).1 (head_of_col h d).1) (chunk_of_row N r).2) (head_of_col h d).2

theorem ref29 (x0 : S4096x2048.Idx → EReal) (x1 : S1x1024.Idx → EReal) (x2 : S8x128x128.Idx → EReal) (x3 : S8x128.Idx → EReal) (N : Fin 32) (r : Fin 128) (h : Fin 8) (d : Fin 128) :
    Cert.Reference10Ideal.Read.val_main_v29 (F := Ideal) x0 x1 x2 x3 (ix2 (row N r) (col h d)) = du (au x0 N) (av x0 N) (ag x1) (tri x2) (ab x3) h r d := by
  open Cert.Reference10Ideal.Read in
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_c, val_main_v15, val_main_call0_v0, val_main_call0_c, val_main_call0_v1, val_main_call0_v2, val_main_call0_v3, val_main_call0_v4, val_main_call0_c_0, val_main_call0_v5, val_main_v16, val_main_v17, val_main_cst_2, val_main_v18, val_main_call1_v0, val_main_v19, val_main_v20, val_main_v21, val_main_v22, val_main_v23, val_main_v24, val_main_v25, val_main_v26, val_main_v28, val_main_v29, ref27]
  rfl

theorem algebraic : Cert.algebraic_Kernel10Ideal_Reference10Ideal := by
  pair_intro
  · run_from (run_blocks m g)
  · run_from Cert.Reference10Ideal.Value.run m' g'
    · rw [final4]
      funext i
      obtain ⟨r, l, rfl⟩ : ∃ (r : Fin 4096) (l : Fin 1024), i = ix2 r l := ⟨i 0, i 1, (ix2_eta i).symm⟩
      obtain ⟨h0, h1, h2, h3⟩ := hagree c
      rw [Cert.Reference10Ideal.Read.val_main_v29_eq]
      try simp only [h0, h1, h2, h3]
      obtain ⟨N, s, rfl⟩ := row_cases r
      obtain ⟨h, d, rfl⟩ := col_cases l
      exact (ref29 _ _ _ _ N s h d).trans (G4_at _ _ _ _ N s h d).symm

end Cert.SgFwd
-- ==== Proof.ConvFwd.lean ====
/- The gated short convolution of the forward pass. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Conv

@[expose] public section

noncomputable section

namespace Cert.ConvFwd

open Idealize Idealize.ShloMosaic Idealize.SL.Sem Idealize.ShloMosaic.TcCoe
open Cert.Kernel11Ideal Cert.Kernel11Ideal.Gen Cert.Kernel11Ideal.Value

variable (m : (ℓ : Loc nD τ sig) → Buf (Elt Ideal) ℓ)

open Cert.Common
open Cert.Conv (down down_pos down_neg conv col bcol ccol xcol)

/-- The arguments, as arrays of numbers. -/
abbrev X0 (c : Dev nD) : S4096x3072.Idx → EReal := m ((c : Thread nD τ).loc main_arg0)
abbrev X1 (c : Dev nD) : S3x1024.Idx → EReal := m ((c : Thread nD τ).loc main_arg1)
abbrev X2 (c : Dev nD) : S1x1024.Idx → EReal := m ((c : Thread nD τ).loc main_arg2)

/-- The gated convolution, as a function of the arguments. -/
def G4 (x : S4096x3072.Idx → EReal) (w : S3x1024.Idx → EReal) (b : S1x1024.Idx → EReal) (i : S4096x1024.Idx) : EReal :=
  bcol x (i 1) (i 0) * conv (w (ix2 0 (i 1))) (w (ix2 1 (i 1))) (w (ix2 2 (i 1))) (b (ix2 0 (i 1)))
    (fun r => ccol x (i 1) r * xcol x (i 1) r) (i 0)

set_option maxRecDepth 100000 in
theorem pay_apply (c0 c1 : Vec Ideal S4096x128 .bf16) (w0 w1 w2 b : Vec Ideal S1x128 .f32) (g : Vec Ideal S4096x128 .bf16) (r : Fin 4096) (l : Fin 128) :
    k0_pay1 c0 c1 w0 w1 w2 b g (ix2 r l) =
      col g l r * conv (w0 (ix2 0 l)) (w1 (ix2 0 l)) (w2 (ix2 0 l)) (b (ix2 0 l)) (fun r => col c0 l r * col c1 l r) r := by
  pointwise [k0_pay1]
  rw [select_sge _ 1 (by omega) (by omega), select_sge _ 2 (by omega) (by omega)]
  have e1 (h : 1 ≤ r.val) : (⟨(r.val + 4096 - 1) % 4096, Nat.mod_lt _ (by omega)⟩ : Fin 4096) = ⟨r.val - 1, by omega⟩ :=
    Fin.ext (by show _ % _ = _ - _; omega)
  have e2 (h : 2 ≤ r.val) : (⟨(r.val + 4096 - 2) % 4096, Nat.mod_lt _ (by omega)⟩ : Fin 4096) = ⟨r.val - 2, by omega⟩ :=
    Fin.ext (by show _ % _ = _ - _; omega)
  unfold conv
  by_cases h1 : 1 ≤ r.val <;> by_cases h2 : 2 ≤ r.val
  · rw [if_pos h1, if_pos h2, e1 h1, e2 h2]
    unfold down
    rw [if_pos h1, if_pos h2]
  · rw [if_pos h1, if_neg h2, e1 h1, down_neg (k := 2) _ r (by omega), mul_zero]
    unfold down
    rw [if_pos h1]
  · omega
  · rw [if_neg h1, if_neg h2, down_neg (k := 2) _ r (by omega), down_neg (k := 1) _ r (by omega), mul_zero, mul_zero]

theorem idx0 : ∀ t : Fin cfg0.N, win0_0.index t = ![0, t.val] := (by decide +kernel : ∀ t : Fin grid0.N, _)
theorem idx1 : ∀ t : Fin cfg0.N, win0_1.index t = ![0, 8 + t.val] := (by decide +kernel : ∀ t : Fin grid0.N, _)
theorem idx2 : ∀ t : Fin cfg0.N, win0_2.index t = ![0, 16 + t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

/-- The column of the arrays that a column of a block is. -/
abbrev lane (t : Fin cfg0.N) (l : Fin 128) : Fin 1024 := ⟨t.val * 128 + l.val, by have : t.val < 8 := t.isLt; omega⟩

/-- The packed taps that the kernel reads, -/
theorem tap_row (c : Dev nD) (r : Fin 3) (l : Fin 1024) : (V m c main_v1 : S8x1024.Idx → EReal) (ix2 ⟨r.val, by omega⟩ l) = X1 m c (ix2 r l) := by
  after_reads_at
  rw [dif_pos (by omega)]
  rfl

/-- and the bias under them. -/
theorem bias_row (c : Dev nD) (l : Fin 1024) : (V m c main_v1 : S8x1024.Idx → EReal) (ix2 3 l) = X2 m c (ix2 0 l) := by
  after_reads_at
  rfl

section
variable (c : Dev nD)

theorem col0 (t : Fin cfg0.N) (r : Fin 4096) (l : Fin 128) : iblk m c 0 t (ix2 r l) = bcol (X0 m c) (lane t l) r := by
  have e : (win0_0.blk t).view.emb (ix2 r l) = ix2 r ⟨(lane t l).val, by have := (lane t l).isLt; omega⟩ := by blk_ext [idx0]
  blk_simp [iblk, e]
  rw [V_main_arg0]

theorem col1 (t : Fin cfg0.N) (r : Fin 4096) (l : Fin 128) : iblk m c 1 t (ix2 r l) = ccol (X0 m c) (lane t l) r := by
  have e : (win0_1.blk t).view.emb (ix2 r l) = ix2 r ⟨1024 + (lane t l).val, by have := (lane t l).isLt; omega⟩ := by blk_ext [idx1]
  blk_simp [iblk, e]
  rw [V_main_arg0]

theorem col2 (t : Fin cfg0.N) (r : Fin 4096) (l : Fin 128) : iblk m c 2 t (ix2 r l) = xcol (X0 m c) (lane t l) r := by
  have e : (win0_2.blk t).view.emb (ix2 r l) = ix2 r ⟨2048 + (lane t l).val, by have := (lane t l).isLt; omega⟩ := by blk_ext [idx2]
  blk_simp [iblk, e]
  rw [V_main_arg0]

theorem tap (t : Fin cfg0.N) (r : Fin 8) (l : Fin 128) :
    iblk m c 3 t (ix2 r l) = (V m c main_v1 : S8x1024.Idx → EReal) (ix2 r (lane t l)) := by
  blk_simp [iblk]
  blk_ext [idx3]

theorem final4 : (dats m 0 c).arrAt 4 cfg0.N = G4 (X0 m c) (X1 m c) (X2 m c) := by
  refine (dats m 0 c).arrAt_eq_of_covers 4 _ (by decide +kernel) fun t hf y => ?_
  blk_simp
  rw [after0_4]
  obtain ⟨r, l, rfl⟩ : ∃ (r : Fin 4096) (l : Fin 128), y = ix2 r l := ⟨y 0, y 1, (ix2_eta y).symm⟩
  have e : (win0_4.blk t).view.emb (ix2 r l) = ix2 r (lane t l) := by blk_ext [idx4]
  erw [e]
  unfold out0_4
  frame_out
  refine (pay_apply _ _ _ _ _ _ _ r l).trans ?_
  erw [ld_row 0 (by omega), ld_row 1 (by omega), ld_row 2 (by omega), ld_row 3 (by omega)]
  rw [tap, tap, tap, tap]
  unfold col
  simp only [col0, col1, col2]
  erw [bias_row, tap_row m c 0, tap_row m c 1, tap_row m c 2]
  rfl

end

/-! ## The reference -/

set_option maxHeartbeats 2000000 in
theorem ref (x0 : S4096x3072.Idx → EReal) (x1 : S3x1024.Idx → EReal) (x2 : S1x1024.Idx → EReal) (r : Fin 4096) (l : Fin 1024) :
    Cert.Reference11Ideal.Read.val_main_v30 (F := Ideal) x0 x1 x2 (ix2 r l) = G4 x0 x1 x2 (ix2 r l) := by
  open Cert.Reference11Ideal.Read in
  pointwise [val_main_v0, val_main_v1, val_main_v2, val_main_v3, val_main_cst, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  change _ = bcol x0 l r * conv (x1 (ix2 0 l)) (x1 (ix2 1 l)) (x1 (ix2 2 l)) (x2 (ix2 0 l)) (fun r => ccol x0 l r * xcol x0 l r) r
  unfold conv
  by_cases h2 : r.val < 2
  · rw [dif_pos h2, down_neg _ r h2]
    by_cases h1 : r.val < 1
    · rw [dif_pos (by omega), down_neg _ r h1]
    · rw [dif_neg (by omega), down_pos (k := 1) _ r ⟨1 + r.val - 2, by omega⟩ (by show 1 + r.val - 2 + 1 = _; omega)]
  · rw [dif_neg h2, down_pos (k := 2) _ r ⟨r.val - 2, by omega⟩ (by show r.val - 2 + 2 = _; omega),
      dif_neg (by omega), down_pos (k := 1) _ r ⟨1 + r.val - 2, by omega⟩ (by show 1 + r.val - 2 + 1 = _; omega)]

theorem algebraic : Cert.algebraic_Kernel11Ideal_Reference11Ideal := by
  pair_intro
  · run_from (run_blocks m g)
  · run_from Cert.Reference11Ideal.Value.run m' g'
    · rw [final4]
      funext i
      obtain ⟨r, l, rfl⟩ : ∃ r l, i = ix2 r l := ⟨i 0, i 1, (ix2_eta i).symm⟩
      obtain ⟨h0, h1, h2⟩ := hagree c
      rw [Cert.Reference11Ideal.Read.val_main_v30_eq]
      try simp only [h0, h1, h2]
      exact ref _ _ _ r l

end Cert.ConvFwd
-- ==== Proof.NormFwd.lean ====
/- The modulated norm of the forward pass. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms

@[expose] public section

noncomputable section

namespace Cert.NormFwd

open Idealize Idealize.ShloMosaic Idealize.SL.Sem Idealize.ShloMosaic.TcCoe
open Cert.Kernel12Ideal Cert.Kernel12Ideal.Gen Cert.Kernel12Ideal.Value

variable (m : (ℓ : Loc nD τ sig) → Buf (Elt Ideal) ℓ)

open Cert.Common Cert.Rms

/-- The arguments, as arrays of numbers. -/
abbrev X0 (c : Dev nD) : S4096x1024.Idx → EReal := m ((c : Thread nD τ).loc main_arg0)
abbrev X1 (c : Dev nD) : S1x1024.Idx → EReal := m ((c : Thread nD τ).loc main_arg1)
abbrev X2 (c : Dev nD) : S1x1024.Idx → EReal := m ((c : Thread nD τ).loc main_arg2)
abbrev X3 (c : Dev nD) : S1x1024.Idx → EReal := m ((c : Thread nD τ).loc main_arg3)

/-- The norm's weight with the modulation's scale in it. -/
def scaled (g sc : S1x1024.Idx → EReal) (l : Fin 1024) : EReal := g (ix2 0 l) * (1 + sc (ix2 0 l))

/-- The modulated norm, as a function of the arguments. -/
def G3 (x : S4096x1024.Idx → EReal) (g sc sh : S1x1024.Idx → EReal) (i : S4096x1024.Idx) : EReal :=
  x i * rs (fun k => x (ix2 (i 0) k)) * scaled g sc (i 1) + sh (ix2 0 (i 1))

theorem pay_apply (x : Vec Ideal S512x1024 .f32) (w b : Vec Ideal S1x1024 .f32) (r : Fin 512) (l : Fin 1024) :
    k0_pay1 x w b (ix2 r l) = x (ix2 r l) * rs (fun k => x (ix2 r k)) * w (ix2 0 l) + b (ix2 0 l) := by
  pointwise [k0_pay1]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

theorem scaled_apply (c : Dev nD) (l : Fin 1024) : (V m c main_v2 : S1x1024.Idx → EReal) (ix2 0 l) = scaled (X1 m c) (X2 m c) l := by
  after_reads_at
  rfl

section
variable (c : Dev nD)

theorem bx (t : Fin cfg0.N) (r : Fin 512) (l : Fin 1024) : iblk m c 0 t (ix2 r l) = X0 m c (ix2 (row t r) l) := by
  have e : (win0_0.blk t).view.emb (ix2 r l) = ix2 (row t r) l := by blk_ext [idx0]
  blk_simp [iblk, e]
  rw [V_main_arg0]

theorem bw (t : Fin cfg0.N) (l : Fin 1024) : iblk m c 1 t (ix2 0 l) = scaled (X1 m c) (X2 m c) l := by
  have e : (win0_1.blk t).view.emb (ix2 0 l) = ix2 0 l := by blk_ext [idx1]
  blk_simp [iblk, e]
  exact scaled_apply m c l

theorem bb (t : Fin cfg0.N) (l : Fin 1024) : iblk m c 2 t (ix2 0 l) = X3 m c (ix2 0 l) := by
  have e : (win0_2.blk t).view.emb (ix2 0 l) = ix2 0 l := by blk_ext [idx2]
  blk_simp [iblk, e]
  rw [V_main_arg3]

theorem final3 : (dats m 0 c).arrAt 3 cfg0.N = G3 (X0 m c) (X1 m c) (X2 m c) (X3 m c) := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, (ix2_eta y).symm⟩
  have e : (win0_3.blk t).view.emb (ix2 r l) = ix2 (row t r) l := by blk_ext [idx3]
  erw [e]
  unfold out0_3
  frame_out
  refine (pay_apply _ _ _ r l).trans ?_
  simp only [bx, bw, bb]
  rfl

end

/-! ## The reference -/

theorem ref (x0 : S4096x1024.Idx → EReal) (x1 x2 x3 : S1x1024.Idx → EReal) (r : Fin 4096) (l : Fin 1024) :
    Cert.Reference12Ideal.Read.val_main_v18 (F := Ideal) x0 x1 x2 x3 (ix2 r l) = G3 x0 x1 x2 x3 (ix2 r l) := by
  open Cert.Reference12Ideal.Read in
  pointwise [val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17, val_main_v18]

  change x0 (ix2 r l) * rs (fun k => x0 (ix2 r k)) * x1 (ix2 0 l) * (_ + _) + _ = x0 (ix2 r l) * rs (fun k => x0 (ix2 r k)) * (x1 (ix2 0 l) * (_ + _)) + _
  rw [mul_assoc (_ * _)]
  rfl

theorem algebraic : Cert.algebraic_Kernel12Ideal_Reference12Ideal := by
  pair_intro
  · run_from (run_blocks m g)
  · run_from Cert.Reference12Ideal.Value.run m' g'
    · rw [final3]
      funext i
      obtain ⟨r, l, rfl⟩ : ∃ r l, i = ix2 r l := ⟨i 0, i 1, (ix2_eta i).symm⟩
      obtain ⟨h0, h1, h2, h3⟩ := hagree c
      rw [Cert.Reference12Ideal.Read.val_main_v18_eq]
      try simp only [h0, h1, h2, h3]
      exact ref _ _ _ _ r l

end Cert.NormFwd
-- ==== Proof.MixFwd.lean ====
/- The mixer's output product, its gated residual and the modulated norm behind it. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms

@[expose] public section

noncomputable section

namespace Cert.MixFwd

open Idealize Idealize.ShloMosaic Idealize.SL.Sem Idealize.ShloMosaic.TcCoe
open Cert.Kernel13Ideal Cert.Kernel13Ideal.Gen Cert.Kernel13Ideal.Value

variable (m : (ℓ : Loc nD τ sig) → Buf (Elt Ideal) ℓ)

open Cert.Common Cert.Rms

/-- The arguments, as arrays of numbers. -/
abbrev X0 (c : Dev nD) : S4096x1024.Idx → EReal := m ((c : Thread nD τ).loc main_arg0)
abbrev X1 (c : Dev nD) : S1024x1024.Idx → EReal := m ((c : Thread nD τ).loc main_arg1)
abbrev X2 (c : Dev nD) : S4096x1024.Idx → EReal := m ((c : Thread nD τ).loc main_arg2)
abbrev X3 (c : Dev nD) : S1x1024.Idx → EReal := m ((c : Thread nD τ).loc main_arg3)
abbrev X4 (c : Dev nD) : S1x1024.Idx → EReal := m ((c : Thread nD τ).loc main_arg4)
abbrev X5 (c : Dev nD) : S1x1024.Idx → EReal := m ((c : Thread nD τ).loc main_arg5)
abbrev X6 (c : Dev nD) : S1x1024.Idx → EReal := m ((c : Thread nD τ).loc main_arg6)

/-- The product with the weight. -/
def prod (a : S4096x1024.Idx → EReal) (w : S1024x1024.Idx → EReal) (r : Fin 4096) (l : Fin 1024) : EReal := ∑ k : Fin 1024, a (ix2 r k) * w (ix2 k l)

/-- The residual stream behind the gated product. -/
def strm (a : S4096x1024.Idx → EReal) (w : S1024x1024.Idx → EReal) (x : S4096x1024.Idx → EReal) (gate : S1x1024.Idx → EReal) (r : Fin 4096) (l : Fin 1024) : EReal :=
  x (ix2 r l) + gate (ix2 0 l) * prod a w r l

/-- The norm's weight with the modulation's scale in it. -/
def scaled (g sc : S1x1024.Idx → EReal) (l : Fin 1024) : EReal := g (ix2 0 l) * (1 + sc (ix2 0 l))

/-- The results as functions of the arguments: the stream, -/
def G6 (a : S4096x1024.Idx → EReal) (w : S1024x1024.Idx → EReal) (x : S4096x1024.Idx → EReal) (gate : S1x1024.Idx → EReal) (i : S4096x1024.Idx) : EReal := strm a w x gate (i 0) (i 1)

/-- the product, -/
def G7 (a : S4096x1024.Idx → EReal) (w : S1024x1024.Idx → EReal) (i : S4096x1024.Idx) : EReal := prod a w (i 0) (i 1)

/-- and the stream's modulated norm. -/
def G8 (a : S4096x1024.Idx → EReal) (w : S1024x1024.Idx → EReal) (x : S4096x1024.Idx → EReal) (gate g sc sh : S1x1024.Idx → EReal) (i : S4096x1024.Idx) : EReal :=
  strm a w x gate (i 0) (i 1) * rs (fun k => strm a w x gate (i 0) k) * scaled g sc (i 1) + sh (ix2 0 (i 1))

/-! ## What one block computes -/

theorem pay1_apply (a : Vec Ideal S1024x1024 .bf16) (w : Vec Ideal S1024x1024 .bf16) (r : Fin 1024) (l : Fin 1024) :
    k0_pay1 a w (ix2 r l) = ∑ k : Fin 1024, a (ix2 r k) * w (ix2 k l) := by
  pointwise [k0_pay1]

theorem pay2_apply (a : Vec Ideal S1024x1024 .bf16) (w : Vec Ideal S1024x1024 .bf16) (x : Vec Ideal S1024x1024 .f32) (g : Vec Ideal S1x1024 .f32)
    (r : Fin 1024) (l : Fin 1024) :
    k0_pay2 a w x g (ix2 r l) = x (ix2 r l) + g (ix2 0 l) * k0_pay1 a w (ix2 r l) := by
  pointwise [k0_pay2]

theorem pay4_apply (a : Vec Ideal S1024x1024 .bf16) (w : Vec Ideal S1024x1024 .bf16) (x : Vec Ideal S1024x1024 .f32) (g wn sh : Vec Ideal S1x1024 .f32)
    (r : Fin 1024) (l : Fin 1024) :
    k0_pay4 a w x g wn sh (ix2 r l) =
      k0_pay2 a w x g (ix2 r l) * rs (fun k => k0_pay2 a w x g (ix2 r k)) * wn (ix2 0 l) + sh (ix2 0 l) := by
  pointwise [k0_pay4]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The row of the arrays that a row of a block is. -/
abbrev row (t : Fin cfg0.N) (r : Fin 1024) : Fin 4096 := ⟨t.val * 1024 + r.val, by have : t.val < 4 := t.isLt; omega⟩

theorem scaled_apply (c : Dev nD) (l : Fin 1024) : (V m c main_v2 : S1x1024.Idx → EReal) (ix2 0 l) = scaled (X4 m c) (X5 m c) l := by
  after_reads_at
  rfl

section
variable (c : Dev nD)

theorem ba (t : Fin cfg0.N) (r : Fin 1024) (k : Fin 1024) : iblk m c 0 t (ix2 r k) = X0 m c (ix2 (row t r) k) := by
  have e : (win0_0.blk t).view.emb (ix2 r k) = ix2 (row t r) k := by blk_ext [idx0]
  blk_simp [iblk, e]
  rw [V_main_arg0]

theorem bw (t : Fin cfg0.N) (k : Fin 1024) (l : Fin 1024) : iblk m c 1 t (ix2 k l) = X1 m c (ix2 k l) := by
  have e : (win0_1.blk t).view.emb (ix2 k l) = ix2 k l := by blk_ext [idx1]
  blk_simp [iblk, e]
  rw [V_main_arg1]

theorem bx (t : Fin cfg0.N) (r : Fin 1024) (l : Fin 1024) : iblk m c 2 t (ix2 r l) = X2 m c (ix2 (row t r) l) := by
  have e : (win0_2.blk t).view.emb (ix2 r l) = ix2 (row t r) l := by blk_ext [idx2]
  blk_simp [iblk, e]
  rw [V_main_arg2]

theorem bg (t : Fin cfg0.N) (l : Fin 1024) : iblk m c 3 t (ix2 0 l) = X3 m c (ix2 0 l) := by
  have e : (win0_3.blk t).view.emb (ix2 0 l) = ix2 0 l := by blk_ext [idx3]
  blk_simp [iblk, e]
  rw [V_main_arg3]

theorem bn (t : Fin cfg0.N) (l : Fin 1024) : iblk m c 4 t (ix2 0 l) = scaled (X4 m c) (X5 m c) l := by
  have e : (win0_4.blk t).view.emb (ix2 0 l) = ix2 0 l := by blk_ext [idx4]
  blk_simp [iblk, e]
  exact scaled_apply m c l

theorem bb (t : Fin cfg0.N) (l : Fin 1024) : iblk m c 5 t (ix2 0 l) = X6 m c (ix2 0 l) := by
  have e : (win0_5.blk t).view.emb (ix2 0 l) = ix2 0 l := by blk_ext [idx5]
  blk_simp [iblk, e]
  rw [V_main_arg6]

/-- The product's block, -/
theorem bp (t : Fin cfg0.N) (r : Fin 1024) (l : Fin 1024) :
    k0_pay1 (iblk m c 0 t) (iblk m c 1 t) (ix2 r l) = prod (X0 m c) (X1 m c) (row t r) l := by
  rw [pay1_apply]
  simp only [ba, bw]
  rfl

/-- and the stream's. -/
theorem bs (t : Fin cfg0.N) (r : Fin 1024) (l : Fin 1024) :
    k0_pay2 (iblk m c 0 t) (iblk m c 1 t) (iblk m c 2 t) (iblk m c 3 t) (ix2 r l) = strm (X0 m c) (X1 m c) (X2 m c) (X3 m c) (row t r) l := by
  rw [pay2_apply, bp, bx, bg]
  rfl

theorem final6 : (dats m 0 c).arrAt 6 cfg0.N = G6 (X0 m c) (X1 m c) (X2 m c) (X3 m c) := by
  refine (dats m 0 c).arrAt_eq_of_covers 6 _ (by decide +kernel) fun t hf y => ?_
  blk_simp
  rw [after0_6]
  obtain ⟨r, l, rfl⟩ : ∃ (r : Fin 1024) (l : Fin 1024), y = ix2 r l := ⟨y 0, y 1, (ix2_eta y).symm⟩
  have e : (win0_6.blk t).view.emb (ix2 r l) = ix2 (row t r) l := by blk_ext [idx6]
  erw [e]
  unfold out0_6
  frame_out
  exact bs m c t r l

theorem final7 : (dats m 0 c).arrAt 7 cfg0.N = G7 (X0 m c) (X1 m c) := by
  refine (dats m 0 c).arrAt_eq_of_covers 7 _ (by decide +kernel) fun t hf y => ?_
  blk_simp
  rw [after0_7]
  obtain ⟨r, l, rfl⟩ : ∃ (r : Fin 1024) (l : Fin 1024), y = ix2 r l := ⟨y 0, y 1, (ix2_eta y).symm⟩
  have e : (win0_7.blk t).view.emb (ix2 r l) = ix2 (row t r) l := by blk_ext [idx7]
  erw [e]
  unfold out0_7
  frame_out
  pointwise [k0_pay3, bp]
  rfl

theorem final8 : (dats m 0 c).arrAt 8 cfg0.N = G8 (X0 m c) (X1 m c) (X2 m c) (X3 m c) (X4 m c) (X5 m c) (X6 m c) := by
  refine (dats m 0 c).arrAt_eq_of_covers 8 _ (by decide +kernel) fun t hf y => ?_
  blk_simp
  rw [after0_8]
  obtain ⟨r, l, rfl⟩ : ∃ (r : Fin 1024) (l : Fin 1024), y = ix2 r l := ⟨y 0, y 1, (ix2_eta y).symm⟩
  have e : (win0_8.blk t).view.emb (ix2 r l) = ix2 (row t r) l := by blk_ext [idx8]
  erw [e]
  unfold out0_8
  frame_out
  refine (pay4_apply _ _ _ _ _ _ r l).trans ?_
  simp only [bs, bn, bb]
  rfl

end

/-! ## The reference -/

theorem refP (x0 : S4096x1024.Idx → EReal) (x1 : S1024x1024.Idx → EReal) (r : Fin 4096) (l : Fin 1024) :
    Cert.Reference13Ideal.Read.val_main_v2 (F := Ideal) x0 x1 (ix2 r l) = prod x0 x1 r l := by
  open Cert.Reference13Ideal.Read in
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_cst_2, val_main_v19, val_main_v20, val_main_v21, val_main_v22, val_main_v23, val_main_v24, val_main_v25]
  rfl

theorem refS (x0 : S4096x1024.Idx → EReal) (x1 : S1024x1024.Idx → EReal) (x2 : S4096x1024.Idx → EReal) (x3 : S1x1024.Idx → EReal) (r : Fin 4096) (l : Fin 1024) :
    Cert.Reference13Ideal.Read.val_main_v5 (F := Ideal) x0 x1 x2 x3 (ix2 r l) = strm x0 x1 x2 x3 r l := by
  open Cert.Reference13Ideal.Read in
  pointwise [val_main_v0, val_main_v1, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_cst_2, val_main_v19, val_main_v20, val_main_v21, val_main_v22, val_main_v23, val_main_v24, val_main_v25, refP]
  rfl

theorem ref6 (x0 : S4096x1024.Idx → EReal) (x1 : S1024x1024.Idx → EReal) (x2 : S4096x1024.Idx → EReal) (x3 : S1x1024.Idx → EReal) (r : Fin 4096) (l : Fin 1024) :
    Cert.Reference13Ideal.Read.val_main_v5 (F := Ideal) x0 x1 x2 x3 (ix2 r l) = G6 x0 x1 x2 x3 (ix2 r l) := by
  open Cert.Reference13Ideal.Read in
  pointwise [val_main_v0, val_main_v1, val_main_v2, val_main_v3, val_main_v4, val_main_v6, val_main_v7, val_main_cst, val_main_v8, val_main_v9, val_main_cst_0, val_main_v10, val_main_v11, val_main_cst_1, val_main_v12, val_main_v13, val_main_v14, val_main_v15, val_main_v16, val_main_v17, val_main_v18, val_main_cst_2, val_main_v19, val_main_v20, val_main_v21, val_main_v22, val_main_v23, val_main_v24, val_main_v25, refS]
  rfl

theorem ref7 (x0 : S4096x1024.Idx → EReal) (x1 : S1024x1024.Idx → EReal) (r : Fin 4096) (l : Fin 1024) :
    Cert.Reference13Ideal.Read.val_main_v6 (F := Ideal) x0 x1 (ix2 r l) = G7 x0 x1 (ix2 r l) := by
  open Cert.Reference13Ideal.Read in
  pointwise [val_main_v0, val_main_v1, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_cst_2, val_main_v19, val_main_v20, val_main_v21, val_main_v22, val_main_v23, val_main_v24, val_main_v25, refP]
  rfl

theorem ref8 (x0 : S4096x1024.Idx → EReal) (x1 : S1024x1024.Idx → EReal) (x2 : S4096x1024.Idx → EReal) (x3 x4 x5 x6 : S1x1024.Idx → EReal) (r : Fin 4096) (l : Fin 1024) :
    Cert.Reference13Ideal.Read.val_main_v25 (F := Ideal) x0 x1 x2 x3 x4 x5 x6 (ix2 r l) = G8 x0 x1 x2 x3 x4 x5 x6 (ix2 r l) := by
  open Cert.Reference13Ideal.Read in
  pointwise [val_main_v0, val_main_v1, val_main_v3, val_main_v4, val_main_v6, val_main_v7, val_main_cst, val_main_v8, val_main_v9, val_main_cst_0, val_main_v10, val_main_v11, val_main_cst_1, val_main_v12, val_main_v13, val_main_v14, val_main_v15, val_main_v16, val_main_v17, val_main_v18, val_main_cst_2, val_main_v19, val_main_v20, val_main_v21, val_main_v22, val_main_v23, val_main_v24, val_main_v25, refS]
  change strm x0 x1 x2 x3 r l * rs (fun k => strm x0 x1 x2 x3 r k) * x4 (ix2 0 l) * (_ + _) + _ =
    strm x0 x1 x2 x3 r l * rs (fun k => strm x0 x1 x2 x3 r k) * (x4 (ix2 0 l) * (_ + _)) + _
  rw [mul_assoc (_ * _)]
  rfl

theorem algebraic : Cert.algebraic_Kernel13Ideal_Reference13Ideal := by
  pair_intro
  · run_from (run_blocks m g)
  · run_from Cert.Reference13Ideal.Value.run m' g'
    · rw [final6]
      funext i
      obtain ⟨r, l, rfl⟩ : ∃ r l, i = ix2 r l := ⟨i 0, i 1, (ix2_eta i).symm⟩
      obtain ⟨h0, h1, h2, h3, h4, h5, h6⟩ := hagree c
      rw [Cert.Reference13Ideal.Read.val_main_v5_eq]
      try simp only [h0, h1, h2, h3, h4, h5, h6]
      exact ref6 _ _ _ _ r l
    · rw [final7]
      funext i
      obtain ⟨r, l, rfl⟩ : ∃ r l, i = ix2 r l := ⟨i 0, i 1, (ix2_eta i).symm⟩
      obtain ⟨h0, h1, h2, h3, h4, h5, h6⟩ := hagree c
      rw [Cert.Reference13Ideal.Read.val_main_v6_eq]
      try simp only [h0, h1, h2, h3, h4, h5, h6]
      exact ref7 _ _ r l
    · rw [final8]
      funext i
      obtain ⟨r, l, rfl⟩ : ∃ r l, i = ix2 r l := ⟨i 0, i 1, (ix2_eta i).symm⟩
      obtain ⟨h0, h1, h2, h3, h4, h5, h6⟩ := hagree c
      rw [Cert.Reference13Ideal.Read.val_main_v25_eq]
      try simp only [h0, h1, h2, h3, h4, h5, h6]
      exact ref8 _ _ _ _ _ _ _ r l

end Cert.MixFwd
-- ==== Proof.FfFwd.lean ====
/- The feed-forward layer's squared activation against its second weight, the gated residual and the next norm. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.Rms

@[expose] public section

noncomputable section

namespace Cert.FfFwd

open Idealize Idealize.ShloMosaic Idealize.SL.Sem Idealize.ShloMosaic.TcCoe
open Cert.Kernel14Ideal Cert.Kernel14Ideal.Gen Cert.Kernel14Ideal.Value

variable (m : (ℓ : Loc nD τ sig) → Buf (Elt Ideal) ℓ)

open Cert.Common Cert.Rms

/-- The arguments, as arrays of numbers. -/
abbrev X0 (c : Dev nD) : S4096x4096.Idx → EReal := m ((c : Thread nD τ).loc main_arg0)
abbrev X1 (c : Dev nD) : S4096x1024.Idx → EReal := m ((c : Thread nD τ).loc main_arg1)
abbrev X2 (c : Dev nD) : S4096x1024.Idx → EReal := m ((c : Thread nD τ).loc main_arg2)
abbrev X3 (c : Dev nD) : S1x1024.Idx → EReal := m ((c : Thread nD τ).loc main_arg3)
abbrev X4 (c : Dev nD) : S1x1024.Idx → EReal := m ((c : Thread nD τ).loc main_arg4)
abbrev X5 (c : Dev nD) : S1x1024.Idx → EReal := m ((c : Thread nD τ).loc main_arg5)
abbrev X6 (c : Dev nD) : S1x1024.Idx → EReal := m ((c : Thread nD τ).loc main_arg6)

/-- The squared activation against the weight. -/
def prod (a : S4096x4096.Idx → EReal) (w : S4096x1024.Idx → EReal) (r : Fin 4096) (l : Fin 1024) : EReal := ∑ k : Fin 4096, a (ix2 r k) * a (ix2 r k) * w (ix2 k l)

/-- The residual stream behind the gated product. -/
def strm (a : S4096x4096.Idx → EReal) (w : S4096x1024.Idx → EReal) (x : S4096x1024.Idx → EReal) (gate : S1x1024.Idx → EReal) (r : Fin 4096) (l : Fin 1024) : EReal :=
  x (ix2 r l) + gate (ix2 0 l) * prod a w r l

/-- The norm's weight with the modulation's scale in it. -/
def scaled (g sc : S1x1024.Idx → EReal) (l : Fin 1024) : EReal := g (ix2 0 l) * (1 + sc (ix2 0 l))

/-- The results as functions of the arguments: the stream, -/
def G6 (a : S4096x4096.Idx → EReal) (w : S4096x1024.Idx → EReal) (x : S4096x1024.Idx → EReal) (gate : S1x1024.Idx → EReal) (i : S4096x1024.Idx) : EReal := strm a w x gate (i 0) (i 1)

/-- the product, -/
def G7 (a : S4096x4096.Idx → EReal) (w : S4096x1024.Idx → EReal) (i : S4096x1024.Idx) : EReal := prod a w (i 0) (i 1)

/-- and the stream's modulated norm. -/
def G8 (a : S4096x4096.Idx → EReal) (w : S4096x1024.Idx → EReal) (x : S4096x1024.Idx → EReal) (gate g sc sh : S1x1024.Idx → EReal) (i : S4096x1024.Idx) : EReal :=
  strm a w x gate (i 0) (i 1) * rs (fun k => strm a w x gate (i 0) k) * scaled g sc (i 1) + sh (ix2 0 (i 1))

/-! ## What one block computes -/

theorem pay1_apply (a : Vec Ideal S512x4096 .bf16) (w : Vec Ideal S4096x1024 .bf16) (r : Fin 512) (l : Fin 1024) :
    k0_pay1 a w (ix2 r l) = ∑ k : Fin 4096, a (ix2 r k) * a (ix2 r k) * w (ix2 k l) := by
  pointwise [k0_pay1]

theorem pay2_apply (a : Vec Ideal S512x4096 .bf16) (w : Vec Ideal S4096x1024 .bf16) (x : Vec Ideal S512x1024 .f32) (g : Vec Ideal S1x1024 .f32)
    (r : Fin 512) (l : Fin 1024) :
    k0_pay2 a w x g (ix2 r l) = x (ix2 r l) + g (ix2 0 l) * k0_pay1 a w (ix2 r l) := by
  pointwise [k0_pay2]

theorem pay4_apply (a : Vec Ideal S512x4096 .bf16) (w : Vec Ideal S4096x1024 .bf16) (x : Vec Ideal S512x1024 .f32) (g wn sh : Vec Ideal S1x1024 .f32)
    (r : Fin 512) (l : Fin 1024) :
    k0_pay4 a w x g wn sh (ix2 r l) =
      k0_pay2 a w x g (ix2 r l) * rs (fun k => k0_pay2 a w x g (ix2 r k)) * wn (ix2 0 l) + sh (ix2 0 l) := by
  pointwise [k0_pay4]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

theorem scaled_apply (c : Dev nD) (l : Fin 1024) : (V m c main_v2 : S1x1024.Idx → EReal) (ix2 0 l) = scaled (X4 m c) (X5 m c) l := by
  after_reads_at
  rfl

section
variable (c : Dev nD)

theorem ba (t : Fin cfg0.N) (r : Fin 512) (k : Fin 4096) : iblk m c 0 t (ix2 r k) = X0 m c (ix2 (row t r) k) := by
  have e : (win0_0.blk t).view.emb (ix2 r k) = ix2 (row t r) k := by blk_ext [idx0]
  blk_simp [iblk, e]
  rw [V_main_arg0]

theorem bw (t : Fin cfg0.N) (k : Fin 4096) (l : Fin 1024) : iblk m c 1 t (ix2 k l) = X1 m c (ix2 k l) := by
  have e : (win0_1.blk t).view.emb (ix2 k l) = ix2 k l := by blk_ext [idx1]
  blk_simp [iblk, e]
  rw [V_main_arg1]

theorem bx (t : Fin cfg0.N) (r : Fin 512) (l : Fin 1024) : iblk m c 2 t (ix2 r l) = X2 m c (ix2 (row t r) l) := by
  have e : (win0_2.blk t).view.emb (ix2 r l) = ix2 (row t r) l := by blk_ext [idx2]
  blk_simp [iblk, e]
  rw [V_main_arg2]

theorem bg (t : Fin cfg0.N) (l : Fin 1024) : iblk m c 3 t (ix2 0 l) = X3 m c (ix2 0 l) := by
  have e : (win0_3.blk t).view.emb (ix2 0 l) = ix2 0 l := by blk_ext [idx3]
  blk_simp [iblk, e]
  rw [V_main_arg3]

theorem bn (t : Fin cfg0.N) (l : Fin 1024) : iblk m c 4 t (ix2 0 l) = scaled (X4 m c) (X5 m c) l := by
  have e : (win0_4.blk t).view.emb (ix2 0 l) = ix2 0 l := by blk_ext [idx4]
  blk_simp [iblk, e]
  exact scaled_apply m c l

theorem bb (t : Fin cfg0.N) (l : Fin 1024) : iblk m c 5 t (ix2 0 l) = X6 m c (ix2 0 l) := by
  have e : (win0_5.blk t).view.emb (ix2 0 l) = ix2 0 l := by blk_ext [idx5]
  blk_simp [iblk, e]
  rw [V_main_arg6]

/-- The product's block, -/
theorem bp (t : Fin cfg0.N) (r : Fin 512) (l : Fin 1024) :
    k0_pay1 (iblk m c 0 t) (iblk m c 1 t) (ix2 r l) = prod (X0 m c) (X1 m c) (row t r) l := by
  rw [pay1_apply]
  simp only [ba, bw]
  rfl

/-- and the stream's. -/
theorem bs (t : Fin cfg0.N) (r : Fin 512) (l : Fin 1024) :
    k0_pay2 (iblk m c 0 t) (iblk m c 1 t) (iblk m c 2 t) (iblk m c 3 t) (ix2 r l) = strm (X0 m c) (X1 m c) (X2 m c) (X3 m c) (row t r) l := by
  rw [pay2_apply, bp, bx, bg]
  rfl

theorem final6 : (dats m 0 c).arrAt 6 cfg0.N = G6 (X0 m c) (X1 m c) (X2 m c) (X3 m c) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, (ix2_eta y).symm⟩
  have e : (win0_6.blk t).view.emb (ix2 r l) = ix2 (row t r) l := by blk_ext [idx6]
  erw [e]
  unfold out0_6
  frame_out
  exact bs m c t r l

theorem final7 : (dats m 0 c).arrAt 7 cfg0.N = G7 (X0 m c) (X1 m c) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, (ix2_eta y).symm⟩
  have e : (win0_7.blk t).view.emb (ix2 r l) = ix2 (row t r) l := by blk_ext [idx7]
  erw [e]
  unfold out0_7
  frame_out
  pointwise [k0_pay3, bp]
  rfl

theorem final8 : (dats m 0 c).arrAt 8 cfg0.N = G8 (X0 m c) (X1 m c) (X2 m c) (X3 m c) (X4 m c) (X5 m c) (X6 m c) := by
  refine (dats m 0 c).arrAt_eq_of_covers 8 _ (by decide +kernel) fun t hf y => ?_
  blk_simp
  rw [after0_8]
  obtain ⟨r, l, rfl⟩ : ∃ (r : Fin 512) (l : Fin 1024), y = ix2 r l := ⟨y 0, y 1, (ix2_eta y).symm⟩
  have e : (win0_8.blk t).view.emb (ix2 r l) = ix2 (row t r) l := by blk_ext [idx8]
  erw [e]
  unfold out0_8
  frame_out
  refine (pay4_apply _ _ _ _ _ _ r l).trans ?_
  simp only [bs, bn, bb]
  rfl

end

/-! ## The reference -/

theorem refP (x0 : S4096x4096.Idx → EReal) (x1 : S4096x1024.Idx → EReal) (r : Fin 4096) (l : Fin 1024) :
    Cert.Reference14Ideal.Read.val_main_v3 (F := Ideal) x0 x1 (ix2 r l) = prod x0 x1 r l := by
  open Cert.Reference14Ideal.Read in
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_cst_2, val_main_v20, val_main_v21, val_main_v22, val_main_v23, val_main_v24, val_main_v25, val_main_v26]
  rfl

theorem refS (x0 : S4096x4096.Idx → EReal) (x1 : S4096x1024.Idx → EReal) (x2 : S4096x1024.Idx → EReal) (x3 : S1x1024.Idx → EReal) (r : Fin 4096) (l : Fin 1024) :
    Cert.Reference14Ideal.Read.val_main_v6 (F := Ideal) x0 x1 x2 x3 (ix2 r l) = strm x0 x1 x2 x3 r l := by
  open Cert.Reference14Ideal.Read in
  pointwise [val_main_v0, val_main_v1, val_main_v2, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_cst_2, val_main_v20, val_main_v21, val_main_v22, val_main_v23, val_main_v24, val_main_v25, val_main_v26, refP]
  rfl

theorem ref6 (x0 : S4096x4096.Idx → EReal) (x1 : S4096x1024.Idx → EReal) (x2 : S4096x1024.Idx → EReal) (x3 : S1x1024.Idx → EReal) (r : Fin 4096) (l : Fin 1024) :
    Cert.Reference14Ideal.Read.val_main_v6 (F := Ideal) x0 x1 x2 x3 (ix2 r l) = G6 x0 x1 x2 x3 (ix2 r l) := by
  open Cert.Reference14Ideal.Read in
  pointwise [val_main_v0, val_main_v1, val_main_v2, val_main_v3, val_main_v4, val_main_v5, val_main_v7, val_main_v8, val_main_cst, val_main_v9, val_main_v10, val_main_cst_0, val_main_v11, val_main_v12, val_main_cst_1, val_main_v13, val_main_v14, val_main_v15, val_main_v16, val_main_v17, val_main_v18, val_main_v19, val_main_cst_2, val_main_v20, val_main_v21, val_main_v22, val_main_v23, val_main_v24, val_main_v25, val_main_v26, refS]
  rfl

theorem ref7 (x0 : S4096x4096.Idx → EReal) (x1 : S4096x1024.Idx → EReal) (r : Fin 4096) (l : Fin 1024) :
    Cert.Reference14Ideal.Read.val_main_v7 (F := Ideal) x0 x1 (ix2 r l) = G7 x0 x1 (ix2 r l) := by
  open Cert.Reference14Ideal.Read in
  pointwise [val_main_v0, val_main_v1, val_main_v2, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_cst_2, val_main_v20, val_main_v21, val_main_v22, val_main_v23, val_main_v24, val_main_v25, val_main_v26, refP]
  rfl

theorem ref8 (x0 : S4096x4096.Idx → EReal) (x1 : S4096x1024.Idx → EReal) (x2 : S4096x1024.Idx → EReal) (x3 x4 x5 x6 : S1x1024.Idx → EReal) (r : Fin 4096) (l : Fin 1024) :
    Cert.Reference14Ideal.Read.val_main_v26 (F := Ideal) x0 x1 x2 x3 x4 x5 x6 (ix2 r l) = G8 x0 x1 x2 x3 x4 x5 x6 (ix2 r l) := by
  open Cert.Reference14Ideal.Read in
  pointwise [val_main_v0, val_main_v1, val_main_v2, val_main_v4, val_main_v5, val_main_v7, val_main_v8, val_main_cst, val_main_v9, val_main_v10, val_main_cst_0, val_main_v11, val_main_v12, val_main_cst_1, val_main_v13, val_main_v14, val_main_v15, val_main_v16, val_main_v17, val_main_v18, val_main_v19, val_main_cst_2, val_main_v20, val_main_v21, val_main_v22, val_main_v23, val_main_v24, val_main_v25, val_main_v26, refS]
  change strm x0 x1 x2 x3 r l * rs (fun k => strm x0 x1 x2 x3 r k) * x4 (ix2 0 l) * (_ + _) + _ =
    strm x0 x1 x2 x3 r l * rs (fun k => strm x0 x1 x2 x3 r k) * (x4 (ix2 0 l) * (_ + _)) + _
  rw [mul_assoc (_ * _)]
  rfl

theorem algebraic : Cert.algebraic_Kernel14Ideal_Reference14Ideal := by
  pair_intro
  · run_from (run_blocks m g)
  · run_from Cert.Reference14Ideal.Value.run m' g'
    · rw [final6]
      funext i
      obtain ⟨r, l, rfl⟩ : ∃ r l, i = ix2 r l := ⟨i 0, i 1, (ix2_eta i).symm⟩
      obtain ⟨h0, h1, h2, h3, h4, h5, h6⟩ := hagree c
      rw [Cert.Reference14Ideal.Read.val_main_v6_eq]
      try simp only [h0, h1, h2, h3, h4, h5, h6]
      exact ref6 _ _ _ _ r l
    · rw [final7]
      funext i
      obtain ⟨r, l, rfl⟩ : ∃ r l, i = ix2 r l := ⟨i 0, i 1, (ix2_eta i).symm⟩
      obtain ⟨h0, h1, h2, h3, h4, h5, h6⟩ := hagree c
      rw [Cert.Reference14Ideal.Read.val_main_v7_eq]
      try simp only [h0, h1, h2, h3, h4, h5, h6]
      exact ref7 _ _ r l
    · rw [final8]
      funext i
      obtain ⟨r, l, rfl⟩ : ∃ r l, i = ix2 r l := ⟨i 0, i 1, (ix2_eta i).symm⟩
      obtain ⟨h0, h1, h2, h3, h4, h5, h6⟩ := hagree c
      rw [Cert.Reference14Ideal.Read.val_main_v26_eq]
      try simp only [h0, h1, h2, h3, h4, h5, h6]
      exact ref8 _ _ _ _ _ _ _ r l

end Cert.FfFwd
-- ==== Proof.GluFwd.lean ====
/- The gated linear unit of the forward pass. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.GluFwd

open Idealize Idealize.ShloMosaic Idealize.SL.Sem Idealize.ShloMosaic.TcCoe
open Cert.Kernel15Ideal Cert.Kernel15Ideal.Gen Cert.Kernel15Ideal.Value

variable (m : (ℓ : Loc nD τ sig) → Buf (Elt Ideal) ℓ)

open Cert.Common

/-- The arguments, as arrays of numbers. -/
abbrev X0 (c : Dev nD) : S4096x1024.Idx → EReal := m ((c : Thread nD τ).loc main_arg0)
abbrev X1 (c : Dev nD) : S1024x1024.Idx → EReal := m ((c : Thread nD τ).loc main_arg1)
abbrev X2 (c : Dev nD) : S1x1024.Idx → EReal := m ((c : Thread nD τ).loc main_arg2)

/-- The gate's argument. -/
def gate (y : S4096x1024.Idx → EReal) (w : S1024x1024.Idx → EReal) (b : S1x1024.Idx → EReal) (r : Fin 4096) (l : Fin 1024) : EReal :=
  (∑ k : Fin 1024, y (ix2 r k) * w (ix2 k l)) + b (ix2 0 l)

/-- The logistic function. -/
def sg (t : EReal) : EReal := Ideal.div 1 (1 + Ideal.exp (-t))

/-- The gated activation, -/
def G4 (y : S4096x1024.Idx → EReal) (w : S1024x1024.Idx → EReal) (b : S1x1024.Idx → EReal) (i : S4096x1024.Idx) : EReal :=
  y i * sg (gate y w b (i 0) (i 1))

/-- and the gate's argument, as functions of the arguments. -/
def G5 (y : S4096x1024.Idx → EReal) (w : S1024x1024.Idx → EReal) (b : S1x1024.Idx → EReal) (i : S4096x1024.Idx) : EReal :=
  gate y w b (i 0) (i 1)

theorem pay1_apply (y : Vec Ideal S1024x1024 .f32) (w : Vec Ideal S1024x1024 .bf16) (b : Vec Ideal S1x1024 .f32) (r l : Fin 1024) :
    k0_pay1 y w b (ix2 r l) = (∑ k : Fin 1024, y (ix2 r k) * w (ix2 k l)) + b (ix2 0 l) := by
  pointwise [k0_pay1]

theorem pay2_apply (y : Vec Ideal S1024x1024 .f32) (w : Vec Ideal S1024x1024 .bf16) (y' : Vec Ideal S1024x1024 .f32) (b : Vec Ideal S1x1024 .f32) (r l : Fin 1024) :
    k0_pay2 y w y' b (ix2 r l) = y' (ix2 r l) * sg (k0_pay1 y w b (ix2 r l)) := by
  pointwise [k0_pay2]
  rw [zero_sub]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The row of the arrays that a row of a block is. -/
abbrev row (t : Fin cfg0.N) (r : Fin 1024) : Fin 4096 := ⟨t.val * 1024 + r.val, by have : t.val < 4 := t.isLt; omega⟩

section
variable (c : Dev nD)

theorem by0 (t : Fin cfg0.N) (r l : Fin 1024) : iblk m c 0 t (ix2 r l) = X0 m c (ix2 (row t r) l) := by
  have e : (win0_0.blk t).view.emb (ix2 r l) = ix2 (row t r) l := by blk_ext [idx0]
  blk_simp [iblk, e]

theorem bw (t : Fin cfg0.N) (k l : Fin 1024) : iblk m c 1 t (ix2 k l) = X1 m c (ix2 k l) := by
  have e : (win0_1.blk t).view.emb (ix2 k l) = ix2 k l := by blk_ext [idx1]
  blk_simp [iblk, e]

theorem by2 (t : Fin cfg0.N) (r l : Fin 1024) : iblk m c 2 t (ix2 r l) = X0 m c (ix2 (row t r) l) := by
  have e : (win0_2.blk t).view.emb (ix2 r l) = ix2 (row t r) l := by blk_ext [idx2]
  blk_simp [iblk, e]

theorem bb (t : Fin cfg0.N) (l : Fin 1024) : iblk m c 3 t (ix2 0 l) = X2 m c (ix2 0 l) := by
  have e : (win0_3.blk t).view.emb (ix2 0 l) = ix2 0 l := by blk_ext [idx3]
  blk_simp [iblk, e]

theorem bgate (t : Fin cfg0.N) (r l : Fin 1024) :
    k0_pay1 (iblk m c 0 t) (iblk m c 1 t) (iblk m c 3 t) (ix2 r l) = gate (X0 m c) (X1 m c) (X2 m c) (row t r) l := by
  rw [pay1_apply]
  simp only [by0, bw, bb]
  rfl

theorem final4 : (dats m 0 c).arrAt 4 cfg0.N = G4 (X0 m c) (X1 m c) (X2 m c) := by
  refine (dats m 0 c).arrAt_eq_of_covers 4 _ (by decide +kernel) fun t hf y => ?_
  blk_simp
  rw [after0_4]
  obtain ⟨r, l, rfl⟩ : ∃ (r : Fin 1024) (l : Fin 1024), y = ix2 r l := ⟨y 0, y 1, (ix2_eta y).symm⟩
  have e : (win0_4.blk t).view.emb (ix2 r l) = ix2 (row t r) l := by blk_ext [idx4]
  erw [e]
  unfold out0_4
  frame_out
  refine (pay2_apply _ _ _ _ r l).trans ?_
  simp only [bgate, by2]
  rfl

theorem final5 : (dats m 0 c).arrAt 5 cfg0.N = G5 (X0 m c) (X1 m c) (X2 m c) := by
  refine (dats m 0 c).arrAt_eq_of_covers 5 _ (by decide +kernel) fun t hf y => ?_
  blk_simp
  rw [after0_5]
  obtain ⟨r, l, rfl⟩ : ∃ (r : Fin 1024) (l : Fin 1024), y = ix2 r l := ⟨y 0, y 1, (ix2_eta y).symm⟩
  have e : (win0_5.blk t).view.emb (ix2 r l) = ix2 (row t r) l := by blk_ext [idx5]
  erw [e]
  unfold out0_5
  frame_out
  exact bgate m c t r l

end

/-! ## The reference -/

theorem ref5 (x0 : S4096x1024.Idx → EReal) (x1 : S1024x1024.Idx → EReal) (x2 : S1x1024.Idx → EReal) (r : Fin 4096) (l : Fin 1024) :
    Cert.Reference15Ideal.Read.val_main_v3 (F := Ideal) x0 x1 x2 (ix2 r l) = G5 x0 x1 x2 (ix2 r l) := by
  open Cert.Reference15Ideal.Read in
  pointwise [val_main_v0, val_main_v1, val_main_v2, val_main_v3, val_main_v4, val_main_v5, val_main_cst, val_main_v6, val_main_v7, val_main_cst_0, val_main_v8, val_main_v9, val_main_v10, val_main_v11]
  rfl

theorem ref4 (x0 : S4096x1024.Idx → EReal) (x1 : S1024x1024.Idx → EReal) (x2 : S1x1024.Idx → EReal) (r : Fin 4096) (l : Fin 1024) :
    Cert.Reference15Ideal.Read.val_main_v11 (F := Ideal) x0 x1 x2 (ix2 r l) = G4 x0 x1 x2 (ix2 r l) := by
  open Cert.Reference15Ideal.Read in
  pointwise [val_main_v0, val_main_v1, val_main_v2, val_main_v4, val_main_v5, val_main_cst, val_main_v6, val_main_v7, val_main_cst_0, val_main_v8, val_main_v9, val_main_v10, val_main_v11, ref5]
  rfl

theorem algebraic : Cert.algebraic_Kernel15Ideal_Reference15Ideal := by
  pair_intro
  · run_from (run_blocks m g)
  · run_from Cert.Reference15Ideal.Value.run m' g'
    · rw [final4]
      funext i
      obtain ⟨r, l, rfl⟩ : ∃ r l, i = ix2 r l := ⟨i 0, i 1, (ix2_eta i).symm⟩
      obtain ⟨h0, h1, h2⟩ := hagree c
      rw [Cert.Reference15Ideal.Read.val_main_v11_eq]
      try simp only [h0, h1, h2]
      exact ref4 _ _ _ r l
    · rw [final5]
      funext i
      obtain ⟨r, l, rfl⟩ : ∃ r l, i = ix2 r l := ⟨i 0, i 1, (ix2_eta i).symm⟩
      obtain ⟨h0, h1, h2⟩ := hagree c
      rw [Cert.Reference15Ideal.Read.val_main_v3_eq]
      try simp only [h0, h1, h2]
      exact ref5 _ _ _ r l

end Cert.GluFwd
-- ==== Proof.ReluFwd.lean ====
/- The feed-forward layer's first product with its rectifier. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.ReluFwd

open Idealize Idealize.ShloMosaic Idealize.SL.Sem Idealize.ShloMosaic.TcCoe
open Cert.Kernel16Ideal Cert.Kernel16Ideal.Gen Cert.Kernel16Ideal.Value

variable (m : (ℓ : Loc nD τ sig) → Buf (Elt Ideal) ℓ)

open Cert.Common

/-- The arguments, as arrays of numbers. -/
abbrev X0 (c : Dev nD) : S4096x1024.Idx → EReal := m ((c : Thread nD τ).loc main_arg0)
abbrev X1 (c : Dev nD) : S1024x4096.Idx → EReal := m ((c : Thread nD τ).loc main_arg1)

/-- The rectified product, as a function of the arguments. -/
def G2 (h : S4096x1024.Idx → EReal) (w : S1024x4096.Idx → EReal) (i : S4096x4096.Idx) : EReal :=
  max (∑ k : Fin 1024, h (ix2 (i 0) k) * w (ix2 k (i 1))) 0

theorem pay_apply (h : Vec Ideal S2048x1024 .bf16) (w : Vec Ideal S1024x1024 .bf16) (r : Fin 2048) (l : Fin 1024) :
    k0_pay1 h w (ix2 r l) = max (∑ k : Fin 1024, h (ix2 r k) * w (ix2 k l)) 0 := by
  pointwise [k0_pay1]

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- The row of the arrays that a row of a block is, -/
abbrev row (t : Fin cfg0.N) (r : Fin 2048) : Fin 4096 := ⟨t.val / 4 * 2048 + r.val, by have : t.val < 8 := t.isLt; omega⟩

/-- and the column. -/
abbrev lane (t : Fin cfg0.N) (l : Fin 1024) : Fin 4096 := ⟨t.val % 4 * 1024 + l.val, by omega⟩

section
variable (c : Dev nD)

theorem bh (t : Fin cfg0.N) (r : Fin 2048) (k : Fin 1024) : iblk m c 0 t (ix2 r k) = X0 m c (ix2 (row t r) k) := by
  have e : (win0_0.blk t).view.emb (ix2 r k) = ix2 (row t r) k := by blk_ext [idx0]
  blk_simp [iblk, e]

theorem bw (t : Fin cfg0.N) (k l : Fin 1024) : iblk m c 1 t (ix2 k l) = X1 m c (ix2 k (lane t l)) := by
  have e : (win0_1.blk t).view.emb (ix2 k l) = ix2 k (lane t l) := by blk_ext [idx1]
  blk_simp [iblk, e]

theorem final2 : (dats m 0 c).arrAt 2 cfg0.N = G2 (X0 m c) (X1 m c) := by
  refine (dats m 0 c).arrAt_eq_of_covers 2 _ (by decide +kernel) fun t hf y => ?_
  blk_simp
  rw [after0_2]
  obtain ⟨r, l, rfl⟩ : ∃ (r : Fin 2048) (l : Fin 1024), y = ix2 r l := ⟨y 0, y 1, (ix2_eta y).symm⟩
  have e : (win0_2.blk t).view.emb (ix2 r l) = ix2 (row t r) (lane t l) := by blk_ext [idx2]
  erw [e]
  unfold out0_2
  frame_out
  refine (pay_apply _ _ r l).trans ?_
  simp only [bh, bw]
  rfl

end

/-! ## The reference -/

theorem ref2 (x0 : S4096x1024.Idx → EReal) (x1 : S1024x4096.Idx → EReal) (r : Fin 4096) (l : Fin 4096) :
    Cert.Reference16Ideal.Read.val_main_v4 (F := Ideal) x0 x1 (ix2 r l) = G2 x0 x1 (ix2 r l) := by
  open Cert.Reference16Ideal.Read in
  pointwise [val_main_v0, val_main_v1, val_main_v2, val_main_call0_cst, val_main_call0_v0, val_main_v3, val_main_v4]
  rfl

theorem algebraic : Cert.algebraic_Kernel16Ideal_Reference16Ideal := by
  pair_intro
  · run_from (run_blocks m g)
  · run_from Cert.Reference16Ideal.Value.run m' g'
    · rw [final2]
      funext i
      obtain ⟨r, l, rfl⟩ : ∃ r l, i = ix2 r l := ⟨i 0, i 1, (ix2_eta i).symm⟩
      obtain ⟨h0, h1⟩ := hagree c
      rw [Cert.Reference16Ideal.Read.val_main_v4_eq]
      try simp only [h0, h1]
      exact ref2 _ _ r l

end Cert.ReluFwd
-- ==== Proof.GatedChunks.lean ====
/- The gradient through the norm behind a gated residual addition, where the cotangent comes in three parts. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.GatedRef
public import proofs.«01_k».proof.Proof.NormRef
public import proofs.«01_k».proof.Proof.Gen.Pre_finite_gated_chunks

@[expose] public section

noncomputable section

namespace Cert.GatedChunks

open Idealize Idealize.ShloMosaic Idealize.SL.Sem Idealize.ShloMosaic.TcCoe
open Cert.Kernel18Ideal Cert.Kernel18Ideal.Gen Cert.Kernel18Ideal.Value

variable (m : (ℓ : Loc nD τ sig) → Buf (Elt Ideal) ℓ)

open Cert.Common Cert.Rms

open Cert.Gated (mid G7 G8 G9)
open Cert.Norm (dh)

/-! ## What one block computes -/

theorem pay4_apply (x : Vec Ideal S512x1024 .f32) (r : Fin 512) (l : Fin 1024) :
    k0_pay4 x (ix2 r l) = x (ix2 r l) * rs (fun k => x (ix2 r k)) := by
  pointwise [k0_pay4, k0_pay3, k0_pay2]
  rfl

/-- The block of the gradient at the residual stream. -/
abbrev blk7 (a0 a1 a2 : Vec Ideal S1x512x1024 .bf16) (w : Vec Ideal S1024x3072 .bf16) (x : Vec Ideal S512x1024 .f32) (wn : Vec Ideal S1x1024 .f32)
    (d : Vec Ideal S512x1024 .f32) : Vec Ideal S512x1024 .f32 :=
  k0_pay7 d (k0_pay3 x) (k0_pay4 x) (k0_pay5 a0 a1 a2 w wn) (k0_pay6 a0 a1 a2 w x wn) (Scalar.ofBits .f32 0x44800000#32)

theorem pay7_apply (a0 a1 a2 : Vec Ideal S1x512x1024 .bf16) (w : Vec Ideal S1024x3072 .bf16) (x : Vec Ideal S512x1024 .f32) (wn : Vec Ideal S1x1024 .f32)
    (d : Vec Ideal S512x1024 .f32) (r : Fin 512) (l : Fin 1024) :
    blk7 a0 a1 a2 w x wn d (ix2 r l) = dx (fun k => x (ix2 r k)) (fun k => k0_pay1 a0 a1 a2 w (ix2 r k) * wn (ix2 0 k)) l + d (ix2 r l) := by
  pointwise [k0_pay7, k0_pay6, k0_pay5, pay4_apply, k0_pay3, k0_pay2]
  rfl

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

/-- The row of the arrays that a row of a block is. -/
abbrev row (t : Fin cfg0.N) (r : Fin 512) : Fin 4096 := ⟨t.val * 512 + r.val, by have : t.val < 8 := t.isLt; omega⟩

section
variable (c : Dev nD)

abbrev Adh := dh (m ((c : Thread nD τ).loc main_arg0)) (m ((c : Thread nD τ).loc main_arg7))
abbrev A7 := G7 (Adh m c) (m ((c : Thread nD τ).loc main_arg1)) (m ((c : Thread nD τ).loc main_arg2)) (m ((c : Thread nD τ).loc main_arg3)) (m ((c : Thread nD τ).loc main_arg4)) (m ((c : Thread nD τ).loc main_arg5))
abbrev A8 := G8 (Adh m c) (m ((c : Thread nD τ).loc main_arg1)) (m ((c : Thread nD τ).loc main_arg2)) (m ((c : Thread nD τ).loc main_arg3)) (m ((c : Thread nD τ).loc main_arg4)) (m ((c : Thread nD τ).loc main_arg5))
abbrev A9 := G9 (Adh m c) (m ((c : Thread nD τ).loc main_arg1)) (m ((c : Thread nD τ).loc main_arg2)) (m ((c : Thread nD τ).loc main_arg3)) (m ((c : Thread nD τ).loc main_arg4)) (m ((c : Thread nD τ).loc main_arg5))
abbrev Ares : S4096x1024.Idx → EReal := m ((c : Thread nD τ).loc main_arg1)
abbrev Ay : S4096x1024.Idx → EReal := m ((c : Thread nD τ).loc main_arg3)
abbrev Ag : S1x1024.Idx → EReal := m ((c : Thread nD τ).loc main_arg4)
abbrev Awn : S1x1024.Idx → EReal := m ((c : Thread nD τ).loc main_arg5)
abbrev Amid := mid (m ((c : Thread nD τ).loc main_arg2)) (m ((c : Thread nD τ).loc main_arg3)) (m ((c : Thread nD τ).loc main_arg4))

/-- The residual stream is computed before the kernel's call. -/
theorem V_mid (r : Fin 4096) (l : Fin 1024) : (V m c main_v3 : S4096x1024.Idx → EReal) (ix2 r l) = Amid m c (ix2 r l) := by
  after_reads_at
  rfl

/-- The three parts of the cotangent's block. -/
abbrev b0 (t : Fin cfg0.N) : Vec Ideal S1x512x1024 .bf16 := View.ld (iblk m c 0 t) (Rect.unit ![0, 0, 0] ![1, 512, 1024] inb_S3x512x1024_S1x512x1024_0_0_0)
abbrev b1 (t : Fin cfg0.N) : Vec Ideal S1x512x1024 .bf16 := View.ld (iblk m c 0 t) (Rect.unit ![1, 0, 0] ![1, 512, 1024] inb_S3x512x1024_S1x512x1024_1_0_0)
abbrev b2 (t : Fin cfg0.N) : Vec Ideal S1x512x1024 .bf16 := View.ld (iblk m c 0 t) (Rect.unit ![2, 0, 0] ![1, 512, 1024] inb_S3x512x1024_S1x512x1024_2_0_0)

theorem bdh (t : Fin cfg0.N) (r : Fin 512) (l : Fin 1024) :
    k0_pay1 (b0 m c t) (b1 m c t) (b2 m c t) (iblk m c 1 t) (ix2 r l) = Adh m c (ix2 (row t r) l) := by
  have e0 (q : Fin 3) (k : Fin 1024) : (win0_0.blk t).view.emb (ix3 q r k) = ix3 q (row t r) k := by blk_ext [idx0]
  have e1 (k : Fin 3072) : (win0_1.blk t).view.emb (ix2 l k) = ix2 l k := by blk_ext [idx1]
  dsimp only [b0, b1, b2]
  pointwise [k0_pay1]
  blk_simp [iblk, e0, e1]
  rw [V_main_arg0, V_main_arg7]
  rfl

theorem bx (t : Fin cfg0.N) (r : Fin 512) (l : Fin 1024) : iblk m c 2 t (ix2 r l) = Amid m c (ix2 (row t r) l) := by
  have e : (win0_2.blk t).view.emb (ix2 r l) = ix2 (row t r) l := by blk_ext [idx2]
  blk_simp [iblk, e]
  exact V_mid m c _ _

theorem bw (t : Fin cfg0.N) (l : Fin 1024) :
    iblk m c 3 t (ix2 0 l) = Awn m c (ix2 0 l) := by
  have e : (win0_3.blk t).view.emb (ix2 0 l) = ix2 0 l := by blk_ext [idx3]
  blk_simp [iblk, e]
  rw [V_main_arg5]

theorem bres (t : Fin cfg0.N) (r : Fin 512) (l : Fin 1024) :
    iblk m c 4 t (ix2 r l) = Ares m c (ix2 (row t r) l) := by
  have e : (win0_4.blk t).view.emb (ix2 r l) = ix2 (row t r) l := by blk_ext [idx4]
  blk_simp [iblk, e]
  rw [V_main_arg1]

theorem bval (t : Fin cfg0.N) (r : Fin 512) (l : Fin 1024) :
    iblk m c 5 t (ix2 r l) = Ay m c (ix2 (row t r) l) := by
  have e : (win0_5.blk t).view.emb (ix2 r l) = ix2 (row t r) l := by blk_ext [idx5]
  blk_simp [iblk, e]
  rw [V_main_arg3]

theorem bg (t : Fin cfg0.N) (l : Fin 1024) :
    iblk m c 6 t (ix2 0 l) = Ag m c (ix2 0 l) := by
  have e : (win0_6.blk t).view.emb (ix2 0 l) = ix2 0 l := by blk_ext [idx6]
  blk_simp [iblk, e]
  rw [V_main_arg4]

/-- The block of the gradient at the residual stream. -/
theorem bdx (t : Fin cfg0.N) (r : Fin 512) (l : Fin 1024) :
    blk7 (b0 m c t) (b1 m c t) (b2 m c t) (iblk m c 1 t) (iblk m c 2 t) (iblk m c 3 t) (iblk m c 4 t) (ix2 r l) = A7 m c (ix2 (row t r) l) := by
  rw [pay7_apply]
  simp only [bx, bw, bres, bdh]
  rfl

/-! ## What the points leave in the outputs' buffers -/

theorem out7 (t : Fin cfg0.N) : (outsAt0 m c t.val t.isLt).1 =
    blk7 (b0 m c t) (b1 m c t) (b2 m c t) (iblk m c 1 t) (iblk m c 2 t) (iblk m c 3 t) (iblk m c 4 t) := by
  by_cases h : t.val % 8 = 0
  · rw [outsAt0_A m c t h]
    frame_out
    rfl
  · rw [outsAt0_B m c t h]
    frame_out
    rfl

theorem out8 (t : Fin cfg0.N) : (outsAt0 m c t.val t.isLt).2.1 = k0_pay8 (iblk m c 4 t) (iblk m c 6 t) (k0_pay3 (iblk m c 2 t)) (k0_pay4 (iblk m c 2 t))
    (k0_pay5 (b0 m c t) (b1 m c t) (b2 m c t) (iblk m c 1 t) (iblk m c 3 t))
    (k0_pay6 (b0 m c t) (b1 m c t) (b2 m c t) (iblk m c 1 t) (iblk m c 2 t) (iblk m c 3 t)) (Scalar.ofBits .f32 0x44800000#32) := by
  by_cases h : t.val % 8 = 0
  · rw [outsAt0_A m c t h]
    frame_out
    rfl
  · rw [outsAt0_B m c t h]
    frame_out
    rfl

/-- What one point adds to the sums. -/
def inc (t : Fin cfg0.N) (j : S8x1024.Idx) : EReal :=
  if (j 0).val = 2 then ∑ r : Fin 512, A7 m c (ix2 (row t r) (j 1)) * iblk m c 5 t (ix2 r (j 1))
  else if (j 0).val = 1 then ∑ r : Fin 512, Adh m c (ix2 (row t r) (j 1))
  else if (j 0).val = 0 then ∑ r : Fin 512, Adh m c (ix2 (row t r) (j 1)) * k0_pay4 (iblk m c 2 t) (ix2 r (j 1))
  else 0

theorem out9_A (t : Fin cfg0.N) (h : t.val % 8 = 0) (j : S8x1024.Idx) :
    (outsAt0 m c t.val t.isLt).2.2 j = 0 + inc m c t j := by
  obtain ⟨r, l, rfl⟩ : ∃ (r : Fin 8) (l : Fin 1024), j = ix2 r l := ⟨j 0, j 1, (ix2_eta j).symm⟩
  rw [outsAt0_A m c t h]
  frame_out
  erw [canon_row, canon_row, canon_row, canon_whole (by decide)]
  change (if r.val = 2 then _ else if r.val = 1 then _ else if r.val = 0 then _ else _) =
    0 + if r.val = 2 then _ else if r.val = 1 then _ else if r.val = 0 then _ else _
  rw [zero_add]
  split_ifs with h2 h1 h0
  · pointwise [k0_pay12]
    erw [readCov_row _ _ 2 (by omega), read_row, read_row]
    rw [if_neg (show ¬ (2 : ℕ) = 1 by decide), if_neg (show ¬ (2 : ℕ) = 0 by decide), View.read_writes_full]
    pointwise [k0_pay9]
    exact Finset.sum_congr rfl fun x _ => congrArg (· * _) (bdx m c t x l)
  · pointwise [k0_pay11]
    erw [readCov_row _ _ 1 (by omega), read_row]
    rw [if_neg (show ¬ (1 : ℕ) = 0 by decide), View.read_writes_full]
    pointwise [k0_pay9]
    exact Finset.sum_congr rfl fun x _ => bdh m c t x l
  · pointwise [k0_pay10]
    erw [readCov_row _ _ 0 (by omega)]
    rw [View.read_writes_full]
    pointwise [k0_pay9]
    exact Finset.sum_congr rfl fun x _ => congrArg (· * _) (bdh m c t x l)
  · pointwise [k0_pay9]

theorem out9_B (t : Fin cfg0.N) (h : ¬ t.val % 8 = 0) (j : S8x1024.Idx) :
    (outsAt0 m c t.val t.isLt).2.2 j =
      (outsAt0 m c (t.val - 1) (Nat.lt_of_le_of_lt (Nat.sub_le _ _) t.isLt)).2.2 j + inc m c t j := by
  obtain ⟨r, l, rfl⟩ : ∃ (r : Fin 8) (l : Fin 1024), j = ix2 r l := ⟨j 0, j 1, (ix2_eta j).symm⟩
  rw [outsAt0_B m c t h]
  generalize (outsAt0 m c (t.val - 1) (Nat.lt_of_le_of_lt (Nat.sub_le _ _) t.isLt)).2.2 = P
  frame_out
  erw [read_row, read_row, read_row]
  rw [View.writes_nil, Memref.IsWhole.read_unread]
  change (if r.val = 2 then _ else if r.val = 1 then _ else if r.val = 0 then _ else _) =
    _ + if r.val = 2 then _ else if r.val = 1 then _ else if r.val = 0 then _ else _
  split_ifs with h2 h1 h0
  · obtain rfl : r = 2 := Fin.ext h2
    pointwise [k0_pay12]
    exact congrArg (_ + ·) (Finset.sum_congr rfl fun x _ => congrArg (· * _) (bdx m c t x l))
  · obtain rfl : r = 1 := Fin.ext h1
    pointwise [k0_pay11]
    exact congrArg (_ + ·) (Finset.sum_congr rfl fun x _ => bdh m c t x l)
  · obtain rfl : r = 0 := Fin.ext h0
    pointwise [k0_pay10]
    exact congrArg (_ + ·) (Finset.sum_congr rfl fun x _ => congrArg (· * _) (bdh m c t x l))
  · exact (add_zero _).symm

/-! ## What the arrays hold -/

theorem final7 : (dats m 0 c).arrAt 7 cfg0.N = A7 m c := by
  refine (dats m 0 c).arrAt_eq_of_covers 7 _ (by decide +kernel) fun t hf y => ?_
  blk_simp
  rw [after0_7, out7]
  obtain ⟨r, l, rfl⟩ : ∃ (r : Fin 512) (l : Fin 1024), y = ix2 r l := ⟨y 0, y 1, (ix2_eta y).symm⟩
  have e : (win0_7.blk t).view.emb (ix2 r l) = ix2 (row t r) l := by blk_ext [idx7]
  erw [e]
  exact bdx m c t r l

theorem final8 : (dats m 0 c).arrAt 8 cfg0.N = A8 m c := by
  refine (dats m 0 c).arrAt_eq_of_covers 8 _ (by decide +kernel) fun t hf y => ?_
  blk_simp
  rw [after0_8, out8]
  obtain ⟨r, l, rfl⟩ : ∃ (r : Fin 512) (l : Fin 1024), y = ix2 r l := ⟨y 0, y 1, (ix2_eta y).symm⟩
  have e : (win0_8.blk t).view.emb (ix2 r l) = ix2 (row t r) l := by blk_ext [idx8]
  erw [e]
  pointwise [k0_pay8]
  exact congrArg₂ (· * ·) (bdx m c t r l) (bg m c t l)

/-- After the last point the sums run over all rows. -/
theorem sums (j : S8x1024.Idx) : (outsAt0 m c t0_7.val t0_7.isLt).2.2 j = A9 m c j := by
  rw [Pipeline.eq_sum_fin_of_reset_step_apply_last (fun n h => (outsAt0 m c n h).2.2) 8 (fun _ => 0) (inc m c)
    (out9_A m c) (out9_B m c) (le_of_eq N_0) t0_7 rfl j, zero_add]
  change (∑ t, if (j 0).val = 2 then _ else if (j 0).val = 1 then _ else if (j 0).val = 0 then _ else _) =
    if (j 0).val = 2 then _ else if (j 0).val = 1 then _ else if (j 0).val = 0 then _ else _
  split_ifs with h2 h1 h0
  · refine Eq.trans ?_ (Fin.sum_mul_add_fin (S := 8) (n := 512) fun x : Fin 4096 => A7 m c (ix2 x (j 1)) * Ay m c (ix2 x (j 1)))
    exact Finset.sum_congr rfl fun t _ => Finset.sum_congr rfl fun r _ => congrArg (_ * ·) (bval m c t r (j 1))
  · exact Fin.sum_mul_add_fin (S := 8) (n := 512) fun x : Fin 4096 => Adh m c (ix2 x (j 1))
  · refine Eq.trans ?_ (Fin.sum_mul_add_fin (S := 8) (n := 512) fun x : Fin 4096 => Adh m c (ix2 x (j 1)) *
      (Amid m c (ix2 x (j 1)) * rs fun k => Amid m c (ix2 x k)))
    refine Finset.sum_congr rfl fun t _ => Finset.sum_congr rfl fun r _ => ?_
    refine congrArg (_ * ·) ((pay4_apply _ r (j 1)).trans ?_)
    exact congrArg₂ (· * ·) (bx m c t r (j 1)) (congrArg rs (funext fun k => bx m c t r k))
  · exact Finset.sum_const_zero

theorem final9 : (dats m 0 c).arrAt 9 cfg0.N = A9 m c := by
  refine (dats m 0 c).arrAt_eq_of_covers 9 _ (by decide +kernel) fun t hf y => ?_
  obtain rfl : t = t0_7 := Fin.ext (by have := (flush0_9 t).mp hf; have h8 : t.val < 8 := t.isLt; show t.val = 7; omega)
  blk_simp
  rw [after0_9]
  obtain ⟨r, l, rfl⟩ : ∃ (r : Fin 8) (l : Fin 1024), y = ix2 r l := ⟨y 0, y 1, (ix2_eta y).symm⟩
  have e : (win0_9.blk t0_7).view.emb (ix2 r l) = ix2 r l := by blk_ext [idx9]
  erw [e]
  exact sums m c (ix2 r l)

/-! ## The precondition -/

theorem reals (h : Cert.Pre_Kernel18Ideal_finite_gated_chunks m) :
    (∃ X : S3x4096x1024.Idx → ℝ, m ((c : Thread nD τ).loc main_arg0) = fun i => (X i : EReal))
    ∧ (∃ X : S4096x1024.Idx → ℝ, m ((c : Thread nD τ).loc main_arg2) = fun i => (X i : EReal))
    ∧ (∃ X : S4096x1024.Idx → ℝ, m ((c : Thread nD τ).loc main_arg3) = fun i => (X i : EReal))
    ∧ (∃ X : S1x1024.Idx → ℝ, m ((c : Thread nD τ).loc main_arg4) = fun i => (X i : EReal))
    ∧ (∃ X : S1x1024.Idx → ℝ, m ((c : Thread nD τ).loc main_arg5) = fun i => (X i : EReal))
    ∧ (∃ X : S1024x3072.Idx → ℝ, m ((c : Thread nD τ).loc main_arg7) = fun i => (X i : EReal)) := by
  obtain ⟨e, e5⟩ := Cert.Finite.andi_all (h c)
  obtain ⟨e, e4⟩ := Cert.Finite.andi_all e
  obtain ⟨e, e3⟩ := Cert.Finite.andi_all e
  obtain ⟨e, e2⟩ := Cert.Finite.andi_all e
  obtain ⟨e0, e1⟩ := Cert.Finite.andi_all e
  exact ⟨Cert.Finite.real_of_all _ Cert.Finite.inf_bf16 _ _ _ _ e0, Cert.Finite.real_of_all _ Cert.Finite.inf_f32 _ _ _ _ e1,
    Cert.Finite.real_of_all _ Cert.Finite.inf_bf16 _ _ _ _ e2, Cert.Finite.real_of_all _ Cert.Finite.inf_f32 _ _ _ _ e3,
    Cert.Finite.real_of_all _ Cert.Finite.inf_f32 _ _ _ _ e4, Cert.Finite.real_of_all _ Cert.Finite.inf_bf16 _ _ _ _ e5⟩

theorem dx_rows (h : Cert.Pre_Kernel18Ideal_finite_gated_chunks m) (r : Fin 4096) (l : Fin 1024) :
    Ares m c (ix2 r l) + Adh m c (ix2 r l) * Awn m c (ix2 0 l) * rs (fun k => Amid m c (ix2 r k))
      + Amid m c (ix2 r l) * dms (fun k => Amid m c (ix2 r k)) (fun k => Adh m c (ix2 r k) * Awn m c (ix2 0 k))
      + dms (fun k => Amid m c (ix2 r k)) (fun k => Adh m c (ix2 r k) * Awn m c (ix2 0 k)) * Amid m c (ix2 r l)
      = A7 m c (ix2 r l) := by
  obtain ⟨⟨X0, e0⟩, e2, e3, e4, e5, ⟨X7, e7⟩⟩ := reals m c h
  obtain ⟨D, hD⟩ := Cert.Norm.dh_real X0 X7
  exact Cert.Gated.dx_mid _ _ _ _ _ _ ⟨D, (congrArg₂ dh e0 e7).trans hD⟩ e2 e3 e4 e5 r l

end

/-! ## The reference -/

open Cert.Reference18Ideal.Read in
theorem ref_dh (x0 : S3x4096x1024.Idx → EReal) (x7 : S1024x3072.Idx → EReal) (r : Fin 4096) (l : Fin 1024) :
    val_main_v31 (F := Ideal) x0 x7 (ix2 r l) = dh x0 x7 (ix2 r l) := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_cst_2, val_main_v21, val_main_v22, val_main_v23, val_main_v24, val_main_v25, val_main_v26, val_main_v27, val_main_v28, val_main_v29, val_main_v30, val_main_v31, val_main_cst_3, val_main_v32, val_main_v33, val_main_v34, val_main_cst_4, val_main_v35, val_main_v36, val_main_v37, val_main_v38, val_main_v39, val_main_cst_5, val_main_v40, val_main_v41, val_main_v42, val_main_v43, val_main_v44, val_main_v45, val_main_cst_6, val_main_v46, val_main_v47, val_main_cst_7, val_main_v48, val_main_v49, val_main_v50, val_main_v51, val_main_v52, val_main_v53, val_main_v54, val_main_v55, val_main_v56, val_main_v57, val_main_cst_8, val_main_v58, val_main_v59, val_main_v60, val_main_cst_9, val_main_v61, val_main_v62]
  rfl

open Cert.Reference18Ideal.Read in
theorem ref_mid (x2 x3 : S4096x1024.Idx → EReal) (x4 : S1x1024.Idx → EReal) (r : Fin 4096) (l : Fin 1024) :
    val_main_v11 (F := Ideal) x2 x3 x4 (ix2 r l) = mid x2 x3 x4 (ix2 r l) := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_cst_2, val_main_v21, val_main_v22, val_main_v23, val_main_v24, val_main_v25, val_main_v26, val_main_v27, val_main_v28, val_main_v29, val_main_v30, val_main_v31, val_main_cst_3, val_main_v32, val_main_v33, val_main_v34, val_main_cst_4, val_main_v35, val_main_v36, val_main_v37, val_main_v38, val_main_v39, val_main_cst_5, val_main_v40, val_main_v41, val_main_v42, val_main_v43, val_main_v44, val_main_v45, val_main_cst_6, val_main_v46, val_main_v47, val_main_cst_7, val_main_v48, val_main_v49, val_main_v50, val_main_v51, val_main_v52, val_main_v53, val_main_v54, val_main_v55, val_main_v56, val_main_v57, val_main_cst_8, val_main_v58, val_main_v59, val_main_v60, val_main_cst_9, val_main_v61, val_main_v62]
  rfl

open Cert.Reference18Ideal.Read in
theorem ref7 (x0 : S3x4096x1024.Idx → EReal) (x1 x2 x3 : S4096x1024.Idx → EReal) (x4 x5 : S1x1024.Idx → EReal) (x7 : S1024x3072.Idx → EReal)
    (r : Fin 4096) (l : Fin 1024) :
    val_main_v53 (F := Ideal) x0 x1 x2 x3 x4 x5 x7 (ix2 r l) =
      x1 (ix2 r l) + dh x0 x7 (ix2 r l) * x5 (ix2 0 l) * rs (fun k => mid x2 x3 x4 (ix2 r k))
        + mid x2 x3 x4 (ix2 r l) * dms (fun k => mid x2 x3 x4 (ix2 r k)) (fun k => dh x0 x7 (ix2 r k) * x5 (ix2 0 k))
        + dms (fun k => mid x2 x3 x4 (ix2 r k)) (fun k => dh x0 x7 (ix2 r k) * x5 (ix2 0 k)) * mid x2 x3 x4 (ix2 r l) := by
  pointwise [val_main_v0, val_main_v1, val_main_v2, val_main_v3, val_main_v4, val_main_v5, val_main_v6, val_main_v7, val_main_v8, val_main_v9, val_main_v10, val_main_v12, val_main_cst, val_main_v13, val_main_v14, val_main_cst_0, val_main_v15, val_main_v16, val_main_cst_1, val_main_v17, val_main_v18, val_main_v19, val_main_v20, val_main_cst_2, val_main_v21, val_main_v22, val_main_v23, val_main_v24, val_main_v25, val_main_v26, val_main_v27, val_main_v28, val_main_v29, val_main_v30, val_main_cst_3, val_main_v32, val_main_v33, val_main_v34, val_main_cst_4, val_main_v35, val_main_v36, val_main_v37, val_main_v38, val_main_v39, val_main_cst_5, val_main_v40, val_main_v41, val_main_v42, val_main_v43, val_main_v44, val_main_v45, val_main_cst_6, val_main_v46, val_main_v47, val_main_cst_7, val_main_v48, val_main_v49, val_main_v50, val_main_v51, val_main_v52, val_main_v53, val_main_v54, val_main_v55, val_main_v56, val_main_v57, val_main_cst_8, val_main_v58, val_main_v59, val_main_v60, val_main_cst_9, val_main_v61, val_main_v62, ref_dh, ref_mid]
  simp only [Finset.univ_unique, Finset.sum_singleton]
  rfl

open Cert.Reference18Ideal.Read in
theorem ref8 (x0 : S3x4096x1024.Idx → EReal) (x1 x2 x3 : S4096x1024.Idx → EReal) (x4 x5 : S1x1024.Idx → EReal) (x7 : S1024x3072.Idx → EReal)
    (r : Fin 4096) (l : Fin 1024) :
    val_main_v60 (F := Ideal) x0 x1 x2 x3 x4 x5 x7 (ix2 r l) = val_main_v53 (F := Ideal) x0 x1 x2 x3 x4 x5 x7 (ix2 r l) * x4 (ix2 0 l) := by
  pointwise [val_main_v60, val_main_v56, val_main_v55, val_main_v54]
  exact mul_comm _ _

open Cert.Reference18Ideal.Read in
theorem ref9 (x0 : S3x4096x1024.Idx → EReal) (x1 x2 x3 : S4096x1024.Idx → EReal) (x4 x5 : S1x1024.Idx → EReal) (x7 : S1024x3072.Idx → EReal)
    (h : ∀ r l, val_main_v53 (F := Ideal) x0 x1 x2 x3 x4 x5 x7 (ix2 r l) = G7 (dh x0 x7) x1 x2 x3 x4 x5 (ix2 r l))
    (r : Fin 8) (l : Fin 1024) :
    val_main_v62 (F := Ideal) x0 x1 x2 x3 x4 x5 x7 (ix2 r l) = G9 (dh x0 x7) x1 x2 x3 x4 x5 (ix2 r l) := by
  pointwise [val_main_v0, val_main_v1, val_main_v2, val_main_v3, val_main_v4, val_main_v5, val_main_v6, val_main_v7, val_main_v8, val_main_v9, val_main_v10, val_main_v12, val_main_cst, val_main_v13, val_main_v14, val_main_cst_0, val_main_v15, val_main_v16, val_main_cst_1, val_main_v17, val_main_v18, val_main_v19, val_main_v20, val_main_cst_2, val_main_v21, val_main_v22, val_main_v23, val_main_v24, val_main_v25, val_main_v26, val_main_v27, val_main_v28, val_main_v29, val_main_v30, val_main_cst_3, val_main_v32, val_main_v33, val_main_v34, val_main_cst_4, val_main_v35, val_main_v36, val_main_v37, val_main_v38, val_main_v39, val_main_cst_5, val_main_v40, val_main_v41, val_main_v42, val_main_v43, val_main_v44, val_main_v45, val_main_cst_6, val_main_v46, val_main_v47, val_main_cst_7, val_main_v48, val_main_v49, val_main_v50, val_main_v51, val_main_v52, val_main_v54, val_main_v55, val_main_v56, val_main_v57, val_main_cst_8, val_main_v58, val_main_v59, val_main_v60, val_main_cst_9, val_main_v61, val_main_v62, ref_dh, ref_mid, h]
  change _ = if r.val = 2 then _ else if r.val = 1 then _ else if r.val = 0 then _ else _
  by_cases h0 : r.val = 0
  · rw [dif_pos (by omega), if_neg (by omega), if_neg (by omega), if_pos h0]
    exact Finset.sum_congr rfl fun x _ => mul_comm _ _
  · rw [dif_neg (by omega)]
    by_cases h1 : r.val = 1
    · rw [dif_pos (by omega), if_neg (by omega), if_pos h1]
      rfl
    · rw [dif_neg (by omega)]
      by_cases h2 : r.val = 2
      · rw [dif_pos (by omega), if_pos h2]
        rfl
      · rw [dif_neg (by omega), if_neg h2, if_neg h1, if_neg h0]

theorem algebraic : Cert.algebraic_Kernel18Ideal_Reference18Ideal_pre_finite_gated_chunks := by
  pair_intro
  · run_from (run_blocks m g)
  · have hd (c : Dev nD) (r : Fin 4096) (l : Fin 1024) := (ref7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) r l).trans (dx_rows m c hpre r l)
    run_from Cert.Reference18Ideal.Value.run m' g'
    · rw [final7]
      funext i
      obtain ⟨r, l, rfl⟩ : ∃ r l, i = ix2 r l := ⟨i 0, i 1, (ix2_eta i).symm⟩
      obtain ⟨h0, h1, h2, h3, h4, h5, h6, h7⟩ := hagree c
      rw [Cert.Reference18Ideal.Read.val_main_v53_eq]
      try simp only [h0, h1, h2, h3, h4, h5, h6, h7]
      exact hd c r l
    · rw [final8]
      funext i
      obtain ⟨r, l, rfl⟩ : ∃ r l, i = ix2 r l := ⟨i 0, i 1, (ix2_eta i).symm⟩
      obtain ⟨h0, h1, h2, h3, h4, h5, h6, h7⟩ := hagree c
      rw [Cert.Reference18Ideal.Read.val_main_v60_eq]
      try simp only [h0, h1, h2, h3, h4, h5, h6, h7]
      exact (ref8 _ _ _ _ _ _ _ r l).trans (congrArg (· * _) (hd c r l))
    · rw [final9]
      funext i
      obtain ⟨r, l, rfl⟩ : ∃ r l, i = ix2 r l := ⟨i 0, i 1, (ix2_eta i).symm⟩
      obtain ⟨h0, h1, h2, h3, h4, h5, h6, h7⟩ := hagree c
      rw [Cert.Reference18Ideal.Read.val_main_v62_eq]
      try simp only [h0, h1, h2, h3, h4, h5, h6, h7]
      exact ref9 _ _ _ _ _ _ _ (hd c) r l

end Cert.GatedChunks
-- ==== Proof.InFwd.lean ====
/- The product at the entrance of the gated short convolution. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.InFwd

open Idealize Idealize.ShloMosaic Idealize.SL.Sem Idealize.ShloMosaic.TcCoe
open Cert.Kernel19Ideal Cert.Kernel19Ideal.Gen Cert.Kernel19Ideal.Value

variable (m : (ℓ : Loc nD τ sig) → Buf (Elt Ideal) ℓ)

open Cert.Common

/-- The arguments, as arrays of numbers. -/
abbrev X0 (c : Dev nD) : S4096x1024.Idx → EReal := m ((c : Thread nD τ).loc main_arg0)
abbrev X1 (c : Dev nD) : S1024x3072.Idx → EReal := m ((c : Thread nD τ).loc main_arg1)

/-- The product. -/
def G2 (h : S4096x1024.Idx → EReal) (w : S1024x3072.Idx → EReal) (i : S4096x3072.Idx) : EReal :=
  ∑ k : Fin 1024, h (ix2 (i 0) k) * w (ix2 k (i 1))

theorem pay_apply (h : Vec Ideal S2048x1024 .bf16) (w : Vec Ideal S1024x1024 .bf16) (r : Fin 2048) (l : Fin 1024) :
    k0_pay1 h w (ix2 r l) = ∑ k : Fin 1024, h (ix2 r k) * w (ix2 k l) := by
  pointwise [k0_pay1]

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

/-- The row of the arrays that a row of a block is, -/
abbrev row (t : Fin cfg0.N) (r : Fin 2048) : Fin 4096 := ⟨t.val / 3 * 2048 + r.val, by have : t.val < 6 := t.isLt; omega⟩

/-- and the column. -/
abbrev lane (t : Fin cfg0.N) (r : Fin 1024) : Fin 3072 := ⟨t.val % 3 * 1024 + r.val, by have : t.val < 6 := t.isLt; omega⟩

section
variable (c : Dev nD)

theorem bh (t : Fin cfg0.N) (r : Fin 2048) (k : Fin 1024) : iblk m c 0 t (ix2 r k) = X0 m c (ix2 (row t r) k) := by
  have e : (win0_0.blk t).view.emb (ix2 r k) = ix2 (row t r) k := by blk_ext [idx0]
  blk_simp [iblk, e]

theorem bw (t : Fin cfg0.N) (k l : Fin 1024) : iblk m c 1 t (ix2 k l) = X1 m c (ix2 k (lane t l)) := by
  have e : (win0_1.blk t).view.emb (ix2 k l) = ix2 k (lane t l) := by blk_ext [idx1]
  blk_simp [iblk, e]

theorem final2 : (dats m 0 c).arrAt 2 cfg0.N = G2 (X0 m c) (X1 m c) := by
  refine (dats m 0 c).arrAt_eq_of_covers 2 _ (by decide +kernel) fun t hf y => ?_
  blk_simp
  rw [after0_2]
  obtain ⟨r, l, rfl⟩ : ∃ (r : Fin 2048) (l : Fin 1024), y = ix2 r l := ⟨y 0, y 1, (ix2_eta y).symm⟩
  have e : (win0_2.blk t).view.emb (ix2 r l) = ix2 (row t r) (lane t l) := by blk_ext [idx2]
  erw [e]
  unfold out0_2
  frame_out
  refine (pay_apply _ _ r l).trans ?_
  simp only [bh, bw]
  rfl

end

/-! ## The reference -/

theorem ref2 (x0 : S4096x1024.Idx → EReal) (x1 : S1024x3072.Idx → EReal) (r : Fin 4096) (l : Fin 3072) :
    Cert.Reference19Ideal.Read.val_main_v3 (F := Ideal) x0 x1 (ix2 r l) = G2 x0 x1 (ix2 r l) := by
  open Cert.Reference19Ideal.Read in
  pointwise [val_main_v0, val_main_v1, val_main_v2, val_main_v3]
  rfl

theorem algebraic : Cert.algebraic_Kernel19Ideal_Reference19Ideal := by
  pair_intro
  · run_from (run_blocks m g)
  · run_from Cert.Reference19Ideal.Value.run m' g'
    · rw [final2]
      funext i
      obtain ⟨r, l, rfl⟩ : ∃ r l, i = ix2 r l := ⟨i 0, i 1, (ix2_eta i).symm⟩
      obtain ⟨h0, h1⟩ := hagree c
      rw [Cert.Reference19Ideal.Read.val_main_v3_eq]
      try simp only [h0, h1]
      exact ref2 _ _ r l

end Cert.InFwd
-- ==== Proof.UpGrad.lean ====
/- The gradient of the feed-forward layer's first weight. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.UpGrad

open Idealize Idealize.ShloMosaic Idealize.SL.Sem Idealize.ShloMosaic.TcCoe
open Cert.Kernel20Ideal Cert.Kernel20Ideal.Gen Cert.Kernel20Ideal.Value

variable (m : (ℓ : Loc nD τ sig) → Buf (Elt Ideal) ℓ)

open Cert.Common

/-- The arguments, as arrays of numbers. -/
abbrev X0 (c : Dev nD) : S4096x1024.Idx → EReal := m ((c : Thread nD τ).loc main_arg0)
abbrev X1 (c : Dev nD) : S4096x4096.Idx → EReal := m ((c : Thread nD τ).loc main_arg1)

/-- The product's input against the cotangent, over all rows. -/
def G2 (h : S4096x1024.Idx → EReal) (ct : S4096x4096.Idx → EReal) (i : S1024x4096.Idx) : EReal :=
  ∑ k : Fin 4096, h (ix2 k (i 0)) * ct (ix2 k (i 1))

theorem pay_apply (h : Vec Ideal S4096x1024 .bf16) (ct : Vec Ideal S4096x512 .bf16) (r : Fin 1024) (l : Fin 512) :
    k0_pay1 h ct (ix2 r l) = ∑ k : Fin 4096, h (ix2 k r) * ct (ix2 k l) := by
  pointwise [k0_pay1]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The column of the arrays that a column of a block is. -/
abbrev lane (t : Fin cfg0.N) (r : Fin 512) : Fin 4096 := ⟨t.val * 512 + r.val, by have : t.val < 8 := t.isLt; omega⟩

section
variable (c : Dev nD)

theorem bh (t : Fin cfg0.N) (k : Fin 4096) (r : Fin 1024) : iblk m c 0 t (ix2 k r) = X0 m c (ix2 k r) := by
  have e : (win0_0.blk t).view.emb (ix2 k r) = ix2 k r := by blk_ext [idx0]
  blk_simp [iblk, e]

theorem bct (t : Fin cfg0.N) (k : Fin 4096) (l : Fin 512) : iblk m c 1 t (ix2 k l) = X1 m c (ix2 k (lane t l)) := by
  have e : (win0_1.blk t).view.emb (ix2 k l) = ix2 k (lane t l) := by blk_ext [idx1]
  blk_simp [iblk, e]

theorem final2 : (dats m 0 c).arrAt 2 cfg0.N = G2 (X0 m c) (X1 m c) := by
  refine (dats m 0 c).arrAt_eq_of_covers 2 _ (by decide +kernel) fun t hf y => ?_
  blk_simp
  rw [after0_2]
  obtain ⟨r, l, rfl⟩ : ∃ (r : Fin 1024) (l : Fin 512), y = ix2 r l := ⟨y 0, y 1, (ix2_eta y).symm⟩
  have e : (win0_2.blk t).view.emb (ix2 r l) = ix2 r (lane t l) := by blk_ext [idx2]
  erw [e]
  unfold out0_2
  frame_out
  refine (pay_apply _ _ r l).trans ?_
  simp only [bh, bct]
  rfl

end

/-! ## The reference -/

theorem ref2 (x0 : S4096x1024.Idx → EReal) (x1 : S4096x4096.Idx → EReal) (r : Fin 1024) (l : Fin 4096) :
    Cert.Reference20Ideal.Read.val_main_v6 (F := Ideal) x0 x1 (ix2 r l) = G2 x0 x1 (ix2 r l) := by
  open Cert.Reference20Ideal.Read in
  pointwise [val_main_cst, val_main_v0, val_main_v1, val_main_v2, val_main_v3, val_main_v4, val_main_v5, val_main_v6]
  exact Finset.sum_congr rfl fun k _ => mul_comm _ _

theorem algebraic : Cert.algebraic_Kernel20Ideal_Reference20Ideal := by
  pair_intro
  · run_from (run_blocks m g)
  · run_from Cert.Reference20Ideal.Value.run m' g'
    · rw [final2]
      funext i
      obtain ⟨r, l, rfl⟩ : ∃ r l, i = ix2 r l := ⟨i 0, i 1, (ix2_eta i).symm⟩
      obtain ⟨h0, h1⟩ := hagree c
      rw [Cert.Reference20Ideal.Read.val_main_v6_eq]
      try simp only [h0, h1]
      exact ref2 _ _ r l

end Cert.UpGrad
-- ==== Proof.DownGrad.lean ====
/- The gradient of the feed-forward layer's second weight, behind the squared rectifier. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.DownGrad

open Idealize Idealize.ShloMosaic Idealize.SL.Sem Idealize.ShloMosaic.TcCoe
open Cert.Kernel21Ideal Cert.Kernel21Ideal.Gen Cert.Kernel21Ideal.Value

variable (m : (ℓ : Loc nD τ sig) → Buf (Elt Ideal) ℓ)

open Cert.Common

/-- The arguments, as arrays of numbers. -/
abbrev X0 (c : Dev nD) : S4096x1024.Idx → EReal := m ((c : Thread nD τ).loc main_arg0)
abbrev X1 (c : Dev nD) : S1024x4096.Idx → EReal := m ((c : Thread nD τ).loc main_arg1)
abbrev X2 (c : Dev nD) : S4096x1024.Idx → EReal := m ((c : Thread nD τ).loc main_arg2)

/-- The saved activation. -/
def act (h : S4096x1024.Idx → EReal) (w1 : S1024x4096.Idx → EReal) (i : S4096x4096.Idx) : EReal :=
  max (∑ k : Fin 1024, h (ix2 (i 0) k) * w1 (ix2 k (i 1))) 0

/-- Its square against the cotangent, over all rows. -/
def G2 (h : S4096x1024.Idx → EReal) (w1 : S1024x4096.Idx → EReal) (ct : S4096x1024.Idx → EReal) (i : S4096x1024.Idx) : EReal :=
  ∑ k : Fin 4096, act h w1 (ix2 k (i 0)) * act h w1 (ix2 k (i 0)) * ct (ix2 k (i 1))

theorem pay_apply (a : Vec Ideal S4096x256 .bf16) (ct : Vec Ideal S4096x1024 .bf16) (r : Fin 256) (l : Fin 1024) :
    k0_pay1 a ct (ix2 r l) = ∑ k : Fin 4096, a (ix2 k r) * a (ix2 k r) * ct (ix2 k l) := by
  pointwise [k0_pay1]

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The row of the weight that a row of a block is. -/
abbrev row (t : Fin cfg0.N) (r : Fin 256) : Fin 4096 := ⟨t.val * 256 + r.val, by have : t.val < 16 := t.isLt; omega⟩

section
variable (c : Dev nD)

/-- The activation is computed before the kernel's call. -/
theorem V_act (r l : Fin 4096) : (V m c main_v4 : S4096x4096.Idx → EReal) (ix2 r l) = act (X0 m c) (X1 m c) (ix2 r l) := by
  after_reads_at
  rfl

theorem ba (t : Fin cfg0.N) (k : Fin 4096) (r : Fin 256) : iblk m c 0 t (ix2 k r) = act (X0 m c) (X1 m c) (ix2 k (row t r)) := by
  have e : (win0_0.blk t).view.emb (ix2 k r) = ix2 k (row t r) := by blk_ext [idx0]
  blk_simp [iblk, e]
  exact V_act m c _ _

theorem bct (t : Fin cfg0.N) (k : Fin 4096) (l : Fin 1024) : iblk m c 1 t (ix2 k l) = X2 m c (ix2 k l) := by
  have e : (win0_1.blk t).view.emb (ix2 k l) = ix2 k l := by blk_ext [idx1]
  blk_simp [iblk, e]
  rw [V_main_arg2]

theorem final2 : (dats m 0 c).arrAt 2 cfg0.N = G2 (X0 m c) (X1 m c) (X2 m c) := by
  refine (dats m 0 c).arrAt_eq_of_covers 2 _ (by decide +kernel) fun t hf y => ?_
  blk_simp
  rw [after0_2]
  obtain ⟨r, l, rfl⟩ : ∃ (r : Fin 256) (l : Fin 1024), y = ix2 r l := ⟨y 0, y 1, (ix2_eta y).symm⟩
  have e : (win0_2.blk t).view.emb (ix2 r l) = ix2 (row t r) l := by blk_ext [idx2]
  erw [e]
  unfold out0_2
  frame_out
  refine (pay_apply _ _ r l).trans ?_
  simp only [ba, bct]
  rfl

end

/-! ## The reference -/

theorem ref2 (x0 : S4096x1024.Idx → EReal) (x1 : S1024x4096.Idx → EReal) (x2 : S4096x1024.Idx → EReal) (r : Fin 4096) (l : Fin 1024) :
    Cert.Reference21Ideal.Read.val_main_v10 (F := Ideal) x0 x1 x2 (ix2 r l) = G2 x0 x1 x2 (ix2 r l) := by
  open Cert.Reference21Ideal.Read in
  pointwise [val_main_cst, val_main_v0, val_main_v1, val_main_v2, val_main_v3, val_main_call0_cst, val_main_call0_v0, val_main_v4, val_main_v5, val_main_v6, val_main_v7, val_main_v8, val_main_v9, val_main_v10]
  exact Finset.sum_congr rfl fun k _ => mul_comm _ _

theorem algebraic : Cert.algebraic_Kernel21Ideal_Reference21Ideal := by
  pair_intro
  · run_from (run_blocks m g)
  · run_from Cert.Reference21Ideal.Value.run m' g'
    · rw [final2]
      funext i
      obtain ⟨r, l, rfl⟩ : ∃ r l, i = ix2 r l := ⟨i 0, i 1, (ix2_eta i).symm⟩
      obtain ⟨h0, h1, h2⟩ := hagree c
      rw [Cert.Reference21Ideal.Read.val_main_v10_eq]
      try simp only [h0, h1, h2]
      exact ref2 _ _ _ r l

end Cert.DownGrad
-- ==== Proof.Adam.lean ====
/- The optimiser's step on the feed-forward layers' first weights. -/
module

public import proofs.«01_k».proof.Defs
public import proofs.«01_k».proof.Proof.Gen.Kernel22Ideal.Value
public import proofs.«01_k».proof.Proof.Gen.Reference22Ideal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common

@[expose] public section

noncomputable section

namespace Cert.Adam

open Idealize Idealize.ShloMosaic Idealize.SL.Sem Idealize.ShloMosaic.TcCoe
open Cert.Common

abbrev Parts := (⟨3, ![8, 1024, 512]⟩ : Shape).Idx → EReal
abbrev Layers := (⟨3, ![4, 1024, 512]⟩ : Shape).Idx → EReal

/-- The gradients of the four layers, each summed over its parts. -/
def grad (p0 p1 p2 p3 : Parts) (i : (⟨3, ![4, 1024, 512]⟩ : Shape).Idx) : EReal :=
  if (i 0).val = 0 then ∑ n : Fin 8, p0 (ix3 n (i 1) (i 2))
  else if (i 0).val = 1 then ∑ n : Fin 8, p1 (ix3 n (i 1) (i 2))
  else if (i 0).val = 2 then ∑ n : Fin 8, p2 (ix3 n (i 1) (i 2))
  else ∑ n : Fin 8, p3 (ix3 n (i 1) (i 2))

/-- The next first moment, -/
def mom1 (g x : EReal) : EReal := Ideal.ofBits .f32 0x3F666666#32 * x + Ideal.ofBits .f32 0x3DCCCCCD#32 * g

/-- the next second moment, -/
def mom2 (g v : EReal) : EReal := Ideal.ofBits .f32 0x3F7FBE77#32 * v + Ideal.ofBits .f32 0x3A83126F#32 * (g * g)

/-- and the step, from the corrected moments and the weight. -/
def step (a b w : EReal) : EReal :=
  Ideal.ofBits .f32 0xBA83126F#32 *
    (Ideal.div a (Ideal.sqrt b + Ideal.ofBits .f32 0x322BCC77#32) + Ideal.ofBits .f32 0x3C23D70A#32 * w)

/-- What is left of a moment's weight after the steps taken. -/
abbrev left1 : ℝ := 6513215599 / 10000000000
abbrev left2 : ℝ := 9955119790251790119955009999 / 1000000000000000000000000000000

/-- The step at one weight. -/
def delta (g x v w : EReal) : EReal := step (Ideal.div (mom1 g x) left1) (Ideal.div (mom2 g v) left2) w

section
open Cert.Kernel22Ideal Cert.Kernel22Ideal.Gen Cert.Kernel22Ideal.Value

variable (m : (ℓ : Loc nD τ sig) → Buf (Elt Ideal) ℓ)

/-- A block of the parts, summed. -/
def sum8 (X : Vec Ideal S8x256x512 .bf16) : FVec Ideal S256x512 .f32 :=
  k0_pay5 (View.ld X (Rect.unit ![0, 0, 0] ![1, 256, 512] inb_S8x256x512_S1x256x512_0_0_0))
    (View.ld X (Rect.unit ![1, 0, 0] ![1, 256, 512] inb_S8x256x512_S1x256x512_1_0_0))
    (View.ld X (Rect.unit ![2, 0, 0] ![1, 256, 512] inb_S8x256x512_S1x256x512_2_0_0))
    (View.ld X (Rect.unit ![3, 0, 0] ![1, 256, 512] inb_S8x256x512_S1x256x512_3_0_0))
    (View.ld X (Rect.unit ![4, 0, 0] ![1, 256, 512] inb_S8x256x512_S1x256x512_4_0_0))
    (View.ld X (Rect.unit ![5, 0, 0] ![1, 256, 512] inb_S8x256x512_S1x256x512_5_0_0))
    (View.ld X (Rect.unit ![6, 0, 0] ![1, 256, 512] inb_S8x256x512_S1x256x512_6_0_0))
    (View.ld X (Rect.unit ![7, 0, 0] ![1, 256, 512] inb_S8x256x512_S1x256x512_7_0_0))

theorem sum8_apply (X : Vec Ideal S8x256x512 .bf16) (r : Fin 256) (l : Fin 512) : sum8 X (ix2 r l) = ∑ n : Fin 8, X (ix3 n r l) := by
  unfold sum8
  pointwise [k0_pay5]
  exact (Fin.sum_univ_eight fun n => X (ix3 n r l)).symm

theorem pay9_apply (g : FVec Ideal S256x512 .f32) (r : Fin 256) (l : Fin 512) : k0_pay9 g (ix3 0 r l) = g (ix2 r l) := by
  pointwise [k0_pay9]

theorem pay10_apply (g : FVec Ideal S256x512 .f32) (x : Vec Ideal S1x256x512 .f32) (r : Fin 256) (l : Fin 512) :
    k0_pay10 g (k0_pay6 x) (ix3 0 r l) = mom1 (g (ix2 r l)) (x (ix3 0 r l)) := by
  pointwise [k0_pay10, k0_pay7, k0_pay6]
  rfl

theorem pay11_apply (g : FVec Ideal S256x512 .f32) (v : Vec Ideal S1x256x512 .f32) (r : Fin 256) (l : Fin 512) :
    k0_pay11 g v (ix3 0 r l) = mom2 (g (ix2 r l)) (v (ix3 0 r l)) := by
  pointwise [k0_pay11, k0_pay8]
  rfl

theorem pay1_apply (g : FVec Ideal S256x512 .f32) (w x v : Vec Ideal S1x256x512 .f32) (r : Fin 256) (l : Fin 512) :
    k0_pay1 (k0_pay12 g (k0_pay6 x) v) (k0_pay13 w) (ix3 0 r l) = delta (g (ix2 r l)) (x (ix3 0 r l)) (v (ix3 0 r l)) (w (ix3 0 r l)) := by
  have h1 : (Named.named κ "scale1" 0x3FC48605#32 : Ideal .f32) = ((10000000000 / 6513215599 : ℝ) : EReal) :=
    IdealRules.named_const.ideal_named_scalar _ _ _ _ rfl
  have h2 : (Named.named κ "scale2" 0x42C8E6D3#32 : Ideal .f32) =
      ((1000000000000000000000000000000 / 9955119790251790119955009999 : ℝ) : EReal) :=
    IdealRules.named_const.ideal_named_scalar _ _ _ _ rfl
  have e1 : (10000000000 / 6513215599 : ℝ) = 1 / left1 := by norm_num
  have e2 : (1000000000000000000000000000000 / 9955119790251790119955009999 : ℝ) = 1 / left2 := by norm_num
  pointwise [k0_pay1, k0_pay12, k0_pay13, k0_pay8, k0_pay7, k0_pay6, h1, h2]
  unfold delta
  rw [e1, e2, Ideal.div_coe (by norm_num), Ideal.div_coe (by norm_num)]
  rfl

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)
theorem idx9 : ∀ t : Fin cfg0.N, win0_9.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)
theorem idx3 : ∀ t : Fin cfg0.N, t.val < 4 → win0_3.index t = ![0, t.val % 4, 0] := (by decide +kernel : ∀ t : Fin grid0.N, _)
theorem idx4 : ∀ t : Fin cfg0.N, t.val / 4 % 4 = 1 → win0_4.index t = ![0, t.val % 4, 0] := (by decide +kernel : ∀ t : Fin grid0.N, _)
theorem idx5 : ∀ t : Fin cfg0.N, t.val / 4 % 4 = 2 → win0_5.index t = ![0, t.val % 4, 0] := (by decide +kernel : ∀ t : Fin grid0.N, _)
theorem idx6 : ∀ t : Fin cfg0.N, 12 ≤ t.val → win0_6.index t = ![0, t.val % 4, 0] := (by decide +kernel : ∀ t : Fin grid0.N, _)

/-- The layer that a point is at, -/
abbrev layer (t : Fin cfg0.N) : Fin 4 := ⟨t.val / 4, by have : t.val < 16 := t.isLt; omega⟩

/-- and the row of the arrays that a row of its block is. -/
abbrev row (t : Fin cfg0.N) (r : Fin 256) : Fin 1024 := ⟨t.val % 4 * 256 + r.val, by omega⟩

variable (c : Dev nD)

abbrev W : Layers := m ((c : Thread nD τ).loc main_arg0)
abbrev X : Layers := m ((c : Thread nD τ).loc main_arg1)
abbrev U : Layers := m ((c : Thread nD τ).loc main_arg2)
abbrev Gr : Layers := grad (m ((c : Thread nD τ).loc main_arg3)) (m ((c : Thread nD τ).loc main_arg4)) (m ((c : Thread nD τ).loc main_arg5)) (m ((c : Thread nD τ).loc main_arg6))

/-- The gradient's block at a point. -/
def gblk (t : Fin cfg0.N) : FVec Ideal S256x512 .f32 :=
  if t.val < 4 then sum8 (iblk m c 3 t) else if t.val / 4 % 4 = 1 then sum8 (iblk m c 4 t)
  else if t.val / 4 % 4 = 2 then sum8 (iblk m c 5 t) else sum8 (iblk m c 6 t)

theorem gblk_apply (t : Fin cfg0.N) (r : Fin 256) (l : Fin 512) : gblk m c t (ix2 r l) = Gr m c (ix3 (layer t) (row t r) l) := by
  have ht : t.val < 16 := t.isLt
  change gblk m c t (ix2 r l) = if t.val / 4 = 0 then _ else if t.val / 4 = 1 then _ else if t.val / 4 = 2 then _ else _
  unfold gblk
  by_cases h0 : t.val < 4
  · rw [if_pos h0, if_pos (show t.val / 4 = 0 by omega), sum8_apply]
    refine Finset.sum_congr rfl fun n _ => ?_
    have e : (win0_3.blk t).view.emb (ix3 n r l) = ix3 n (row t r) l := by blk_ext [idx3 t h0]
    blk_simp [iblk, e]
    rfl
  by_cases h1 : t.val / 4 % 4 = 1
  · rw [if_neg h0, if_pos h1, if_neg (show ¬ t.val / 4 = 0 by omega), if_pos (show t.val / 4 = 1 by omega), sum8_apply]
    refine Finset.sum_congr rfl fun n _ => ?_
    have e : (win0_4.blk t).view.emb (ix3 n r l) = ix3 n (row t r) l := by blk_ext [idx4 t h1]
    blk_simp [iblk, e]
    rfl
  by_cases h2 : t.val / 4 % 4 = 2
  · rw [if_neg h0, if_neg h1, if_pos h2, if_neg (show ¬ t.val / 4 = 0 by omega), if_neg (show ¬ t.val / 4 = 1 by omega), if_pos (show t.val / 4 = 2 by omega), sum8_apply]
    refine Finset.sum_congr rfl fun n _ => ?_
    have e : (win0_5.blk t).view.emb (ix3 n r l) = ix3 n (row t r) l := by blk_ext [idx5 t h2]
    blk_simp [iblk, e]
    rfl
  have h3 : 12 ≤ t.val := by omega
  rw [if_neg h0, if_neg h1, if_neg h2, if_neg (show ¬ t.val / 4 = 0 by omega), if_neg (show ¬ t.val / 4 = 1 by omega), if_neg (show ¬ t.val / 4 = 2 by omega), sum8_apply]
  refine Finset.sum_congr rfl fun n _ => ?_
  have e : (win0_6.blk t).view.emb (ix3 n r l) = ix3 n (row t r) l := by blk_ext [idx6 t h3]
  blk_simp [iblk, e]
  rfl

theorem bw (t : Fin cfg0.N) (r : Fin 256) (l : Fin 512) : iblk m c 0 t (ix3 0 r l) = W m c (ix3 (layer t) (row t r) l) := by
  have e : (win0_0.blk t).view.emb (ix3 0 r l) = ix3 (layer t) (row t r) l := by blk_ext [idx0]
  blk_simp [iblk, e]

theorem bx (t : Fin cfg0.N) (r : Fin 256) (l : Fin 512) : iblk m c 1 t (ix3 0 r l) = X m c (ix3 (layer t) (row t r) l) := by
  have e : (win0_1.blk t).view.emb (ix3 0 r l) = ix3 (layer t) (row t r) l := by blk_ext [idx1]
  blk_simp [iblk, e]

theorem bu (t : Fin cfg0.N) (r : Fin 256) (l : Fin 512) : iblk m c 2 t (ix3 0 r l) = U m c (ix3 (layer t) (row t r) l) := by
  have e : (win0_2.blk t).view.emb (ix3 0 r l) = ix3 (layer t) (row t r) l := by blk_ext [idx2]
  blk_simp [iblk, e]

/-! ## What the points leave in the outputs' buffers, at whichever layer -/

theorem out (t : Fin cfg0.N) : outsAt0 m c t.val t.isLt = (k0_pay9 (gblk m c t),
    k0_pay1 (k0_pay12 (gblk m c t) (k0_pay6 (iblk m c 1 t)) (iblk m c 2 t)) (k0_pay13 (iblk m c 0 t)),
    k0_pay10 (gblk m c t) (k0_pay6 (iblk m c 1 t)), k0_pay11 (gblk m c t) (iblk m c 2 t)) := by
  have ht : t.val < 16 := t.isLt
  unfold gblk
  by_cases h0 : t.val < 4
  · rw [outsAt0_A m c t h0 (by omega) (by omega) (by omega), if_pos h0]
    refine Prod.ext ?_ (Prod.ext ?_ (Prod.ext ?_ ?_)) <;> (frame_out; rfl)
  by_cases h1 : t.val / 4 % 4 = 1
  · rw [outsAt0_B m c t h0 h1 (by omega) (by omega), if_neg h0, if_pos h1]
    refine Prod.ext ?_ (Prod.ext ?_ (Prod.ext ?_ ?_)) <;> (frame_out; rfl)
  by_cases h2 : t.val / 4 % 4 = 2
  · rw [outsAt0_C m c t h0 h1 h2 (by omega), if_neg h0, if_neg h1, if_pos h2]
    refine Prod.ext ?_ (Prod.ext ?_ (Prod.ext ?_ ?_)) <;> (frame_out; rfl)
  rw [outsAt0_D m c t h0 h1 h2 (by omega), if_neg h0, if_neg h1, if_neg h2]
  refine Prod.ext ?_ (Prod.ext ?_ (Prod.ext ?_ ?_)) <;> (frame_out; rfl)

/-! ## What the arrays hold -/

theorem final7 : (dats m 0 c).arrAt 7 cfg0.N = Gr m c := by
  refine (dats m 0 c).arrAt_eq_of_covers 7 _ (by decide +kernel) fun t hf y => ?_
  blk_simp
  rw [after0_7, out]
  obtain ⟨q, r, l, rfl⟩ : ∃ (q : Fin 1) (r : Fin 256) (l : Fin 512), y = ix3 q r l := ⟨y 0, y 1, y 2, (ix3_eta y).symm⟩
  obtain rfl : q = 0 := Subsingleton.elim _ _
  have e : (win0_7.blk t).view.emb (ix3 0 r l) = ix3 (layer t) (row t r) l := by blk_ext [idx7]
  erw [e]
  exact (pay9_apply _ r l).trans (gblk_apply m c t r l)

theorem final8 : (dats m 0 c).arrAt 8 cfg0.N = fun i => delta (Gr m c i) (X m c i) (U m c i) (W m c i) := by
  refine (dats m 0 c).arrAt_eq_of_covers 8 _ (by decide +kernel) fun t hf y => ?_
  blk_simp
  rw [after0_8, out]
  obtain ⟨q, r, l, rfl⟩ : ∃ (q : Fin 1) (r : Fin 256) (l : Fin 512), y = ix3 q r l := ⟨y 0, y 1, y 2, (ix3_eta y).symm⟩
  obtain rfl : q = 0 := Subsingleton.elim _ _
  have e : (win0_8.blk t).view.emb (ix3 0 r l) = ix3 (layer t) (row t r) l := by blk_ext [idx8]
  erw [e]
  refine (pay1_apply _ _ _ _ r l).trans ?_
  simp only [gblk_apply, bw, bx, bu]

theorem final9 : (dats m 0 c).arrAt 9 cfg0.N = fun i => mom1 (Gr m c i) (X m c i) := by
  refine (dats m 0 c).arrAt_eq_of_covers 9 _ (by decide +kernel) fun t hf y => ?_
  blk_simp
  rw [after0_9, out]
  obtain ⟨q, r, l, rfl⟩ : ∃ (q : Fin 1) (r : Fin 256) (l : Fin 512), y = ix3 q r l := ⟨y 0, y 1, y 2, (ix3_eta y).symm⟩
  obtain rfl : q = 0 := Subsingleton.elim _ _
  have e : (win0_9.blk t).view.emb (ix3 0 r l) = ix3 (layer t) (row t r) l := by blk_ext [idx9]
  erw [e]
  refine (pay10_apply _ _ r l).trans ?_
  simp only [gblk_apply, bx]

theorem final10 : (dats m 0 c).arrAt 10 cfg0.N = fun i => mom2 (Gr m c i) (U m c i) := by
  refine (dats m 0 c).arrAt_eq_of_covers 10 _ (by decide +kernel) fun t hf y => ?_
  blk_simp
  rw [after0_10, out]
  obtain ⟨q, r, l, rfl⟩ : ∃ (q : Fin 1) (r : Fin 256) (l : Fin 512), y = ix3 q r l := ⟨y 0, y 1, y 2, (ix3_eta y).symm⟩
  obtain rfl : q = 0 := Subsingleton.elim _ _
  have e : (win0_10.blk t).view.emb (ix3 0 r l) = ix3 (layer t) (row t r) l := by blk_ext [idx10]
  erw [e]
  refine (pay11_apply _ _ r l).trans ?_
  simp only [gblk_apply, bu]

end

/-! ## The reference -/

section
open Cert.Reference22Ideal Cert.Reference22Ideal.Gen Cert.Reference22Ideal.Value

variable (m : (ℓ : Loc nD τ sig) → Buf (Elt Ideal) ℓ) (c : Dev nD)

theorem ref_grad (q : Fin 4) (r : Fin 1024) (l : Fin 512) : (V m c main_v12 : Layers) (ix3 q r l) =
    grad (m ((c : Thread nD τ).loc main_arg3)) (m ((c : Thread nD τ).loc main_arg4)) (m ((c : Thread nD τ).loc main_arg5)) (m ((c : Thread nD τ).loc main_arg6)) (ix3 q r l) := by
  after_reads_at
  change _ = if q.val = 0 then _ else if q.val = 1 then _ else if q.val = 2 then _ else _
  obtain ⟨q, hq⟩ := q
  dsimp only
  by_cases h0 : q = 0
  · rw [dif_pos (by omega), if_pos h0]
    after_reads_at
  by_cases h1 : q = 1
  · rw [dif_neg (by omega), dif_pos (by omega), if_neg h0, if_pos h1]
    after_reads_at
  by_cases h2 : q = 2
  · rw [dif_neg (by omega), dif_neg (by omega), dif_pos (by omega), if_neg h0, if_neg h1, if_pos h2]
    after_reads_at
  rw [dif_neg (by omega), dif_neg (by omega), dif_neg (by omega), if_neg h0, if_neg h1, if_neg h2]
  after_reads_at

theorem ref_stack : (V m c main_v12 : Layers) =
    grad (m ((c : Thread nD τ).loc main_arg3)) (m ((c : Thread nD τ).loc main_arg4)) (m ((c : Thread nD τ).loc main_arg5)) (m ((c : Thread nD τ).loc main_arg6)) := by
  funext i
  obtain ⟨q, r, l, rfl⟩ : ∃ (q : Fin 4) (r : Fin 1024) (l : Fin 512), i = ix3 q r l := ⟨i 0, i 1, i 2, (ix3_eta i).symm⟩
  exact ref_grad m c q r l

theorem rpay2 (g x : Vec Ideal S4x1024x512 .f32) (i : S4x1024x512.Idx) : k0_pay2 g x i = mom1 (g i) (x i) := by
  pointwise [k0_pay2, k0_pay1]
  rfl

theorem rpay3 (g v : Vec Ideal S4x1024x512 .f32) (i : S4x1024x512.Idx) : k0_pay3 g v i = mom2 (g i) (v i) := by
  pointwise [k0_pay3, k0_pay1]
  rfl

theorem rpay4 (g x v w : Vec Ideal S4x1024x512 .f32) (i : S4x1024x512.Idx) : k0_pay4 g x v w i = delta (g i) (x i) (v i) (w i) := by
  have h1 : (Named.named κ "left1" 0x3F26BD02#32 : Ideal .f32) = ((left1 : ℝ) : EReal) := IdealRules.named_const.ideal_named_scalar _ _ _ _ rfl
  have h2 : (Named.named κ "left2" 0x3C231ACC#32 : Ideal .f32) = ((left2 : ℝ) : EReal) := IdealRules.named_const.ideal_named_scalar _ _ _ _ rfl
  pointwise [k0_pay4, rpay2, rpay3, h1, h2]
  rfl

theorem ridx0 : ∀ t : Fin cfg0.N, win0_0.index t = ![0, 0, 0] := by decide +kernel
theorem ridx1 : ∀ t : Fin cfg0.N, win0_1.index t = ![0, 0, 0] := by decide +kernel
theorem ridx2 : ∀ t : Fin cfg0.N, win0_2.index t = ![0, 0, 0] := by decide +kernel
theorem ridx3 : ∀ t : Fin cfg0.N, win0_3.index t = ![0, 0, 0] := by decide +kernel
theorem ridx4 : ∀ t : Fin cfg0.N, win0_4.index t = ![0, 0, 0] := by decide +kernel
theorem ridx5 : ∀ t : Fin cfg0.N, win0_5.index t = ![0, 0, 0] := by decide +kernel
theorem ridx6 : ∀ t : Fin cfg0.N, win0_6.index t = ![0, 0, 0] := by decide +kernel
theorem ridx7 : ∀ t : Fin cfg0.N, win0_7.index t = ![0, 0, 0] := by decide +kernel

theorem rblk0 (t : Fin cfg0.N) : (iblk m c 0 t : Layers) = V m c main_arg0 := by
  funext i
  have e : (win0_0.blk t).view.emb i = i := by blk_ext [ridx0]
  blk_simp [iblk, e]

theorem rblk1 (t : Fin cfg0.N) : (iblk m c 1 t : Layers) = V m c main_v12 := by
  funext i
  have e : (win0_1.blk t).view.emb i = i := by blk_ext [ridx1]
  blk_simp [iblk, e]

theorem rblk2 (t : Fin cfg0.N) : (iblk m c 2 t : Layers) = V m c main_arg1 := by
  funext i
  have e : (win0_2.blk t).view.emb i = i := by blk_ext [ridx2]
  blk_simp [iblk, e]

theorem rblk3 (t : Fin cfg0.N) : (iblk m c 3 t : Layers) = V m c main_arg2 := by
  funext i
  have e : (win0_3.blk t).view.emb i = i := by blk_ext [ridx3]
  blk_simp [iblk, e]

theorem ref4 : (dats m 0 c).arrAt 4 cfg0.N = fun i => (V m c main_v12 : Layers) i := by
  refine (dats m 0 c).arrAt_eq_of_covers 4 _ (by decide +kernel) fun t hf y => ?_
  blk_simp
  rw [after0_4]
  frame_out
  have e : (win0_4.blk t).view.emb y = y := by blk_ext [ridx4]
  erw [e]
  rw [rblk1]
  pointwise [k0_pay1]

theorem ref5 : (dats m 0 c).arrAt 5 cfg0.N = fun i => delta ((V m c main_v12 : Layers) i) (m ((c : Thread nD τ).loc main_arg1) i) (m ((c : Thread nD τ).loc main_arg2) i) (m ((c : Thread nD τ).loc main_arg0) i) := by
  refine (dats m 0 c).arrAt_eq_of_covers 5 _ (by decide +kernel) fun t hf y => ?_
  blk_simp
  rw [after0_5]
  frame_out
  have e : (win0_5.blk t).view.emb y = y := by blk_ext [ridx5]
  erw [e]
  rw [rpay4, rblk0, rblk1, rblk2, rblk3, V_main_arg0, V_main_arg1, V_main_arg2]

theorem ref6 : (dats m 0 c).arrAt 6 cfg0.N = fun i => mom1 ((V m c main_v12 : Layers) i) (m ((c : Thread nD τ).loc main_arg1) i) := by
  refine (dats m 0 c).arrAt_eq_of_covers 6 _ (by decide +kernel) fun t hf y => ?_
  blk_simp
  rw [after0_6]
  frame_out
  have e : (win0_6.blk t).view.emb y = y := by blk_ext [ridx6]
  erw [e]
  rw [rpay2, rblk1, rblk2, V_main_arg1]

theorem ref7 : (dats m 0 c).arrAt 7 cfg0.N = fun i => mom2 ((V m c main_v12 : Layers) i) (m ((c : Thread nD τ).loc main_arg2) i) := by
  refine (dats m 0 c).arrAt_eq_of_covers 7 _ (by decide +kernel) fun t hf y => ?_
  blk_simp
  rw [after0_7]
  frame_out
  have e : (win0_7.blk t).view.emb y = y := by blk_ext [ridx7]
  erw [e]
  rw [rpay3, rblk1, rblk3, V_main_arg2]

end

/-- The constants' names, and the values that they stand for. -/
theorem preserves : Cert.preserves_Kernel22_Kernel22Ideal :=
  ⟨IdealRules.named_const.statement _ _ _ _ _ rfl, IdealRules.named_const.statement _ _ _ _ _ rfl⟩

set_option maxHeartbeats 800000 in
/-- The kernel's four arrays are the summed gradient, the step and the two averages. -/
theorem algebraic : Cert.algebraic_Kernel22Ideal_Reference22Ideal := by
  pair_intro
  · run_from (Cert.Kernel22Ideal.Value.run_blocks m g)
  · run_from Cert.Reference22Ideal.Value.run_blocks m' g'
    all_goals obtain ⟨e0, e1, e2, e3, e4, e5, e6⟩ := hagree c
    · rw [ref4, final7, ref_stack, e3, e4, e5, e6]
      rfl
    · rw [ref5, final8, ref_stack, e0, e1, e2, e3, e4, e5, e6]
      rfl
    · rw [ref6, final9, ref_stack, e1, e3, e4, e5, e6]
      rfl
    · rw [ref7, final10, ref_stack, e2, e3, e4, e5, e6]
      rfl

end Cert.Adam
-- ==== Proof.lean ====
/- The certificate: every frame, and for each gradient the theorem that the kernel computes what the reference computes. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Frame
public import proofs.«01_k».proof.Proof.Gen.Reference3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Frame
public import proofs.«01_k».proof.Proof.Gen.Reference22Ideal.Value
public import proofs.«01_k».proof.Proof.Gen.Pre_finite_gelu
public import proofs.«01_k».proof.Proof.Gen.Pre_finite_norm
public import proofs.«01_k».proof.Proof.Gen.Pre_finite_gated
public import proofs.«01_k».proof.Proof.Gen.Pre_finite_loss
public import proofs.«01_k».proof.Proof.Gen.Pre_finite_sg
public import proofs.«01_k».proof.Proof.Gen.Pre_finite_gated_chunks
public import proofs.«01_k».proof.Proof.ConvRef
public import proofs.«01_k».proof.Proof.Glu
public import proofs.«01_k».proof.Proof.Gelu
public import proofs.«01_k».proof.Proof.Relu2
public import proofs.«01_k».proof.Proof.NormRef
public import proofs.«01_k».proof.Proof.GatedRef
public import proofs.«01_k».proof.Proof.LossRef
public import proofs.«01_k».proof.Proof.SgRef
public import proofs.«01_k».proof.Proof.SgFwd
public import proofs.«01_k».proof.Proof.ConvFwd
public import proofs.«01_k».proof.Proof.NormFwd
public import proofs.«01_k».proof.Proof.MixFwd
public import proofs.«01_k».proof.Proof.FfFwd
public import proofs.«01_k».proof.Proof.GluFwd
public import proofs.«01_k».proof.Proof.ReluFwd
public import proofs.«01_k».proof.Proof.GatedChunks
public import proofs.«01_k».proof.Proof.InFwd
public import proofs.«01_k».proof.Proof.UpGrad
public import proofs.«01_k».proof.Proof.DownGrad
public import proofs.«01_k».proof.Proof.Adam
public import Idealize.ShloMosaic.Adequacy
public import Idealize.ShloMosaic.Init

@[expose] public section

noncomputable section

namespace Cert.Proof

open Idealize Idealize.ShloMosaic Idealize.SL.Sem

/-! The references leave their arguments as they were. -/

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

theorem frame_reference10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)

theorem frame_reference16 : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem frame_reference18 : Cert.quiescent_Reference18Ideal := fun m ρ _ =>
  (θ_run Cert.Reference18Ideal.defs _ _).mono (fun r h => ⟨fun c => (h c).2.2.2,
      Idealize.ShloMosaic.sem_eq_zero_of_no_sems (by decide) r.2⟩)
    (Cert.Reference18Ideal.Value.run (F := Ideal) m ρ)

theorem frame_reference19 : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

theorem frame_reference20 : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

theorem frame_reference21 : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

/-- Everything the certificate claims. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Pre_finite_gelu.Gen.facts,
    Cert.Pre_finite_norm.Gen.facts,
    Cert.Pre_finite_gated.Gen.facts,
    Cert.Pre_finite_loss.Gen.facts,
    Cert.Pre_finite_sg.Gen.facts,
    Cert.Pre_finite_gated_chunks.Gen.facts,
    fun m ρ _ => Cert.Kernel.Gen.frame m ρ,
    fun m ρ _ => Cert.KernelIdeal.Gen.frame m ρ,
    frame_reference,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    fun m ρ _ => Cert.Kernel3Ideal.Gen.frame m ρ,
    fun m ρ _ => Cert.Reference3Ideal.Gen.frame m ρ,
    fun m ρ _ => Cert.Reference3Ideal.Gen.frame m ρ,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    fun m ρ _ => Cert.Kernel6.Gen.frame m ρ,
    fun m ρ _ => Cert.Kernel6Ideal.Gen.frame m ρ,
    fun m ρ _ => Cert.Kernel6Ideal.Gen.frame m ρ,
    frame_reference6,
    fun m ρ _ => frame_reference6 m ρ trivial,
    fun m ρ _ => Cert.Kernel7.Gen.frame m ρ,
    fun m ρ _ => Cert.Kernel7Ideal.Gen.frame m ρ,
    fun m ρ _ => Cert.Kernel7Ideal.Gen.frame m ρ,
    frame_reference7,
    fun m ρ _ => frame_reference7 m ρ trivial,
    fun m ρ _ => Cert.Kernel8.Gen.frame m ρ,
    fun m ρ _ => Cert.Kernel8Ideal.Gen.frame m ρ,
    fun m ρ _ => Cert.Kernel8Ideal.Gen.frame m ρ,
    frame_reference8,
    fun m ρ _ => frame_reference8 m ρ trivial,
    fun m ρ _ => Cert.Kernel9.Gen.frame m ρ,
    fun m ρ _ => Cert.Kernel9Ideal.Gen.frame m ρ,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    fun m ρ _ => Cert.Kernel18.Gen.frame m ρ,
    fun m ρ _ => Cert.Kernel18Ideal.Gen.frame m ρ,
    fun m ρ _ => Cert.Kernel18Ideal.Gen.frame m ρ,
    frame_reference18,
    fun m ρ _ => frame_reference18 m ρ trivial,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    fun m ρ _ => Cert.Reference22Ideal.Gen.frame m ρ,
    trivial,
    Cert.Conv.algebraic,
    trivial,
    Cert.Glu.algebraic,
    Cert.Gelu.preserves,
    Cert.Gelu.algebraic,
    trivial,
    Cert.Relu2.algebraic,
    trivial,
    Cert.Norm.algebraic,
    trivial,
    Cert.Gated.algebraic,
    trivial,
    Cert.Loss.algebraic,
    trivial,
    Cert.Sg.algebraic,
    trivial,
    trivial,
    Cert.SgFwd.algebraic,
    trivial,
    Cert.ConvFwd.algebraic,
    trivial,
    Cert.NormFwd.algebraic,
    trivial,
    Cert.MixFwd.algebraic,
    trivial,
    Cert.FfFwd.algebraic,
    trivial,
    Cert.GluFwd.algebraic,
    trivial,
    Cert.ReluFwd.algebraic,
    trivial,
    trivial,
    Cert.GatedChunks.algebraic,
    trivial,
    Cert.InFwd.algebraic,
    trivial,
    Cert.UpGrad.algebraic,
    trivial,
    Cert.DownGrad.algebraic,
    Cert.Adam.preserves,
    Cert.Adam.algebraic⟩

end Cert.Proof

end
